-- ==== Defs.lean ====
def Pre_Kernel [hPre_selects_a_candidate : Cert.Pre_selects_a_candidate.Facts] (m : (ℓ : Loc Cert.Kernel.nD Cert.Kernel.τ Cert.Kernel.sig) → Buf (Elt Bits) ℓ) : Prop :=
  ∀ c : Dev Cert.Kernel.nD,
    (Cert.Pre_selects_a_candidate.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_selects_a_candidate : Cert.Pre_selects_a_candidate.Facts] (m : (ℓ : Loc Cert.KernelIdeal.nD Cert.KernelIdeal.τ Cert.KernelIdeal.sig) → Buf (Elt Ideal) ℓ) : Prop :=
  ∀ c : Dev Cert.KernelIdeal.nD,
    (Cert.Pre_selects_a_candidate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_scales_are_not_zero [hPre_scales_are_not_zero : Cert.Pre_scales_are_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_not_zero [hPre_scales_are_not_zero : Cert.Pre_scales_are_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_selects_a_candidate : Cert.Pre_selects_a_candidate.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_selects_a_candidate : Cert.Pre_selects_a_candidate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_are_not_zero [hKernelIdeal : Cert.KernelIdeal.Facts] [hPre_scales_are_not_zero : Cert.Pre_scales_are_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_are_not_zero [hReferenceIdeal : Cert.ReferenceIdeal.Facts] [hPre_scales_are_not_zero : Cert.Pre_scales_are_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_are_not_zero [hKernelIdeal : Cert.KernelIdeal.Facts] [hReferenceIdeal : Cert.ReferenceIdeal.Facts] [hPre_scales_are_not_zero : Cert.Pre_scales_are_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_selects_a_candidate : Cert.Pre_selects_a_candidate.Facts) (hPre_scales_are_not_zero : Cert.Pre_scales_are_not_zero.Facts),
    quiescent_Kernel (hKernel := hKernel) (hPre_selects_a_candidate := hPre_selects_a_candidate)
    ∧ quiescent_KernelIdeal (hKernelIdeal := hKernelIdeal) (hPre_selects_a_candidate := hPre_selects_a_candidate)
    ∧ quiescent_KernelIdeal_pre_scales_are_not_zero (hKernelIdeal := hKernelIdeal) (hPre_scales_are_not_zero := hPre_scales_are_not_zero)
    ∧ quiescent_ReferenceIdeal (hReferenceIdeal := hReferenceIdeal)
    ∧ quiescent_ReferenceIdeal_pre_scales_are_not_zero (hReferenceIdeal := hReferenceIdeal) (hPre_scales_are_not_zero := hPre_scales_are_not_zero)
    ∧ preserves_Kernel_KernelIdeal
    ∧ algebraic_KernelIdeal_ReferenceIdeal_pre_scales_are_not_zero (hKernelIdeal := hKernelIdeal) (hReferenceIdeal := hReferenceIdeal) (hPre_scales_are_not_zero := hPre_scales_are_not_zero)
-- ==== Pre_scales_are_not_zero.lean ====
abbrev S1 : Shape := ⟨1, ![1]⟩
abbrev S14x40 : Shape := ⟨2, ![14, 40]⟩
abbrev S1792x5120 : Shape := ⟨2, ![1792, 5120]⟩
abbrev S5120x5120 : Shape := ⟨2, ![5120, 5120]⟩
abbrev S20x1x5120 : Shape := ⟨3, ![20, 1, 5120]⟩
abbrev S5120 : Shape := ⟨1, ![5120]⟩
abbrev S_ : Shape := ⟨0, ![]⟩
abbrev S1x1x1 : Shape := ⟨3, ![1, 1, 1]⟩

class Facts : Prop where
  bcast_S_S1 : S_.BroadcastsInDim S1 (![] : Fin 0 → Fin S1.rank)
  bcast_S_S20x1x5120 : S_.BroadcastsInDim S20x1x5120 (![] : Fin 0 → Fin S20x1x5120.rank)
  bcast_S1_S1x1x1_2 : S1.BroadcastsInDim S1x1x1 (![2] : Fin 1 → Fin S1x1x1.rank)
  bcast_S1x1x1_S20x1x5120_0_1_2 : S1x1x1.BroadcastsInDim S20x1x5120 (![0, 1, 2] : Fin 3 → Fin S20x1x5120.rank)

variable [Facts]

def fn {F : FTy → Type} [FloatOps F] (main_arg0 : IVec S1 32) (main_arg1 : FVec F S14x40 .f32) (main_arg2 : FVec F S1792x5120 .fp8e4m3) (main_arg3 : FVec F S5120x5120 .bf16) (main_arg4 : FVec F S20x1x5120 .f32) (main_arg5 : FVec F S5120 .f32) : IVec S20x1x5120 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 20#32
  let main_v2 : IVec S1 32 := broadcastInDim S1 ![] bcast_S_S1 main_c_0
  let main_v3 : IVec S1 1 := cmpi .slt main_arg0 main_v2
  let main_v4 : IVec S1 1 := andi main_v1 main_v3
  let main_cst : FVec F S_ .f32 := constant S_ .f32 0x00000000#32
  let main_v5 : FVec F S20x1x5120 .f32 := broadcastInDim S20x1x5120 ![] bcast_S_S20x1x5120 main_cst
  let main_v6 : IVec S20x1x5120 1 := cmpf .une main_arg4 main_v5
  let main_v7 : IVec S1x1x1 1 := broadcastInDim S1x1x1 ![2] bcast_S1_S1x1x1_2 main_v4
  let main_v8 : IVec S20x1x5120 1 := broadcastInDim S20x1x5120 ![0, 1, 2] bcast_S1x1x1_S20x1x5120_0_1_2 main_v7
  let main_v9 : IVec S20x1x5120 1 := andi main_v8 main_v6
  main_v9
-- ==== Pre_selects_a_candidate.lean ====
abbrev S1 : Shape := ⟨1, ![1]⟩
abbrev S14x40 : Shape := ⟨2, ![14, 40]⟩
abbrev S1792x5120 : Shape := ⟨2, ![1792, 5120]⟩
abbrev S5120x5120 : Shape := ⟨2, ![5120, 5120]⟩
abbrev S20x1x5120 : Shape := ⟨3, ![20, 1, 5120]⟩
abbrev S5120 : Shape := ⟨1, ![5120]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S14x40 .f32) (main_arg2 : FVec F S1792x5120 .fp8e4m3) (main_arg3 : FVec F S5120x5120 .bf16) (main_arg4 : FVec F S20x1x5120 .f32) (main_arg5 : FVec F S5120 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 20#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S1 : Shape := ⟨1, ![1]⟩
abbrev S14x40 : Shape := ⟨2, ![14, 40]⟩
abbrev S1792x5120 : Shape := ⟨2, ![1792, 5120]⟩
abbrev S5120x5120 : Shape := ⟨2, ![5120, 5120]⟩
abbrev S20x1x5120 : Shape := ⟨3, ![20, 1, 5120]⟩
abbrev S5120 : Shape := ⟨1, ![5120]⟩
abbrev S_ : Shape := ⟨0, ![]⟩
abbrev S1x5120 : Shape := ⟨2, ![1, 5120]⟩
abbrev S20 : Shape := ⟨1, ![20]⟩
abbrev S20x128 : Shape := ⟨2, ![20, 128]⟩
abbrev S20x1792 : Shape := ⟨2, ![20, 1792]⟩
abbrev S1792x128 : Shape := ⟨2, ![1792, 128]⟩
abbrev S896x5120 : Shape := ⟨2, ![896, 5120]⟩
abbrev S896x512 : Shape := ⟨2, ![896, 512]⟩
abbrev S5120x512 : Shape := ⟨2, ![5120, 512]⟩
abbrev S896x128 : Shape := ⟨2, ![896, 128]⟩
abbrev S1x1 : Shape := ⟨2, ![1, 1]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x512 : Shape := ⟨2, ![1, 512]⟩
abbrev S128x896 : Shape := ⟨2, ![128, 896]⟩
abbrev S896 : Shape := ⟨1, ![896]⟩
abbrev S1x896 : Shape := ⟨2, ![1, 896]⟩
abbrev S20x1280 : Shape := ⟨2, ![20, 1280]⟩
abbrev S20x1 : Shape := ⟨2, ![20, 1]⟩
abbrev S20x256 : Shape := ⟨2, ![20, 256]⟩

abbrev nBuf : Space → Nat
  | .hbm => 34
  | .vmem => 21
  | .smem => 2
  | _ => 0

abbrev bufTy : (tb : Table) → Fin (tcTables nBuf tb) → BufTy
  | .hbm, ⟨0, _⟩ => ⟨S1, .i32⟩
  | .hbm, ⟨1, _⟩ => ⟨S14x40, .f32⟩
  | .hbm, ⟨2, _⟩ => ⟨S1792x5120, .fp8e4m3⟩
  | .hbm, ⟨3, _⟩ => ⟨S5120x5120, .bf16⟩
  | .hbm, ⟨4, _⟩ => ⟨S20x1x5120, .f32⟩
  | .hbm, ⟨5, _⟩ => ⟨S5120, .f32⟩
  | .hbm, ⟨6, _⟩ => ⟨S_, .f32⟩
  | .hbm, ⟨7, _⟩ => ⟨S20x1x5120, .f32⟩
  | .hbm, ⟨8, _⟩ => ⟨S20x1x5120, .f32⟩
  | .hbm, ⟨9, _⟩ => ⟨S1x5120, .f32⟩
  | .hbm, ⟨10, _⟩ => ⟨S_, .f32⟩
  | .hbm, ⟨11, _⟩ => ⟨S1x5120, .f32⟩
  | .hbm, ⟨12, _⟩ => ⟨S1x5120, .f32⟩
  | .hbm, ⟨13, _⟩ => ⟨S_, .f32⟩
  | .hbm, ⟨14, _⟩ => ⟨S1x5120, .f32⟩
  | .hbm, ⟨15, _⟩ => ⟨S1x5120, .f32⟩
  | .hbm, ⟨16, _⟩ => ⟨S_, .i32⟩
  | .hbm, ⟨17, _⟩ => ⟨S20, .i32⟩
  | .hbm, ⟨18, _⟩ => ⟨S_, .i32⟩
  | .hbm, ⟨19, _⟩ => ⟨S20, .i32⟩
  | .hbm, ⟨20, _⟩ => ⟨S20, .i1⟩
  | .hbm, ⟨21, _⟩ => ⟨S20, .i32⟩
  | .hbm, ⟨22, _⟩ => ⟨S20, .i1⟩
  | .hbm, ⟨23, _⟩ => ⟨S_, .i32⟩
  | .hbm, ⟨24, _⟩ => ⟨S20, .i32⟩
  | .hbm, ⟨25, _⟩ => ⟨S20, .i32⟩
  | .hbm, ⟨26, _⟩ => ⟨S20, .i32⟩
  | .hbm, ⟨27, _⟩ => ⟨S20, .i32⟩
  | .hbm, ⟨28, _⟩ => ⟨S20x128, .f32⟩
  | .hbm, ⟨29, _⟩ => ⟨S20x1792, .f32⟩
  | .hbm, ⟨30, _⟩ => ⟨S1792x5120, .bf16⟩
  | .hbm, ⟨31, _⟩ => ⟨S1792x5120, .i8⟩
  | .hbm, ⟨32, _⟩ => ⟨S1792x128, .f32⟩
  | .hbm, ⟨33, _⟩ => ⟨S1792x128, .f32⟩
  | .local _ .vmem, ⟨0, _⟩ => ⟨S896x5120, .fp8e4m3⟩
  | .local _ .vmem, ⟨1, _⟩ => ⟨S896x512, .fp8e4m3⟩
  | .local _ .vmem, ⟨2, _⟩ => ⟨S896x512, .fp8e4m3⟩
  | .local _ .vmem, ⟨3, _⟩ => ⟨S5120x512, .bf16⟩
  | .local _ .vmem, ⟨4, _⟩ => ⟨S5120x512, .bf16⟩
  | .local _ .vmem, ⟨5, _⟩ => ⟨S20x1x5120, .f32⟩
  | .local _ .vmem, ⟨6, _⟩ => ⟨S20x1x5120, .f32⟩
  | .local _ .vmem, ⟨7, _⟩ => ⟨S1x5120, .f32⟩
  | .local _ .vmem, ⟨8, _⟩ => ⟨S20x128, .f32⟩
  | .local _ .vmem, ⟨9, _⟩ => ⟨S20x1792, .f32⟩
  | .local _ .vmem, ⟨10, _⟩ => ⟨S896x512, .bf16⟩
  | .local _ .vmem, ⟨11, _⟩ => ⟨S896x512, .bf16⟩
  | .local _ .vmem, ⟨12, _⟩ => ⟨S896x512, .i8⟩
  | .local _ .vmem, ⟨13, _⟩ => ⟨S896x512, .i8⟩
  | .local _ .vmem, ⟨14, _⟩ => ⟨S896x128, .f32⟩
  | .local _ .vmem, ⟨15, _⟩ => ⟨S896x128, .f32⟩
  | .local _ .vmem, ⟨16, _⟩ => ⟨S896x128, .f32⟩
  | .local _ .vmem, ⟨17, _⟩ => ⟨S896x128, .f32⟩
  | .local _ .vmem, ⟨18, _⟩ => ⟨S896x5120, .bf16⟩
  | .local _ .vmem, ⟨19, _⟩ => ⟨S896x5120, .bf16⟩
  | .local _ .vmem, ⟨20, _⟩ => ⟨S896x128, .f32⟩
  | .local _ .smem, ⟨0, _⟩ => ⟨S20, .i32⟩
  | .local _ .smem, ⟨1, _⟩ => ⟨S14x40, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v16 : Ref sig .tc := ⟨.smem, 0, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![40, 10], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_20 : BitVec 32 := 0#32
  let c10_i32 : BitVec 32 := 10#32
  let v39 : BitVec 32 := Scalar.addi c0_i32_20 c10_i32
  let c1_i32_21 : BitVec 32 := 1#32
  ⟨c0_i32_20, v39, c1_i32_21⟩
def k0_mult1 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32 : BitVec 32 := 512#32
  let v40 : BitVec 32 := Scalar.muli arg19 c512_i32
  v40
def k0_mult2 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  v43
def k0_off1 (k0_t1 : Fin k0_t1_loop.trips) : Fin 2 → Nat :=
  let c0_25 : Index := 0#32
  let c0_i32_20 : BitVec 32 := 0#32
  let c1_i32_21 : BitVec 32 := 1#32
  let arg19 : BitVec 32 := Scf.iv c0_i32_20 c1_i32_21 k0_t1
  let c4_i32 : BitVec 32 := 4#32
  let v45 : BitVec 32 := Scalar.muli arg19 c4_i32
  let c0_i32_24 : BitVec 32 := 0#32
  let v46 : BitVec 32 := Scalar.addi v45 c0_i32_24
  let v47 : Index := Scalar.indexCast v46
  ![0, v47.toNat]
def k0_mult3 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c0_i32_26 : BitVec 32 := 0#32
  let v49 : BitVec 32 := Scalar.addi v44 c0_i32_26
  v49
def k0_off2 (k0_t1 : Fin k0_t1_loop.trips) (v42 : BitVec 32) (c0_i32_26 : BitVec 32) : Fin 3 → Nat :=
  let v51 : Index := Scalar.indexCast v42
  let c0_27 : Index := 0#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v49 : BitVec 32 := Scalar.addi v44 c0_i32_26
  let v50 : BitVec 32 := v49
  let v52 : Index := Scalar.indexCast v50
  ![v51.toNat, 0, v52.toNat]

def k0_chk1 (i : grid0.Coords) (k0_t1 : Fin k0_t1_loop.trips) (v42 : BitVec 32) : Prop :=
  (∀ (k0_h1 : k0_cond1 i = 1#1), ∀ (r : Fin 4), ∀ a, (k0_off2 k0_t1 v42 (BitVec.ofNat 32 (128 * r.val))) a + S1x1x128.size a ≤ S20x1x5120.size a)
theorem k0_off2_inb : ∀ (i : grid0.Coords) (k0_t1 : Fin k0_t1_loop.trips) (v42 : BitVec 32) (k0_hw1 : k0_chk1 i k0_t1 v42), ∀ (k0_h1 : k0_cond1 i = 1#1), ∀ (r : Fin 4), ∀ a, (k0_off2 k0_t1 v42 (BitVec.ofNat 32 (128 * r.val))) a + S1x1x128.size a ≤ S20x1x5120.size a := fun i k0_t1 v42 k0_hw1 k0_h1 r => k0_hw1 k0_h1 r

def k0_off3 (k0_t1 : Fin k0_t1_loop.trips) : Fin 2 → Nat :=
  let c0_i32_29 : BitVec 32 := 0#32
  let c0_i32_20 : BitVec 32 := 0#32
  let c1_i32_21 : BitVec 32 := 1#32
  let arg19 : BitVec 32 := Scf.iv c0_i32_20 c1_i32_21 k0_t1
  let c512_i32 : BitVec 32 := 512#32
  let v40 : BitVec 32 := Scalar.muli arg19 c512_i32
  let v41 : BitVec 32 := v40
  ![0, v41.toNat]
def k0_off4 (k0_t1 : Fin k0_t1_loop.trips) (c0_i32_26 : BitVec 32) : Fin 2 → Nat :=
  let c0_41 : Index := 0#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v49 : BitVec 32 := Scalar.addi v44 c0_i32_26
  let v50 : BitVec 32 := v49
  let v104 : Index := Scalar.indexCast v50
  ![0, v104.toNat]
def k0_off5 (k0_t1 : Fin k0_t1_loop.trips) (c1_i32_43 : BitVec 32) : Fin 2 → Nat :=
  let c0_44 : Index := 0#32
  let c0_i32_20 : BitVec 32 := 0#32
  let c1_i32_21 : BitVec 32 := 1#32
  let arg19 : BitVec 32 := Scf.iv c0_i32_20 c1_i32_21 k0_t1
  let c4_i32_42 : BitVec 32 := 4#32
  let v108 : BitVec 32 := Scalar.muli arg19 c4_i32_42
  let v109 : BitVec 32 := Scalar.addi v108 c1_i32_43
  let v110 : Index := Scalar.indexCast v109
  ![0, v110.toNat]
def k0_mult4 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c128_i32 : BitVec 32 := 128#32
  let v112 : BitVec 32 := Scalar.addi v44 c128_i32
  v112
def k0_mult5 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c256_i32 : BitVec 32 := 256#32
  let v175 : BitVec 32 := Scalar.addi v44 c256_i32
  v175
def k0_mult6 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c384_i32 : BitVec 32 := 384#32
  let v238 : BitVec 32 := Scalar.addi v44 c384_i32
  v238
def k0_off6 (k0_t1 : Fin k0_t1_loop.trips) (c0_i32_96 : BitVec 32) : Fin 2 → Nat :=
  let c1 : Index := 1#32
  let c0_i32_20 : BitVec 32 := 0#32
  let c1_i32_21 : BitVec 32 := 1#32
  let arg19 : BitVec 32 := Scf.iv c0_i32_20 c1_i32_21 k0_t1
  let c4_i32_95 : BitVec 32 := 4#32
  let v297 : BitVec 32 := Scalar.muli arg19 c4_i32_95
  let v298 : BitVec 32 := Scalar.addi v297 c0_i32_96
  let v299 : Index := Scalar.indexCast v298
  ![1, v299.toNat]
def k0_mult7 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c0_i32_97 : BitVec 32 := 0#32
  let v301 : BitVec 32 := Scalar.addi v44 c0_i32_97
  v301
def k0_off7 (k0_t1 : Fin k0_t1_loop.trips) (c0_i32_97 : BitVec 32) : Fin 2 → Nat :=
  let c128_113 : Index := 128#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v301 : BitVec 32 := Scalar.addi v44 c0_i32_97
  let v302 : BitVec 32 := v301
  let v356 : Index := Scalar.indexCast v302
  ![128, v356.toNat]
def k0_mult8 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c128_i32_117 : BitVec 32 := 128#32
  let v364 : BitVec 32 := Scalar.addi v44 c128_i32_117
  v364
def k0_mult9 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c256_i32_137 : BitVec 32 := 256#32
  let v427 : BitVec 32 := Scalar.addi v44 c256_i32_137
  v427
def k0_mult10 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c384_i32_157 : BitVec 32 := 384#32
  let v490 : BitVec 32 := Scalar.addi v44 c384_i32_157
  v490
def k0_off8 (k0_t1 : Fin k0_t1_loop.trips) (c0_i32_175 : BitVec 32) : Fin 2 → Nat :=
  let c2 : Index := 2#32
  let c0_i32_20 : BitVec 32 := 0#32
  let c1_i32_21 : BitVec 32 := 1#32
  let arg19 : BitVec 32 := Scf.iv c0_i32_20 c1_i32_21 k0_t1
  let c4_i32_174 : BitVec 32 := 4#32
  let v549 : BitVec 32 := Scalar.muli arg19 c4_i32_174
  let v550 : BitVec 32 := Scalar.addi v549 c0_i32_175
  let v551 : Index := Scalar.indexCast v550
  ![2, v551.toNat]
def k0_mult11 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c0_i32_176 : BitVec 32 := 0#32
  let v553 : BitVec 32 := Scalar.addi v44 c0_i32_176
  v553
def k0_off9 (k0_t1 : Fin k0_t1_loop.trips) (c0_i32_176 : BitVec 32) : Fin 2 → Nat :=
  let c256_192 : Index := 256#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v553 : BitVec 32 := Scalar.addi v44 c0_i32_176
  let v554 : BitVec 32 := v553
  let v608 : Index := Scalar.indexCast v554
  ![256, v608.toNat]
def k0_mult12 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c128_i32_196 : BitVec 32 := 128#32
  let v616 : BitVec 32 := Scalar.addi v44 c128_i32_196
  v616
def k0_mult13 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c256_i32_216 : BitVec 32 := 256#32
  let v679 : BitVec 32 := Scalar.addi v44 c256_i32_216
  v679
def k0_mult14 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c384_i32_236 : BitVec 32 := 384#32
  let v742 : BitVec 32 := Scalar.addi v44 c384_i32_236
  v742
def k0_off10 (k0_t1 : Fin k0_t1_loop.trips) (c0_i32_254 : BitVec 32) : Fin 2 → Nat :=
  let c3 : Index := 3#32
  let c0_i32_20 : BitVec 32 := 0#32
  let c1_i32_21 : BitVec 32 := 1#32
  let arg19 : BitVec 32 := Scf.iv c0_i32_20 c1_i32_21 k0_t1
  let c4_i32_253 : BitVec 32 := 4#32
  let v801 : BitVec 32 := Scalar.muli arg19 c4_i32_253
  let v802 : BitVec 32 := Scalar.addi v801 c0_i32_254
  let v803 : Index := Scalar.indexCast v802
  ![3, v803.toNat]
def k0_mult15 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c0_i32_255 : BitVec 32 := 0#32
  let v805 : BitVec 32 := Scalar.addi v44 c0_i32_255
  v805
def k0_off11 (k0_t1 : Fin k0_t1_loop.trips) (c0_i32_255 : BitVec 32) : Fin 2 → Nat :=
  let c384_271 : Index := 384#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v805 : BitVec 32 := Scalar.addi v44 c0_i32_255
  let v806 : BitVec 32 := v805
  let v860 : Index := Scalar.indexCast v806
  ![384, v860.toNat]
def k0_mult16 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c128_i32_275 : BitVec 32 := 128#32
  let v868 : BitVec 32 := Scalar.addi v44 c128_i32_275
  v868
def k0_mult17 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c256_i32_295 : BitVec 32 := 256#32
  let v931 : BitVec 32 := Scalar.addi v44 c256_i32_295
  v931
def k0_mult18 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c384_i32_315 : BitVec 32 := 384#32
  let v994 : BitVec 32 := Scalar.addi v44 c384_i32_315
  v994
def k0_off12 (k0_t1 : Fin k0_t1_loop.trips) (c0_i32_333 : BitVec 32) : Fin 2 → Nat :=
  let c4 : Index := 4#32
  let c0_i32_20 : BitVec 32 := 0#32
  let c1_i32_21 : BitVec 32 := 1#32
  let arg19 : BitVec 32 := Scf.iv c0_i32_20 c1_i32_21 k0_t1
  let c4_i32_332 : BitVec 32 := 4#32
  let v1053 : BitVec 32 := Scalar.muli arg19 c4_i32_332
  let v1054 : BitVec 32 := Scalar.addi v1053 c0_i32_333
  let v1055 : Index := Scalar.indexCast v1054
  ![4, v1055.toNat]
def k0_mult19 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c0_i32_334 : BitVec 32 := 0#32
  let v1057 : BitVec 32 := Scalar.addi v44 c0_i32_334
  v1057
def k0_off13 (k0_t1 : Fin k0_t1_loop.trips) (c0_i32_334 : BitVec 32) : Fin 2 → Nat :=
  let c512_349 : Index := 512#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v1057 : BitVec 32 := Scalar.addi v44 c0_i32_334
  let v1058 : BitVec 32 := v1057
  let v1112 : Index := Scalar.indexCast v1058
  ![512, v1112.toNat]
def k0_mult20 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c128_i32_353 : BitVec 32 := 128#32
  let v1120 : BitVec 32 := Scalar.addi v44 c128_i32_353
  v1120
def k0_mult21 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c256_i32_373 : BitVec 32 := 256#32
  let v1183 : BitVec 32 := Scalar.addi v44 c256_i32_373
  v1183
def k0_mult22 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c384_i32_393 : BitVec 32 := 384#32
  let v1246 : BitVec 32 := Scalar.addi v44 c384_i32_393
  v1246
def k0_off14 (k0_t1 : Fin k0_t1_loop.trips) (c0_i32_411 : BitVec 32) : Fin 2 → Nat :=
  let c5 : Index := 5#32
  let c0_i32_20 : BitVec 32 := 0#32
  let c1_i32_21 : BitVec 32 := 1#32
  let arg19 : BitVec 32 := Scf.iv c0_i32_20 c1_i32_21 k0_t1
  let c4_i32_410 : BitVec 32 := 4#32
  let v1305 : BitVec 32 := Scalar.muli arg19 c4_i32_410
  let v1306 : BitVec 32 := Scalar.addi v1305 c0_i32_411
  let v1307 : Index := Scalar.indexCast v1306
  ![5, v1307.toNat]
def k0_mult23 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c0_i32_412 : BitVec 32 := 0#32
  let v1309 : BitVec 32 := Scalar.addi v44 c0_i32_412
  v1309
def k0_off15 (k0_t1 : Fin k0_t1_loop.trips) (c0_i32_412 : BitVec 32) : Fin 2 → Nat :=
  let c640_427 : Index := 640#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v1309 : BitVec 32 := Scalar.addi v44 c0_i32_412
  let v1310 : BitVec 32 := v1309
  let v1364 : Index := Scalar.indexCast v1310
  ![640, v1364.toNat]
def k0_mult24 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c128_i32_431 : BitVec 32 := 128#32
  let v1372 : BitVec 32 := Scalar.addi v44 c128_i32_431
  v1372
def k0_mult25 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c256_i32_451 : BitVec 32 := 256#32
  let v1435 : BitVec 32 := Scalar.addi v44 c256_i32_451
  v1435
def k0_mult26 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c384_i32_471 : BitVec 32 := 384#32
  let v1498 : BitVec 32 := Scalar.addi v44 c384_i32_471
  v1498
def k0_off16 (k0_t1 : Fin k0_t1_loop.trips) (c0_i32_489 : BitVec 32) : Fin 2 → Nat :=
  let c6 : Index := 6#32
  let c0_i32_20 : BitVec 32 := 0#32
  let c1_i32_21 : BitVec 32 := 1#32
  let arg19 : BitVec 32 := Scf.iv c0_i32_20 c1_i32_21 k0_t1
  let c4_i32_488 : BitVec 32 := 4#32
  let v1557 : BitVec 32 := Scalar.muli arg19 c4_i32_488
  let v1558 : BitVec 32 := Scalar.addi v1557 c0_i32_489
  let v1559 : Index := Scalar.indexCast v1558
  ![6, v1559.toNat]
def k0_mult27 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c0_i32_490 : BitVec 32 := 0#32
  let v1561 : BitVec 32 := Scalar.addi v44 c0_i32_490
  v1561
def k0_off17 (k0_t1 : Fin k0_t1_loop.trips) (c0_i32_490 : BitVec 32) : Fin 2 → Nat :=
  let c768_505 : Index := 768#32
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let v1561 : BitVec 32 := Scalar.addi v44 c0_i32_490
  let v1562 : BitVec 32 := v1561
  let v1616 : Index := Scalar.indexCast v1562
  ![768, v1616.toNat]
def k0_mult28 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c128_i32_509 : BitVec 32 := 128#32
  let v1624 : BitVec 32 := Scalar.addi v44 c128_i32_509
  v1624
def k0_mult29 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c256_i32_529 : BitVec 32 := 256#32
  let v1687 : BitVec 32 := Scalar.addi v44 c256_i32_529
  v1687
def k0_mult30 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c512_i32_23 : BitVec 32 := 512#32
  let v43 : BitVec 32 := Scalar.muli arg19 c512_i32_23
  let v44 : BitVec 32 := v43
  let c384_i32_549 : BitVec 32 := 384#32
  let v1750 : BitVec 32 := Scalar.addi v44 c384_i32_549
  v1750
def k0_cond3 (i : grid0.Coords) : BitVec 1 :=
  let arg0 : BitVec 32 := BitVec.ofNat 32 (i 0).val
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v21 : BitVec 32 := Scalar.extui v20
  let c0_i32_10 : BitVec 32 := 0#32
  let v22 : BitVec 1 := Scalar.cmpi .ne v21 c0_i32_10
  v22

def k0_off18 (i : grid0.Coords) : Fin 1 → Nat :=
  let arg0 : BitVec 32 := BitVec.ofNat 32 (i 0).val
  let c1_i32 : BitVec 32 := 1#32
  let v0 : BitVec 32 := Scalar.addi arg0 c1_i32
  let c39_i32 : BitVec 32 := 39#32
  let v1 : BitVec 32 := Scalar.minsi v0 c39_i32
  let c0_i32_21 : BitVec 32 := 0#32
  let v40 : BitVec 1 := Scalar.cmpi .sgt v1 c0_i32_21
  let v41 : BitVec 32 := Scalar.extui v40
  let c0_i32_22 : BitVec 32 := 0#32
  let v42 : BitVec 1 := Scalar.cmpi .slt v1 c0_i32_22
  let v43 : BitVec 32 := Scalar.extui v42
  let v44 : BitVec 32 := Scalar.subi v41 v43
  let c2_i32_20 : BitVec 32 := 2#32
  let c0_i32_23 : BitVec 32 := 0#32
  let v45 : BitVec 1 := Scalar.cmpi .sgt c2_i32_20 c0_i32_23
  let v46 : BitVec 32 := Scalar.extui v45
  let c0_i32_24 : BitVec 32 := 0#32
  let v47 : BitVec 1 := Scalar.cmpi .slt c2_i32_20 c0_i32_24
  let v48 : BitVec 32 := Scalar.extui v47
  let v49 : BitVec 32 := Scalar.subi v46 v48
  let v50 : BitVec 1 := Scalar.cmpi .ne v44 v49
  let v51 : BitVec 32 := Scalar.remsi v1 c2_i32_20
  let c0_i32_25 : BitVec 32 := 0#32
  let v52 : BitVec 1 := Scalar.cmpi .ne v51 c0_i32_25
  let v53 : BitVec 1 := Scalar.andi v50 v52
  let v39 : BitVec 32 := Scalar.divsi v1 c2_i32_20
  let c1_i32_26 : BitVec 32 := 1#32
  let v54 : BitVec 32 := Scalar.subi v39 c1_i32_26
  let v55 : BitVec 32 := Scalar.select v53 v54 v39
  let v56 : Index := Scalar.indexCast v55
  ![v56.toNat]
def k0_mult31 (i : grid0.Coords) : BitVec 32 :=
  let arg1 : BitVec 32 := BitVec.ofNat 32 (i 1).val
  let c512_i32 : BitVec 32 := 512#32
  let v69 : BitVec 32 := Scalar.muli arg1 c512_i32
  v69
def k0_off19 (i : grid0.Coords) : Fin 2 → Nat :=
  let arg0 : BitVec 32 := BitVec.ofNat 32 (i 0).val
  let c1_i32 : BitVec 32 := 1#32
  let v0 : BitVec 32 := Scalar.addi arg0 c1_i32
  let c39_i32 : BitVec 32 := 39#32
  let v1 : BitVec 32 := Scalar.minsi v0 c39_i32
  let c2_i32_27 : BitVec 32 := 2#32
  let c0_i32_28 : BitVec 32 := 0#32
  let v58 : BitVec 1 := Scalar.cmpi .eq c2_i32_27 c0_i32_28
  let c1_i32_29 : BitVec 32 := 1#32
  let v59 : BitVec 32 := Scalar.select v58 c1_i32_29 c2_i32_27
  let v60 : BitVec 32 := Scalar.remsi v1 v59
  let c0_i32_31 : BitVec 32 := 0#32
  let v62 : BitVec 1 := Scalar.cmpi .slt v60 c0_i32_31
  let c0_i32_32 : BitVec 32 := 0#32
  let v63 : BitVec 1 := Scalar.cmpi .slt v59 c0_i32_32
  let v64 : BitVec 1 := Scalar.xori v62 v63
  let c0_i32_30 : BitVec 32 := 0#32
  let v61 : BitVec 1 := Scalar.cmpi .ne v60 c0_i32_30
  let v65 : BitVec 1 := Scalar.andi v64 v61
  let v66 : BitVec 32 := Scalar.addi v60 v59
  let v67 : BitVec 32 := Scalar.select v65 v66 v60
  let c7_i32 : BitVec 32 := 7#32
  let v68 : BitVec 32 := Scalar.muli v67 c7_i32
  let c0_i32_36 : BitVec 32 := 0#32
  let v76 : BitVec 32 := Scalar.addi v68 c0_i32_36
  let v79 : Index := Scalar.indexCast v76
  let arg1 : BitVec 32 := BitVec.ofNat 32 (i 1).val
  let c4_i32 : BitVec 32 := 4#32
  let v77 : BitVec 32 := Scalar.muli arg1 c4_i32
  let c0_i32_37 : BitVec 32 := 0#32
  let v78 : BitVec 32 := Scalar.addi v77 c0_i32_37
  let v80 : Index := Scalar.indexCast v78
  ![v79.toNat, v80.toNat]
def k0_mult32 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_38 : BitVec 32 := 0#32
  let v82 : BitVec 32 := Scalar.addi v70 c0_i32_38
  v82
def k0_off20 (i : grid0.Coords) (v57 : BitVec 32) (c0_i32_38 : BitVec 32) : Fin 3 → Nat :=
  let v84 : Index := Scalar.indexCast v57
  let c0_39 : Index := 0#32
  let arg1 : BitVec 32 := BitVec.ofNat 32 (i 1).val
  let c512_i32 : BitVec 32 := 512#32
  let v69 : BitVec 32 := Scalar.muli arg1 c512_i32
  let v70 : BitVec 32 := v69
  let v82 : BitVec 32 := Scalar.addi v70 c0_i32_38
  let v83 : BitVec 32 := v82
  let v85 : Index := Scalar.indexCast v83
  ![v84.toNat, 0, v85.toNat]

def k0_chk2 (i : grid0.Coords) (v57 : BitVec 32) : Prop :=
  (∀ (k0_h3 : k0_cond3 i = 1#1), ∀ (r : Fin 4), ∀ a, (k0_off20 i v57 (BitVec.ofNat 32 (128 * r.val))) a + S1x1x128.size a ≤ S20x1x5120.size a)
theorem k0_off20_inb : ∀ (i : grid0.Coords) (v57 : BitVec 32) (k0_hw2 : k0_chk2 i v57), ∀ (k0_h3 : k0_cond3 i = 1#1), ∀ (r : Fin 4), ∀ a, (k0_off20 i v57 (BitVec.ofNat 32 (128 * r.val))) a + S1x1x128.size a ≤ S20x1x5120.size a := fun i v57 k0_hw2 k0_h3 r => k0_hw2 k0_h3 r

def k0_off21 (i : grid0.Coords) (c0_i32_38 : BitVec 32) : Fin 2 → Nat :=
  let c0_52 : Index := 0#32
  let arg1 : BitVec 32 := BitVec.ofNat 32 (i 1).val
  let c512_i32 : BitVec 32 := 512#32
  let v69 : BitVec 32 := Scalar.muli arg1 c512_i32
  let v70 : BitVec 32 := v69
  let v82 : BitVec 32 := Scalar.addi v70 c0_i32_38
  let v83 : BitVec 32 := v82
  let v136 : Index := Scalar.indexCast v83
  ![0, v136.toNat]
def k0_off22 (i : grid0.Coords) (c0_i32_57 : BitVec 32) (c1_i32_59 : BitVec 32) : Fin 2 → Nat :=
  let arg0 : BitVec 32 := BitVec.ofNat 32 (i 0).val
  let c1_i32 : BitVec 32 := 1#32
  let v0 : BitVec 32 := Scalar.addi arg0 c1_i32
  let c39_i32 : BitVec 32 := 39#32
  let v1 : BitVec 32 := Scalar.minsi v0 c39_i32
  let c2_i32_27 : BitVec 32 := 2#32
  let c0_i32_28 : BitVec 32 := 0#32
  let v58 : BitVec 1 := Scalar.cmpi .eq c2_i32_27 c0_i32_28
  let c1_i32_29 : BitVec 32 := 1#32
  let v59 : BitVec 32 := Scalar.select v58 c1_i32_29 c2_i32_27
  let v60 : BitVec 32 := Scalar.remsi v1 v59
  let c0_i32_31 : BitVec 32 := 0#32
  let v62 : BitVec 1 := Scalar.cmpi .slt v60 c0_i32_31
  let c0_i32_32 : BitVec 32 := 0#32
  let v63 : BitVec 1 := Scalar.cmpi .slt v59 c0_i32_32
  let v64 : BitVec 1 := Scalar.xori v62 v63
  let c0_i32_30 : BitVec 32 := 0#32
  let v61 : BitVec 1 := Scalar.cmpi .ne v60 c0_i32_30
  let v65 : BitVec 1 := Scalar.andi v64 v61
  let v66 : BitVec 32 := Scalar.addi v60 v59
  let v67 : BitVec 32 := Scalar.select v65 v66 v60
  let c7_i32 : BitVec 32 := 7#32
  let v68 : BitVec 32 := Scalar.muli v67 c7_i32
  let v153 : BitVec 32 := Scalar.addi v68 c0_i32_57
  let v156 : Index := Scalar.indexCast v153
  let arg1 : BitVec 32 := BitVec.ofNat 32 (i 1).val
  let c4_i32_58 : BitVec 32 := 4#32
  let v154 : BitVec 32 := Scalar.muli arg1 c4_i32_58
  let v155 : BitVec 32 := Scalar.addi v154 c1_i32_59
  let v157 : Index := Scalar.indexCast v155
  ![v156.toNat, v157.toNat]
def k0_off22_at (r : Fin 27) : BitVec 32 × BitVec 32 :=
  if r.val < 13 then
    if r.val < 6 then
      if r.val < 3 then
        if r.val < 1 then
          (0#32, 1#32)
        else
          if r.val < 2 then
            (0#32, 2#32)
          else
            (0#32, 3#32)
      else
        if r.val < 4 then
          (1#32, 0#32)
        else
          if r.val < 5 then
            (1#32, 1#32)
          else
            (1#32, 2#32)
    else
      if r.val < 9 then
        if r.val < 7 then
          (1#32, 3#32)
        else
          if r.val < 8 then
            (2#32, 0#32)
          else
            (2#32, 1#32)
      else
        if r.val < 11 then
          if r.val < 10 then
            (2#32, 2#32)
          else
            (2#32, 3#32)
        else
          if r.val < 12 then
            (3#32, 0#32)
          else
            (3#32, 1#32)
  else
    if r.val < 20 then
      if r.val < 16 then
        if r.val < 14 then
          (3#32, 2#32)
        else
          if r.val < 15 then
            (3#32, 3#32)
          else
            (4#32, 0#32)
      else
        if r.val < 18 then
          if r.val < 17 then
            (4#32, 1#32)
          else
            (4#32, 2#32)
        else
          if r.val < 19 then
            (4#32, 3#32)
          else
            (5#32, 0#32)
    else
      if r.val < 23 then
        if r.val < 21 then
          (5#32, 1#32)
        else
          if r.val < 22 then
            (5#32, 2#32)
          else
            (5#32, 3#32)
      else
        if r.val < 25 then
          if r.val < 24 then
            (6#32, 0#32)
          else
            (6#32, 1#32)
        else
          if r.val < 26 then
            (6#32, 2#32)
          else
            (6#32, 3#32)
def k0_mult33 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32 : BitVec 32 := 128#32
  let v159 : BitVec 32 := Scalar.addi v70 c128_i32
  v159
def k0_mult34 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32 : BitVec 32 := 256#32
  let v236 : BitVec 32 := Scalar.addi v70 c256_i32
  v236
def k0_mult35 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32 : BitVec 32 := 384#32
  let v313 : BitVec 32 := Scalar.addi v70 c384_i32
  v313
def k0_mult36 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_130 : BitVec 32 := 0#32
  let v396 : BitVec 32 := Scalar.addi v70 c0_i32_130
  v396
def k0_off23 (i : grid0.Coords) (c0_i32_130 : BitVec 32) : Fin 2 → Nat :=
  let c128_145 : Index := 128#32
  let arg1 : BitVec 32 := BitVec.ofNat 32 (i 1).val
  let c512_i32 : BitVec 32 := 512#32
  let v69 : BitVec 32 := Scalar.muli arg1 c512_i32
  let v70 : BitVec 32 := v69
  let v396 : BitVec 32 := Scalar.addi v70 c0_i32_130
  let v397 : BitVec 32 := v396
  let v450 : Index := Scalar.indexCast v397
  ![128, v450.toNat]
def k0_mult37 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_153 : BitVec 32 := 128#32
  let v473 : BitVec 32 := Scalar.addi v70 c128_i32_153
  v473
def k0_mult38 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_176 : BitVec 32 := 256#32
  let v550 : BitVec 32 := Scalar.addi v70 c256_i32_176
  v550
def k0_mult39 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_199 : BitVec 32 := 384#32
  let v627 : BitVec 32 := Scalar.addi v70 c384_i32_199
  v627
def k0_mult40 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_230 : BitVec 32 := 0#32
  let v710 : BitVec 32 := Scalar.addi v70 c0_i32_230
  v710
def k0_off24 (i : grid0.Coords) (c0_i32_230 : BitVec 32) : Fin 2 → Nat :=
  let c256_245 : Index := 256#32
  let arg1 : BitVec 32 := BitVec.ofNat 32 (i 1).val
  let c512_i32 : BitVec 32 := 512#32
  let v69 : BitVec 32 := Scalar.muli arg1 c512_i32
  let v70 : BitVec 32 := v69
  let v710 : BitVec 32 := Scalar.addi v70 c0_i32_230
  let v711 : BitVec 32 := v710
  let v764 : Index := Scalar.indexCast v711
  ![256, v764.toNat]
def k0_mult41 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_253 : BitVec 32 := 128#32
  let v787 : BitVec 32 := Scalar.addi v70 c128_i32_253
  v787
def k0_mult42 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_276 : BitVec 32 := 256#32
  let v864 : BitVec 32 := Scalar.addi v70 c256_i32_276
  v864
def k0_mult43 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_299 : BitVec 32 := 384#32
  let v941 : BitVec 32 := Scalar.addi v70 c384_i32_299
  v941
def k0_mult44 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_330 : BitVec 32 := 0#32
  let v1024 : BitVec 32 := Scalar.addi v70 c0_i32_330
  v1024
def k0_off25 (i : grid0.Coords) (c0_i32_330 : BitVec 32) : Fin 2 → Nat :=
  let c384_345 : Index := 384#32
  let arg1 : BitVec 32 := BitVec.ofNat 32 (i 1).val
  let c512_i32 : BitVec 32 := 512#32
  let v69 : BitVec 32 := Scalar.muli arg1 c512_i32
  let v70 : BitVec 32 := v69
  let v1024 : BitVec 32 := Scalar.addi v70 c0_i32_330
  let v1025 : BitVec 32 := v1024
  let v1078 : Index := Scalar.indexCast v1025
  ![384, v1078.toNat]
def k0_mult45 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_353 : BitVec 32 := 128#32
  let v1101 : BitVec 32 := Scalar.addi v70 c128_i32_353
  v1101
def k0_mult46 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_376 : BitVec 32 := 256#32
  let v1178 : BitVec 32 := Scalar.addi v70 c256_i32_376
  v1178
def k0_mult47 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_399 : BitVec 32 := 384#32
  let v1255 : BitVec 32 := Scalar.addi v70 c384_i32_399
  v1255
def k0_mult48 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_429 : BitVec 32 := 0#32
  let v1338 : BitVec 32 := Scalar.addi v70 c0_i32_429
  v1338
def k0_off26 (i : grid0.Coords) (c0_i32_429 : BitVec 32) : Fin 2 → Nat :=
  let c512_444 : Index := 512#32
  let arg1 : BitVec 32 := BitVec.ofNat 32 (i 1).val
  let c512_i32 : BitVec 32 := 512#32
  let v69 : BitVec 32 := Scalar.muli arg1 c512_i32
  let v70 : BitVec 32 := v69
  let v1338 : BitVec 32 := Scalar.addi v70 c0_i32_429
  let v1339 : BitVec 32 := v1338
  let v1392 : Index := Scalar.indexCast v1339
  ![512, v1392.toNat]
def k0_mult49 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_452 : BitVec 32 := 128#32
  let v1415 : BitVec 32 := Scalar.addi v70 c128_i32_452
  v1415
def k0_mult50 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_475 : BitVec 32 := 256#32
  let v1492 : BitVec 32 := Scalar.addi v70 c256_i32_475
  v1492
def k0_mult51 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_498 : BitVec 32 := 384#32
  let v1569 : BitVec 32 := Scalar.addi v70 c384_i32_498
  v1569
def k0_mult52 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_527 : BitVec 32 := 0#32
  let v1652 : BitVec 32 := Scalar.addi v70 c0_i32_527
  v1652
def k0_off27 (i : grid0.Coords) (c0_i32_527 : BitVec 32) : Fin 2 → Nat :=
  let c640_542 : Index := 640#32
  let arg1 : BitVec 32 := BitVec.ofNat 32 (i 1).val
  let c512_i32 : BitVec 32 := 512#32
  let v69 : BitVec 32 := Scalar.muli arg1 c512_i32
  let v70 : BitVec 32 := v69
  let v1652 : BitVec 32 := Scalar.addi v70 c0_i32_527
  let v1653 : BitVec 32 := v1652
  let v1706 : Index := Scalar.indexCast v1653
  ![640, v1706.toNat]
def k0_mult53 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_550 : BitVec 32 := 128#32
  let v1729 : BitVec 32 := Scalar.addi v70 c128_i32_550
  v1729
def k0_mult54 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_573 : BitVec 32 := 256#32
  let v1806 : BitVec 32 := Scalar.addi v70 c256_i32_573
  v1806
def k0_mult55 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_596 : BitVec 32 := 384#32
  let v1883 : BitVec 32 := Scalar.addi v70 c384_i32_596
  v1883
def k0_mult56 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_625 : BitVec 32 := 0#32
  let v1966 : BitVec 32 := Scalar.addi v70 c0_i32_625
  v1966
def k0_off28 (i : grid0.Coords) (c0_i32_625 : BitVec 32) : Fin 2 → Nat :=
  let c768_640 : Index := 768#32
  let arg1 : BitVec 32 := BitVec.ofNat 32 (i 1).val
  let c512_i32 : BitVec 32 := 512#32
  let v69 : BitVec 32 := Scalar.muli arg1 c512_i32
  let v70 : BitVec 32 := v69
  let v1966 : BitVec 32 := Scalar.addi v70 c0_i32_625
  let v1967 : BitVec 32 := v1966
  let v2020 : Index := Scalar.indexCast v1967
  ![768, v2020.toNat]
def k0_mult57 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_648 : BitVec 32 := 128#32
  let v2043 : BitVec 32 := Scalar.addi v70 c128_i32_648
  v2043
def k0_mult58 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_671 : BitVec 32 := 256#32
  let v2120 : BitVec 32 := Scalar.addi v70 c256_i32_671
  v2120
def k0_mult59 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_694 : BitVec 32 := 384#32
  let v2197 : BitVec 32 := Scalar.addi v70 c384_i32_694
  v2197
def k0_mult60 (i : grid0.Coords) : BitVec 32 :=
  let arg1 : BitVec 32 := BitVec.ofNat 32 (i 1).val
  let c512_i32_718 : BitVec 32 := 512#32
  let v2270 : BitVec 32 := Scalar.muli arg1 c512_i32_718
  v2270
def k0_off29 (i : grid0.Coords) : Fin 2 → Nat :=
  let c0_724 : Index := 0#32
  let arg1 : BitVec 32 := BitVec.ofNat 32 (i 1).val
  let c512_i32_718 : BitVec 32 := 512#32
  let v2270 : BitVec 32 := Scalar.muli arg1 c512_i32_718
  let v2271 : BitVec 32 := v2270
  let v2275 : Index := Scalar.indexCast v2271
  ![0, v2275.toNat]
def k0_off30 (i : grid0.Coords) : Fin 2 → Nat :=
  let c0_727 : Index := 0#32
  let arg1 : BitVec 32 := BitVec.ofNat 32 (i 1).val
  let c512_i32_718 : BitVec 32 := 512#32
  let v2270 : BitVec 32 := Scalar.muli arg1 c512_i32_718
  let v2271 : BitVec 32 := v2270
  let v2282 : Index := Scalar.indexCast v2271
  ![0, v2282.toNat]
def k0_cond4 (i : grid0.Coords) : BitVec 1 :=
  let arg0 : BitVec 32 := BitVec.ofNat 32 (i 0).val
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi arg0 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_17 : BitVec 32 := 1#32
  let v33 : BitVec 1 := Scalar.cmpi .eq v32 c1_i32_17
  let v34 : BitVec 32 := Scalar.extui v33
  let c0_i32_18 : BitVec 32 := 0#32
  let v35 : BitVec 1 := Scalar.cmpi .ne v34 c0_i32_18
  v35

def k0_off31 (i : grid0.Coords) : Fin 1 → Nat :=
  let arg0 : BitVec 32 := BitVec.ofNat 32 (i 0).val
  let c1_i32 : BitVec 32 := 1#32
  let v0 : BitVec 32 := Scalar.addi arg0 c1_i32
  let c39_i32 : BitVec 32 := 39#32
  let v1 : BitVec 32 := Scalar.minsi v0 c39_i32
  let c0_i32_21 : BitVec 32 := 0#32
  let v40 : BitVec 1 := Scalar.cmpi .sgt v1 c0_i32_21
  let v41 : BitVec 32 := Scalar.extui v40
  let c0_i32_22 : BitVec 32 := 0#32
  let v42 : BitVec 1 := Scalar.cmpi .slt v1 c0_i32_22
  let v43 : BitVec 32 := Scalar.extui v42
  let v44 : BitVec 32 := Scalar.subi v41 v43
  let c2_i32_20 : BitVec 32 := 2#32
  let c0_i32_23 : BitVec 32 := 0#32
  let v45 : BitVec 1 := Scalar.cmpi .sgt c2_i32_20 c0_i32_23
  let v46 : BitVec 32 := Scalar.extui v45
  let c0_i32_24 : BitVec 32 := 0#32
  let v47 : BitVec 1 := Scalar.cmpi .slt c2_i32_20 c0_i32_24
  let v48 : BitVec 32 := Scalar.extui v47
  let v49 : BitVec 32 := Scalar.subi v46 v48
  let v50 : BitVec 1 := Scalar.cmpi .ne v44 v49
  let v51 : BitVec 32 := Scalar.remsi v1 c2_i32_20
  let c0_i32_25 : BitVec 32 := 0#32
  let v52 : BitVec 1 := Scalar.cmpi .ne v51 c0_i32_25
  let v53 : BitVec 1 := Scalar.andi v50 v52
  let v39 : BitVec 32 := Scalar.divsi v1 c2_i32_20
  let c1_i32_26 : BitVec 32 := 1#32
  let v54 : BitVec 32 := Scalar.subi v39 c1_i32_26
  let v55 : BitVec 32 := Scalar.select v53 v54 v39
  let v56 : Index := Scalar.indexCast v55
  ![v56.toNat]
def k0_mult61 (i : grid0.Coords) : BitVec 32 :=
  let arg1 : BitVec 32 := BitVec.ofNat 32 (i 1).val
  let c512_i32 : BitVec 32 := 512#32
  let v69 : BitVec 32 := Scalar.muli arg1 c512_i32
  v69
def k0_off32 (i : grid0.Coords) : Fin 2 → Nat :=
  let arg0 : BitVec 32 := BitVec.ofNat 32 (i 0).val
  let c1_i32 : BitVec 32 := 1#32
  let v0 : BitVec 32 := Scalar.addi arg0 c1_i32
  let c39_i32 : BitVec 32 := 39#32
  let v1 : BitVec 32 := Scalar.minsi v0 c39_i32
  let c2_i32_27 : BitVec 32 := 2#32
  let c0_i32_28 : BitVec 32 := 0#32
  let v58 : BitVec 1 := Scalar.cmpi .eq c2_i32_27 c0_i32_28
  let c1_i32_29 : BitVec 32 := 1#32
  let v59 : BitVec 32 := Scalar.select v58 c1_i32_29 c2_i32_27
  let v60 : BitVec 32 := Scalar.remsi v1 v59
  let c0_i32_31 : BitVec 32 := 0#32
  let v62 : BitVec 1 := Scalar.cmpi .slt v60 c0_i32_31
  let c0_i32_32 : BitVec 32 := 0#32
  let v63 : BitVec 1 := Scalar.cmpi .slt v59 c0_i32_32
  let v64 : BitVec 1 := Scalar.xori v62 v63
  let c0_i32_30 : BitVec 32 := 0#32
  let v61 : BitVec 1 := Scalar.cmpi .ne v60 c0_i32_30
  let v65 : BitVec 1 := Scalar.andi v64 v61
  let v66 : BitVec 32 := Scalar.addi v60 v59
  let v67 : BitVec 32 := Scalar.select v65 v66 v60
  let c7_i32 : BitVec 32 := 7#32
  let v68 : BitVec 32 := Scalar.muli v67 c7_i32
  let c0_i32_36 : BitVec 32 := 0#32
  let v76 : BitVec 32 := Scalar.addi v68 c0_i32_36
  let v79 : Index := Scalar.indexCast v76
  let arg1 : BitVec 32 := BitVec.ofNat 32 (i 1).val
  let c4_i32 : BitVec 32 := 4#32
  let v77 : BitVec 32 := Scalar.muli arg1 c4_i32
  let c0_i32_37 : BitVec 32 := 0#32
  let v78 : BitVec 32 := Scalar.addi v77 c0_i32_37
  let v80 : Index := Scalar.indexCast v78
  ![v79.toNat, v80.toNat]
def k0_mult62 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_38 : BitVec 32 := 0#32
  let v82 : BitVec 32 := Scalar.addi v70 c0_i32_38
  v82
def k0_off33 (i : grid0.Coords) (v57 : BitVec 32) (c0_i32_38 : BitVec 32) : Fin 3 → Nat :=
  let v84 : Index := Scalar.indexCast v57
  let c0_39 : Index := 0#32
  let arg1 : BitVec 32 := BitVec.ofNat 32 (i 1).val
  let c512_i32 : BitVec 32 := 512#32
  let v69 : BitVec 32 := Scalar.muli arg1 c512_i32
  let v70 : BitVec 32 := v69
  let v82 : BitVec 32 := Scalar.addi v70 c0_i32_38
  let v83 : BitVec 32 := v82
  let v85 : Index := Scalar.indexCast v83
  ![v84.toNat, 0, v85.toNat]

def k0_chk3 (i : grid0.Coords) (v57 : BitVec 32) : Prop :=
  (∀ (k0_h4 : k0_cond4 i = 1#1), ∀ (r : Fin 4), ∀ a, (k0_off33 i v57 (BitVec.ofNat 32 (128 * r.val))) a + S1x1x128.size a ≤ S20x1x5120.size a)
theorem k0_off33_inb : ∀ (i : grid0.Coords) (v57 : BitVec 32) (k0_hw3 : k0_chk3 i v57), ∀ (k0_h4 : k0_cond4 i = 1#1), ∀ (r : Fin 4), ∀ a, (k0_off33 i v57 (BitVec.ofNat 32 (128 * r.val))) a + S1x1x128.size a ≤ S20x1x5120.size a := fun i v57 k0_hw3 k0_h4 r => k0_hw3 k0_h4 r

def k0_off34 (i : grid0.Coords) (c0_i32_38 : BitVec 32) : Fin 2 → Nat :=
  let c0_52 : Index := 0#32
  let arg1 : BitVec 32 := BitVec.ofNat 32 (i 1).val
  let c512_i32 : BitVec 32 := 512#32
  let v69 : BitVec 32 := Scalar.muli arg1 c512_i32
  let v70 : BitVec 32 := v69
  let v82 : BitVec 32 := Scalar.addi v70 c0_i32_38
  let v83 : BitVec 32 := v82
  let v136 : Index := Scalar.indexCast v83
  ![0, v136.toNat]
def k0_off35 (i : grid0.Coords) (c0_i32_57 : BitVec 32) (c1_i32_59 : BitVec 32) : Fin 2 → Nat :=
  let arg0 : BitVec 32 := BitVec.ofNat 32 (i 0).val
  let c1_i32 : BitVec 32 := 1#32
  let v0 : BitVec 32 := Scalar.addi arg0 c1_i32
  let c39_i32 : BitVec 32 := 39#32
  let v1 : BitVec 32 := Scalar.minsi v0 c39_i32
  let c2_i32_27 : BitVec 32 := 2#32
  let c0_i32_28 : BitVec 32 := 0#32
  let v58 : BitVec 1 := Scalar.cmpi .eq c2_i32_27 c0_i32_28
  let c1_i32_29 : BitVec 32 := 1#32
  let v59 : BitVec 32 := Scalar.select v58 c1_i32_29 c2_i32_27
  let v60 : BitVec 32 := Scalar.remsi v1 v59
  let c0_i32_31 : BitVec 32 := 0#32
  let v62 : BitVec 1 := Scalar.cmpi .slt v60 c0_i32_31
  let c0_i32_32 : BitVec 32 := 0#32
  let v63 : BitVec 1 := Scalar.cmpi .slt v59 c0_i32_32
  let v64 : BitVec 1 := Scalar.xori v62 v63
  let c0_i32_30 : BitVec 32 := 0#32
  let v61 : BitVec 1 := Scalar.cmpi .ne v60 c0_i32_30
  let v65 : BitVec 1 := Scalar.andi v64 v61
  let v66 : BitVec 32 := Scalar.addi v60 v59
  let v67 : BitVec 32 := Scalar.select v65 v66 v60
  let c7_i32 : BitVec 32 := 7#32
  let v68 : BitVec 32 := Scalar.muli v67 c7_i32
  let v153 : BitVec 32 := Scalar.addi v68 c0_i32_57
  let v156 : Index := Scalar.indexCast v153
  let arg1 : BitVec 32 := BitVec.ofNat 32 (i 1).val
  let c4_i32_58 : BitVec 32 := 4#32
  let v154 : BitVec 32 := Scalar.muli arg1 c4_i32_58
  let v155 : BitVec 32 := Scalar.addi v154 c1_i32_59
  let v157 : Index := Scalar.indexCast v155
  ![v156.toNat, v157.toNat]
def k0_off35_at (r : Fin 27) : BitVec 32 × BitVec 32 :=
  if r.val < 13 then
    if r.val < 6 then
      if r.val < 3 then
        if r.val < 1 then
          (0#32, 1#32)
        else
          if r.val < 2 then
            (0#32, 2#32)
          else
            (0#32, 3#32)
      else
        if r.val < 4 then
          (1#32, 0#32)
        else
          if r.val < 5 then
            (1#32, 1#32)
          else
            (1#32, 2#32)
    else
      if r.val < 9 then
        if r.val < 7 then
          (1#32, 3#32)
        else
          if r.val < 8 then
            (2#32, 0#32)
          else
            (2#32, 1#32)
      else
        if r.val < 11 then
          if r.val < 10 then
            (2#32, 2#32)
          else
            (2#32, 3#32)
        else
          if r.val < 12 then
            (3#32, 0#32)
          else
            (3#32, 1#32)
  else
    if r.val < 20 then
      if r.val < 16 then
        if r.val < 14 then
          (3#32, 2#32)
        else
          if r.val < 15 then
            (3#32, 3#32)
          else
            (4#32, 0#32)
      else
        if r.val < 18 then
          if r.val < 17 then
            (4#32, 1#32)
          else
            (4#32, 2#32)
        else
          if r.val < 19 then
            (4#32, 3#32)
          else
            (5#32, 0#32)
    else
      if r.val < 23 then
        if r.val < 21 then
          (5#32, 1#32)
        else
          if r.val < 22 then
            (5#32, 2#32)
          else
            (5#32, 3#32)
      else
        if r.val < 25 then
          if r.val < 24 then
            (6#32, 0#32)
          else
            (6#32, 1#32)
        else
          if r.val < 26 then
            (6#32, 2#32)
          else
            (6#32, 3#32)
def k0_mult63 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32 : BitVec 32 := 128#32
  let v159 : BitVec 32 := Scalar.addi v70 c128_i32
  v159
def k0_mult64 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32 : BitVec 32 := 256#32
  let v236 : BitVec 32 := Scalar.addi v70 c256_i32
  v236
def k0_mult65 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32 : BitVec 32 := 384#32
  let v313 : BitVec 32 := Scalar.addi v70 c384_i32
  v313
def k0_mult66 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_130 : BitVec 32 := 0#32
  let v396 : BitVec 32 := Scalar.addi v70 c0_i32_130
  v396
def k0_off36 (i : grid0.Coords) (c0_i32_130 : BitVec 32) : Fin 2 → Nat :=
  let c128_145 : Index := 128#32
  let arg1 : BitVec 32 := BitVec.ofNat 32 (i 1).val
  let c512_i32 : BitVec 32 := 512#32
  let v69 : BitVec 32 := Scalar.muli arg1 c512_i32
  let v70 : BitVec 32 := v69
  let v396 : BitVec 32 := Scalar.addi v70 c0_i32_130
  let v397 : BitVec 32 := v396
  let v450 : Index := Scalar.indexCast v397
  ![128, v450.toNat]
def k0_mult67 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_153 : BitVec 32 := 128#32
  let v473 : BitVec 32 := Scalar.addi v70 c128_i32_153
  v473
def k0_mult68 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_176 : BitVec 32 := 256#32
  let v550 : BitVec 32 := Scalar.addi v70 c256_i32_176
  v550
def k0_mult69 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_199 : BitVec 32 := 384#32
  let v627 : BitVec 32 := Scalar.addi v70 c384_i32_199
  v627
def k0_mult70 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_230 : BitVec 32 := 0#32
  let v710 : BitVec 32 := Scalar.addi v70 c0_i32_230
  v710
def k0_off37 (i : grid0.Coords) (c0_i32_230 : BitVec 32) : Fin 2 → Nat :=
  let c256_245 : Index := 256#32
  let arg1 : BitVec 32 := BitVec.ofNat 32 (i 1).val
  let c512_i32 : BitVec 32 := 512#32
  let v69 : BitVec 32 := Scalar.muli arg1 c512_i32
  let v70 : BitVec 32 := v69
  let v710 : BitVec 32 := Scalar.addi v70 c0_i32_230
  let v711 : BitVec 32 := v710
  let v764 : Index := Scalar.indexCast v711
  ![256, v764.toNat]
def k0_mult71 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_253 : BitVec 32 := 128#32
  let v787 : BitVec 32 := Scalar.addi v70 c128_i32_253
  v787
def k0_mult72 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_276 : BitVec 32 := 256#32
  let v864 : BitVec 32 := Scalar.addi v70 c256_i32_276
  v864
def k0_mult73 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_299 : BitVec 32 := 384#32
  let v941 : BitVec 32 := Scalar.addi v70 c384_i32_299
  v941
def k0_mult74 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_330 : BitVec 32 := 0#32
  let v1024 : BitVec 32 := Scalar.addi v70 c0_i32_330
  v1024
def k0_off38 (i : grid0.Coords) (c0_i32_330 : BitVec 32) : Fin 2 → Nat :=
  let c384_345 : Index := 384#32
  let arg1 : BitVec 32 := BitVec.ofNat 32 (i 1).val
  let c512_i32 : BitVec 32 := 512#32
  let v69 : BitVec 32 := Scalar.muli arg1 c512_i32
  let v70 : BitVec 32 := v69
  let v1024 : BitVec 32 := Scalar.addi v70 c0_i32_330
  let v1025 : BitVec 32 := v1024
  let v1078 : Index := Scalar.indexCast v1025
  ![384, v1078.toNat]
def k0_mult75 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_353 : BitVec 32 := 128#32
  let v1101 : BitVec 32 := Scalar.addi v70 c128_i32_353
  v1101
def k0_mult76 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_376 : BitVec 32 := 256#32
  let v1178 : BitVec 32 := Scalar.addi v70 c256_i32_376
  v1178
def k0_mult77 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_399 : BitVec 32 := 384#32
  let v1255 : BitVec 32 := Scalar.addi v70 c384_i32_399
  v1255
def k0_mult78 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_429 : BitVec 32 := 0#32
  let v1338 : BitVec 32 := Scalar.addi v70 c0_i32_429
  v1338
def k0_off39 (i : grid0.Coords) (c0_i32_429 : BitVec 32) : Fin 2 → Nat :=
  let c512_444 : Index := 512#32
  let arg1 : BitVec 32 := BitVec.ofNat 32 (i 1).val
  let c512_i32 : BitVec 32 := 512#32
  let v69 : BitVec 32 := Scalar.muli arg1 c512_i32
  let v70 : BitVec 32 := v69
  let v1338 : BitVec 32 := Scalar.addi v70 c0_i32_429
  let v1339 : BitVec 32 := v1338
  let v1392 : Index := Scalar.indexCast v1339
  ![512, v1392.toNat]
def k0_mult79 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_452 : BitVec 32 := 128#32
  let v1415 : BitVec 32 := Scalar.addi v70 c128_i32_452
  v1415
def k0_mult80 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_475 : BitVec 32 := 256#32
  let v1492 : BitVec 32 := Scalar.addi v70 c256_i32_475
  v1492
def k0_mult81 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_498 : BitVec 32 := 384#32
  let v1569 : BitVec 32 := Scalar.addi v70 c384_i32_498
  v1569
def k0_mult82 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_527 : BitVec 32 := 0#32
  let v1652 : BitVec 32 := Scalar.addi v70 c0_i32_527
  v1652
def k0_off40 (i : grid0.Coords) (c0_i32_527 : BitVec 32) : Fin 2 → Nat :=
  let c640_542 : Index := 640#32
  let arg1 : BitVec 32 := BitVec.ofNat 32 (i 1).val
  let c512_i32 : BitVec 32 := 512#32
  let v69 : BitVec 32 := Scalar.muli arg1 c512_i32
  let v70 : BitVec 32 := v69
  let v1652 : BitVec 32 := Scalar.addi v70 c0_i32_527
  let v1653 : BitVec 32 := v1652
  let v1706 : Index := Scalar.indexCast v1653
  ![640, v1706.toNat]
def k0_mult83 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_550 : BitVec 32 := 128#32
  let v1729 : BitVec 32 := Scalar.addi v70 c128_i32_550
  v1729
def k0_mult84 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_573 : BitVec 32 := 256#32
  let v1806 : BitVec 32 := Scalar.addi v70 c256_i32_573
  v1806
def k0_mult85 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_596 : BitVec 32 := 384#32
  let v1883 : BitVec 32 := Scalar.addi v70 c384_i32_596
  v1883
def k0_mult86 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c0_i32_625 : BitVec 32 := 0#32
  let v1966 : BitVec 32 := Scalar.addi v70 c0_i32_625
  v1966
def k0_off41 (i : grid0.Coords) (c0_i32_625 : BitVec 32) : Fin 2 → Nat :=
  let c768_640 : Index := 768#32
  let arg1 : BitVec 32 := BitVec.ofNat 32 (i 1).val
  let c512_i32 : BitVec 32 := 512#32
  let v69 : BitVec 32 := Scalar.muli arg1 c512_i32
  let v70 : BitVec 32 := v69
  let v1966 : BitVec 32 := Scalar.addi v70 c0_i32_625
  let v1967 : BitVec 32 := v1966
  let v2020 : Index := Scalar.indexCast v1967
  ![768, v2020.toNat]
def k0_mult87 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c128_i32_648 : BitVec 32 := 128#32
  let v2043 : BitVec 32 := Scalar.addi v70 c128_i32_648
  v2043
def k0_mult88 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c256_i32_671 : BitVec 32 := 256#32
  let v2120 : BitVec 32 := Scalar.addi v70 c256_i32_671
  v2120
def k0_mult89 (i : grid0.Coords) : BitVec 32 :=
  let arg1 : BitVec 32 := BitVec.ofNat 32 (i 1).val
  let c512_i32 : BitVec 32 := 512#32
  let v69 : BitVec 32 := Scalar.muli arg1 c512_i32
  let v70 : BitVec 32 := v69
  let c384_i32_694 : BitVec 32 := 384#32
  let v2197 : BitVec 32 := Scalar.addi v70 c384_i32_694
  v2197
def k0_mult90 (i : grid0.Coords) : BitVec 32 :=
  let arg1 : BitVec 32 := BitVec.ofNat 32 (i 1).val
  let c512_i32_718 : BitVec 32 := 512#32
  let v2270 : BitVec 32 := Scalar.muli arg1 c512_i32_718
  v2270
def k0_off42 (i : grid0.Coords) : Fin 2 → Nat :=
  let c0_724 : Index := 0#32
  let arg1 : BitVec 32 := BitVec.ofNat 32 (i 1).val
  let c512_i32_718 : BitVec 32 := 512#32
  let v2270 : BitVec 32 := Scalar.muli arg1 c512_i32_718
  let v2271 : BitVec 32 := v2270
  let v2275 : Index := Scalar.indexCast v2271
  ![0, v2275.toNat]
def k0_off43 (i : grid0.Coords) : Fin 2 → Nat :=
  let c0_727 : Index := 0#32
  let arg1 : BitVec 32 := BitVec.ofNat 32 (i 1).val
  let c512_i32_718 : BitVec 32 := 512#32
  let v2270 : BitVec 32 := Scalar.muli arg1 c512_i32_718
  let v2271 : BitVec 32 := v2270
  let v2282 : Index := Scalar.indexCast v2271
  ![0, v2282.toNat]
def k0_cond5 (i : grid0.Coords) : BitVec 1 :=
  let arg1 : BitVec 32 := BitVec.ofNat 32 (i 1).val
  let c9_i32 : BitVec 32 := 9#32
  let v36 : BitVec 1 := Scalar.cmpi .eq arg1 c9_i32
  let v37 : BitVec 32 := Scalar.extui v36
  let c0_i32_19 : BitVec 32 := 0#32
  let v38 : BitVec 1 := Scalar.cmpi .ne v37 c0_i32_19
  v38

def k0_mult91 (i : grid0.Coords) : BitVec 32 :=
  let arg0 : BitVec 32 := BitVec.ofNat 32 (i 0).val
  let c2_i32_21 : BitVec 32 := 2#32
  let c0_i32_22 : BitVec 32 := 0#32
  let v43 : BitVec 1 := Scalar.cmpi .eq c2_i32_21 c0_i32_22
  let c1_i32_23 : BitVec 32 := 1#32
  let v44 : BitVec 32 := Scalar.select v43 c1_i32_23 c2_i32_21
  let v45 : BitVec 32 := Scalar.remsi arg0 v44
  let c0_i32_25 : BitVec 32 := 0#32
  let v47 : BitVec 1 := Scalar.cmpi .slt v45 c0_i32_25
  let c0_i32_26 : BitVec 32 := 0#32
  let v48 : BitVec 1 := Scalar.cmpi .slt v44 c0_i32_26
  let v49 : BitVec 1 := Scalar.xori v47 v48
  let c0_i32_24 : BitVec 32 := 0#32
  let v46 : BitVec 1 := Scalar.cmpi .ne v45 c0_i32_24
  let v50 : BitVec 1 := Scalar.andi v49 v46
  let v51 : BitVec 32 := Scalar.addi v45 v44
  let v52 : BitVec 32 := Scalar.select v50 v51 v45
  let c896_i32 : BitVec 32 := 896#32
  let v53 : BitVec 32 := Scalar.muli v52 c896_i32
  v53
def k0_off44 (i : grid0.Coords) : Fin 1 → Nat :=
  let arg0 : BitVec 32 := BitVec.ofNat 32 (i 0).val
  let c0_i32_28 : BitVec 32 := 0#32
  let v56 : BitVec 1 := Scalar.cmpi .sgt arg0 c0_i32_28
  let v57 : BitVec 32 := Scalar.extui v56
  let c0_i32_29 : BitVec 32 := 0#32
  let v58 : BitVec 1 := Scalar.cmpi .slt arg0 c0_i32_29
  let v59 : BitVec 32 := Scalar.extui v58
  let v60 : BitVec 32 := Scalar.subi v57 v59
  let c2_i32_27 : BitVec 32 := 2#32
  let c0_i32_30 : BitVec 32 := 0#32
  let v61 : BitVec 1 := Scalar.cmpi .sgt c2_i32_27 c0_i32_30
  let v62 : BitVec 32 := Scalar.extui v61
  let c0_i32_31 : BitVec 32 := 0#32
  let v63 : BitVec 1 := Scalar.cmpi .slt c2_i32_27 c0_i32_31
  let v64 : BitVec 32 := Scalar.extui v63
  let v65 : BitVec 32 := Scalar.subi v62 v64
  let v66 : BitVec 1 := Scalar.cmpi .ne v60 v65
  let v67 : BitVec 32 := Scalar.remsi arg0 c2_i32_27
  let c0_i32_32 : BitVec 32 := 0#32
  let v68 : BitVec 1 := Scalar.cmpi .ne v67 c0_i32_32
  let v69 : BitVec 1 := Scalar.andi v66 v68
  let v55 : BitVec 32 := Scalar.divsi arg0 c2_i32_27
  let c1_i32_33 : BitVec 32 := 1#32
  let v70 : BitVec 32 := Scalar.subi v55 c1_i32_33
  let v71 : BitVec 32 := Scalar.select v69 v70 v55
  let v72 : Index := Scalar.indexCast v71
  ![v72.toNat]
def k0_off45 (i : grid0.Coords) (v73 : BitVec 32) : Fin 2 → Nat :=
  let v74 : Index := Scalar.indexCast v73
  let arg0 : BitVec 32 := BitVec.ofNat 32 (i 0).val
  let c2_i32_21 : BitVec 32 := 2#32
  let c0_i32_22 : BitVec 32 := 0#32
  let v43 : BitVec 1 := Scalar.cmpi .eq c2_i32_21 c0_i32_22
  let c1_i32_23 : BitVec 32 := 1#32
  let v44 : BitVec 32 := Scalar.select v43 c1_i32_23 c2_i32_21
  let v45 : BitVec 32 := Scalar.remsi arg0 v44
  let c0_i32_25 : BitVec 32 := 0#32
  let v47 : BitVec 1 := Scalar.cmpi .slt v45 c0_i32_25
  let c0_i32_26 : BitVec 32 := 0#32
  let v48 : BitVec 1 := Scalar.cmpi .slt v44 c0_i32_26
  let v49 : BitVec 1 := Scalar.xori v47 v48
  let c0_i32_24 : BitVec 32 := 0#32
  let v46 : BitVec 1 := Scalar.cmpi .ne v45 c0_i32_24
  let v50 : BitVec 1 := Scalar.andi v49 v46
  let v51 : BitVec 32 := Scalar.addi v45 v44
  let v52 : BitVec 32 := Scalar.select v50 v51 v45
  let c896_i32 : BitVec 32 := 896#32
  let v53 : BitVec 32 := Scalar.muli v52 c896_i32
  let v54 : BitVec 32 := v53
  let v75 : Index := Scalar.indexCast v54
  ![v74.toNat, v75.toNat]

def k0_chk4 (i : grid0.Coords) (v73 : BitVec 32) : Prop :=
  (∀ (k0_h5 : k0_cond5 i = 1#1), ∀ a, (k0_off45 i v73) a + S1x896.size a ≤ S20x1792.size a)
theorem k0_off45_inb : ∀ (i : grid0.Coords) (v73 : BitVec 32) (k0_hw4 : k0_chk4 i v73), ∀ (k0_h5 : k0_cond5 i = 1#1), ∀ a, (k0_off45 i v73) a + S1x896.size a ≤ S20x1792.size a := fun i v73 k0_hw4 k0_h5 => k0_hw4 k0_h5

def k0_cond6 (i : grid0.Coords) : BitVec 1 :=
  let arg0 : BitVec 32 := BitVec.ofNat 32 (i 0).val
  let c39_i32_34 : BitVec 32 := 39#32
  let v77 : BitVec 1 := Scalar.cmpi .eq arg0 c39_i32_34
  let v78 : BitVec 32 := Scalar.extui v77
  let c0_i32_35 : BitVec 32 := 0#32
  let v79 : BitVec 1 := Scalar.cmpi .ne v78 c0_i32_35
  v79

def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c39_i32 : BitVec 32 := 39#32
  let v1 : BitVec 32 := Scalar.minsi v0 c39_i32
  let c2_i32 : BitVec 32 := 2#32
  let c0_i32 : BitVec 32 := 0#32
  let v2 : BitVec 1 := Scalar.cmpi .eq c2_i32 c0_i32
  let c1_i32_0 : BitVec 32 := 1#32
  let v3 : BitVec 32 := Scalar.select v2 c1_i32_0 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![v11.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 1 := Scalar.cmpi .sge arg0 c38_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c38_i32_4 : BitVec 32 := 38#32
  let v12 : BitVec 1 := Scalar.cmpi .sge arg0 c38_i32_4
  let c0_i32_5 : BitVec 32 := 0#32
  let v13 : BitVec 32 := Scalar.select v12 arg1 c0_i32_5
  let c0_i32_6 : BitVec 32 := 0#32
  ![v11.toNat, v13.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c39_i32 : BitVec 32 := 39#32
  let v1 : BitVec 32 := Scalar.minsi v0 c39_i32
  let c38_i32 : BitVec 32 := 38#32
  let v2 : BitVec 1 := Scalar.cmpi .sge v1 c38_i32
  let c1_i32_0 : BitVec 32 := 1#32
  let v3 : BitVec 32 := Scalar.addi arg0 c1_i32_0
  let c39_i32_1 : BitVec 32 := 39#32
  let v4 : BitVec 32 := Scalar.minsi v3 c39_i32_1
  let c2_i32 : BitVec 32 := 2#32
  let c0_i32 : BitVec 32 := 0#32
  let v5 : BitVec 1 := Scalar.cmpi .eq c2_i32 c0_i32
  let c1_i32_2 : BitVec 32 := 1#32
  let v6 : BitVec 32 := Scalar.select v5 c1_i32_2 c2_i32
  let v7 : BitVec 32 := Scalar.remsi v4 v6
  let c0_i32_3 : BitVec 32 := 0#32
  let v8 : BitVec 1 := Scalar.cmpi .ne v7 c0_i32_3
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let v12 : BitVec 1 := Scalar.andi v11 v8
  let v13 : BitVec 32 := Scalar.addi v7 v6
  let v14 : BitVec 32 := Scalar.select v12 v13 v7
  let c0_i32_6 : BitVec 32 := 0#32
  let v15 : BitVec 32 := Scalar.select v2 v14 c0_i32_6
  let c1_i32_7 : BitVec 32 := 1#32
  let v16 : BitVec 32 := Scalar.addi arg0 c1_i32_7
  let c39_i32_8 : BitVec 32 := 39#32
  let v17 : BitVec 32 := Scalar.minsi v16 c39_i32_8
  let c38_i32_9 : BitVec 32 := 38#32
  let v18 : BitVec 1 := Scalar.cmpi .sge v17 c38_i32_9
  let c0_i32_10 : BitVec 32 := 0#32
  let v19 : BitVec 32 := Scalar.select v18 arg1 c0_i32_10
  let c0_i32_11 : BitVec 32 := 0#32
  ![v15.toNat, v19.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c39_i32 : BitVec 32 := 39#32
  let v1 : BitVec 32 := Scalar.minsi v0 c39_i32
  let c38_i32 : BitVec 32 := 38#32
  let v2 : BitVec 1 := Scalar.cmpi .sge v1 c38_i32
  let c1_i32_0 : BitVec 32 := 1#32
  let v3 : BitVec 32 := Scalar.addi arg0 c1_i32_0
  let c39_i32_1 : BitVec 32 := 39#32
  let v4 : BitVec 32 := Scalar.minsi v3 c39_i32_1
  let c2_i32 : BitVec 32 := 2#32
  let c0_i32 : BitVec 32 := 0#32
  let v5 : BitVec 1 := Scalar.cmpi .eq c2_i32 c0_i32
  let c1_i32_2 : BitVec 32 := 1#32
  let v6 : BitVec 32 := Scalar.select v5 c1_i32_2 c2_i32
  let v7 : BitVec 32 := Scalar.remsi v4 v6
  let c0_i32_3 : BitVec 32 := 0#32
  let v8 : BitVec 1 := Scalar.cmpi .ne v7 c0_i32_3
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let v12 : BitVec 1 := Scalar.andi v11 v8
  let v13 : BitVec 32 := Scalar.addi v7 v6
  let v14 : BitVec 32 := Scalar.select v12 v13 v7
  let c0_i32_6 : BitVec 32 := 0#32
  let v15 : BitVec 32 := Scalar.select v2 v14 c0_i32_6
  let c0_i32_7 : BitVec 32 := 0#32
  let c0_i32_8 : BitVec 32 := 0#32
  ![v15.toNat, c0_i32_7.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c39_i32 : BitVec 32 := 39#32
  let v1 : BitVec 32 := Scalar.minsi v0 c39_i32
  let c38_i32 : BitVec 32 := 38#32
  let v2 : BitVec 1 := Scalar.cmpi .sge v1 c38_i32
  let c1_i32_0 : BitVec 32 := 1#32
  let v3 : BitVec 32 := Scalar.addi arg0 c1_i32_0
  let c39_i32_1 : BitVec 32 := 39#32
  let v4 : BitVec 32 := Scalar.minsi v3 c39_i32_1
  let c2_i32 : BitVec 32 := 2#32
  let c0_i32 : BitVec 32 := 0#32
  let v5 : BitVec 1 := Scalar.cmpi .eq c2_i32 c0_i32
  let c1_i32_2 : BitVec 32 := 1#32
  let v6 : BitVec 32 := Scalar.select v5 c1_i32_2 c2_i32
  let v7 : BitVec 32 := Scalar.remsi v4 v6
  let c0_i32_3 : BitVec 32 := 0#32
  let v8 : BitVec 1 := Scalar.cmpi .ne v7 c0_i32_3
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let v12 : BitVec 1 := Scalar.andi v11 v8
  let v13 : BitVec 32 := Scalar.addi v7 v6
  let v14 : BitVec 32 := Scalar.select v12 v13 v7
  let c0_i32_6 : BitVec 32 := 0#32
  let v15 : BitVec 32 := Scalar.select v2 v14 c0_i32_6
  let c0_i32_7 : BitVec 32 := 0#32
  let c0_i32_8 : BitVec 32 := 0#32
  ![v15.toNat, c0_i32_7.toNat]

abbrev stage0_0 : Fin 1 → Memref sig .tc .smem S14x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S896x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S896x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5120x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S20x1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S20x1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S20x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S20x1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S896x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S896x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S896x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S896x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S1 : Shape := ⟨1, ![1]⟩
abbrev S14x40 : Shape := ⟨2, ![14, 40]⟩
abbrev S1792x5120 : Shape := ⟨2, ![1792, 5120]⟩
abbrev S5120x5120 : Shape := ⟨2, ![5120, 5120]⟩
abbrev S20x1x5120 : Shape := ⟨3, ![20, 1, 5120]⟩
abbrev S5120 : Shape := ⟨1, ![5120]⟩
abbrev S_ : Shape := ⟨0, ![]⟩
abbrev S1x1x5120 : Shape := ⟨3, ![1, 1, 5120]⟩
abbrev S21x1x5120 : Shape := ⟨3, ![21, 1, 5120]⟩
abbrev S1x5120 : Shape := ⟨2, ![1, 5120]⟩
abbrev S20x128 : Shape := ⟨2, ![20, 128]⟩
abbrev S20x1792 : Shape := ⟨2, ![20, 1792]⟩
abbrev S14x128x40x128 : Shape := ⟨4, ![14, 128, 40, 128]⟩
abbrev S14x1x40x1 : Shape := ⟨4, ![14, 1, 40, 1]⟩
abbrev S1x1792x5120 : Shape := ⟨3, ![1, 1792, 5120]⟩
abbrev S21x1792x5120 : Shape := ⟨3, ![21, 1792, 5120]⟩
abbrev S21x1792x40x128 : Shape := ⟨4, ![21, 1792, 40, 128]⟩
abbrev S21x1792x40 : Shape := ⟨3, ![21, 1792, 40]⟩
abbrev S21x1792x40x1 : Shape := ⟨4, ![21, 1792, 40, 1]⟩
abbrev S37632x5120 : Shape := ⟨2, ![37632, 5120]⟩
abbrev S21x1792 : Shape := ⟨2, ![21, 1792]⟩
abbrev S20x1280 : Shape := ⟨2, ![20, 1280]⟩
abbrev S20 : Shape := ⟨1, ![20]⟩
abbrev S20x1 : Shape := ⟨2, ![20, 1]⟩
abbrev S20x256 : Shape := ⟨2, ![20, 256]⟩

abbrev nBuf : Space → Nat
  | .hbm => 20
  | .vmem => 8
  | .smem => 0
  | _ => 0

abbrev bufTy : (tb : Table) → Fin (tcTables nBuf tb) → BufTy
  | .hbm, ⟨0, _⟩ => ⟨S1, .i32⟩
  | .hbm, ⟨1, _⟩ => ⟨S14x40, .f32⟩
  | .hbm, ⟨2, _⟩ => ⟨S1792x5120, .fp8e4m3⟩
  | .hbm, ⟨3, _⟩ => ⟨S5120x5120, .bf16⟩
  | .hbm, ⟨4, _⟩ => ⟨S20x1x5120, .f32⟩
  | .hbm, ⟨5, _⟩ => ⟨S5120, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1x1x5120, .f32⟩
  | .hbm, ⟨15, _⟩ => ⟨S21x1x5120, .f32⟩
  | .hbm, ⟨16, _⟩ => ⟨S1x5120, .f32⟩
  | .hbm, ⟨17, _⟩ => ⟨S20x128, .f32⟩
  | .hbm, ⟨18, _⟩ => ⟨S20x1792, .f32⟩
  | .hbm, ⟨19, _⟩ => ⟨S1792x5120, .bf16⟩
  | .local _ .vmem, ⟨0, _⟩ => ⟨S14x40, .f32⟩
  | .local _ .vmem, ⟨1, _⟩ => ⟨S1792x5120, .fp8e4m3⟩
  | .local _ .vmem, ⟨2, _⟩ => ⟨S5120x5120, .bf16⟩
  | .local _ .vmem, ⟨3, _⟩ => ⟨S21x1x5120, .f32⟩
  | .local _ .vmem, ⟨4, _⟩ => ⟨S1x5120, .f32⟩
  | .local _ .vmem, ⟨5, _⟩ => ⟨S20x128, .f32⟩
  | .local _ .vmem, ⟨6, _⟩ => ⟨S20x1792, .f32⟩
  | .local _ .vmem, ⟨7, _⟩ => ⟨S1792x5120, .bf16⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_c_0 : Ref sig .tc := ⟨.hbm, 9, rfl⟩
abbrev main_call0_v1 : Ref sig .tc := ⟨.hbm, 10, rfl⟩
abbrev main_call0_v2 : Ref sig .tc := ⟨.hbm, 11, rfl⟩
abbrev main_call0_c_1 : Ref sig .tc := ⟨.hbm, 12, rfl⟩
abbrev main_call0_c_2 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S14x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21x1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Block.lean ====
/- One group of weights — 128 rows by 128 columns — quantised and turned back into an error, as the search kernel does
   it: the arithmetic on the values the group loads (`gW` … `gQi`), and the group, row block and column block as programs
   of memory operations over any buffers. The kernel's printed body repeats them 84 times; everything about them is
   proved once here and in the modules that build on this one. -/
module

public import Idealize.ShloMosaic.Lib.Pipeline
public import Idealize.ShloMosaic.Lib.Scf
public import Idealize.ShloMosaic.Lib.Sig
public import Idealize.ShloMosaic.Lib.Exec
public import Idealize.ShloMosaic.PureOps

@[expose] public section

set_option maxRecDepth 16384

noncomputable section

namespace Cert.Search

open Idealize.ShloMosaic Idealize.SL.Sem

/-! ### Shapes -/

abbrev S1 : Shape := ⟨1, ![1]⟩
abbrev S1x1 : Shape := ⟨2, ![1, 1]⟩
abbrev S20 : Shape := ⟨1, ![20]⟩
abbrev S128 : Shape := ⟨1, ![128]⟩
abbrev S896 : Shape := ⟨1, ![896]⟩
abbrev S14x40 : Shape := ⟨2, ![14, 40]⟩
abbrev S1x128 : Shape := ⟨2, ![1, 128]⟩
abbrev S128x1 : Shape := ⟨2, ![128, 1]⟩
abbrev S128x128 : Shape := ⟨2, ![128, 128]⟩
abbrev S1x1x128 : Shape := ⟨3, ![1, 1, 128]⟩
abbrev S20x1x5120 : Shape := ⟨3, ![20, 1, 5120]⟩
abbrev S896x128 : Shape := ⟨2, ![896, 128]⟩
abbrev S896x512 : Shape := ⟨2, ![896, 512]⟩
abbrev S896x5120 : Shape := ⟨2, ![896, 5120]⟩
abbrev S5120x512 : Shape := ⟨2, ![5120, 512]⟩
abbrev S1x512 : Shape := ⟨2, ![1, 512]⟩
abbrev S1x5120 : Shape := ⟨2, ![1, 5120]⟩
abbrev S1x896 : Shape := ⟨2, ![1, 896]⟩
abbrev S128x896 : Shape := ⟨2, ![128, 896]⟩
abbrev S20x1 : Shape := ⟨2, ![20, 1]⟩
abbrev S20x128 : Shape := ⟨2, ![20, 128]⟩
abbrev S20x256 : Shape := ⟨2, ![20, 256]⟩
abbrev S20x1280 : Shape := ⟨2, ![20, 1280]⟩
abbrev S20x1792 : Shape := ⟨2, ![20, 1792]⟩

/-! ### Facts of those shapes -/

theorem numel1_S1 : S1.numel = 1 := by decide
theorem numel1_S1x1 : S1x1.numel = 1 := by decide
theorem h_S1x1x128 : 0 < S1x1x128.numel := by decide
theorem h_S128x128 : 0 < S128x128.numel := by decide
theorem shapeCasts_S1x1x128_S1x128 : S1x1x128.ShapeCasts S1x128 := by decide
theorem shapeCasts_S128_S128x1 : S128.ShapeCasts S128x1 := by decide
theorem shapeCasts_S128x1_S128x1 : S128x1.ShapeCasts S128x1 := by decide
theorem shapeCasts_S128x128_S128x128 : S128x128.ShapeCasts S128x128 := by decide
theorem bitsLt_fp8e4m3_f32 : FTy.bits .fp8e4m3 < FTy.bits .f32 := by decide
theorem bitsLt_bf16_f32 : FTy.bits .bf16 < FTy.bits .f32 := by decide
theorem natLt_8_32 : 8 < 32 := by decide
theorem broadcasts_S1x128_S128x128 : S1x128.Broadcasts S128x128 := by decide
theorem broadcasts_S128x1_S128x128 : S128x1.Broadcasts S128x128 := by decide
theorem reduces_S128x128_S128 : S128x128.Reduces [1] S128 := by decide
theorem h_S896x128 : 0 < S896x128.numel := by decide
theorem h_S896x512 : 0 < S896x512.numel := by decide
theorem h_S896x5120 : 0 < S896x5120.numel := by decide
theorem h_S5120x512 : 0 < S5120x512.numel := by decide
theorem h_S1x512 : 0 < S1x512.numel := by decide
theorem h_S1x896 : 0 < S1x896.numel := by decide
theorem h_S20x128 : 0 < S20x128.numel := by decide
theorem h_S20x1792 : 0 < S20x1792.numel := by decide
theorem inb_S896x128_S896x128 : ∀ a, (![0, 0] : Fin 2 → Nat) a + S896x128.size a ≤ S896x128.size a := by decide
theorem inb_S896x512_S896x512 : ∀ a, (![0, 0] : Fin 2 → Nat) a + S896x512.size a ≤ S896x512.size a := by decide
theorem inb_S896x5120_S896x5120 : ∀ a, (![0, 0] : Fin 2 → Nat) a + S896x5120.size a ≤ S896x5120.size a := by decide
theorem inb_S5120x512_S5120x512 : ∀ a, (![0, 0] : Fin 2 → Nat) a + S5120x512.size a ≤ S5120x512.size a := by decide
theorem inb_S20x128_S20x128 : ∀ a, (![0, 0] : Fin 2 → Nat) a + S20x128.size a ≤ S20x128.size a := by decide
theorem inb_S20x1792_S20x1792 : ∀ a, (![0, 0] : Fin 2 → Nat) a + S20x1792.size a ≤ S20x1792.size a := by decide
theorem packedbf16_S896x512 : (Rect.unit (s := S896x512) ![0, 0] S896x512.size inb_S896x512_S896x512).PackedRows (EltTy.packing .bf16) := by decide
theorem inb_codes {rb j : Nat} (h : rb < 7) (h' : j < 4) :
    ∀ a, (![128 * rb, 128 * j] : Fin 2 → Nat) a + S128x128.size a ≤ S896x512.size a := by
  intro a; fin_cases a <;> simp <;> omega
theorem inb_lanes {rb : Nat} (h : rb < 7) :
    ∀ a, (![128 * rb, 0] : Fin 2 → Nat) a + S128x128.size a ≤ S896x128.size a := by
  intro a; fin_cases a <;> simp <;> omega
theorem shapeCasts_S1x512_S1x512 : S1x512.ShapeCasts S1x512 := by decide
theorem broadcasts_S1x512_S896x512 : S1x512.Broadcasts S896x512 := by decide
theorem shapeCasts_S896x128_S896x128 : S896x128.ShapeCasts S896x128 := by decide
theorem shapeCasts_S896_S1x896 : S896.ShapeCasts S1x896 := by decide
theorem slices_0 : S896x512.Slices ![0, 0] S896x128 := by decide
theorem slices_128 : S896x512.Slices ![0, 128] S896x128 := by decide
theorem slices_256 : S896x512.Slices ![0, 256] S896x128 := by decide
theorem slices_384 : S896x512.Slices ![0, 384] S896x128 := by decide
theorem transposes_S896x128 : S896x128.Transposes [1, 0] S128x896 := by decide
theorem reduces_S128x896_S896 : S128x896.Reduces [0] S896 := by decide
theorem shapeCasts_S20x1792 : S20x1792.ShapeCasts S20x1792 := by decide
theorem shapeCasts_S20_S20x1 : S20.ShapeCasts S20x1 := by decide
theorem shapeCasts_S20x1_S20x1 : S20x1.ShapeCasts S20x1 := by decide
theorem broadcasts_S20x1_S20x128 : S20x1.Broadcasts S20x128 := by decide
theorem reduces_S20x1280_S20 : S20x1280.Reduces [1] S20 := by decide
theorem reduces_S20x256_S20 : S20x256.Reduces [1] S20 := by decide
theorem slices_e0 : S20x1792.Slices ![0, 0] S20x1280 := by decide
theorem slices_e1 : S20x1792.Slices ![0, 1280] S20x256 := by decide
theorem slices_e2 : S20x1792.Slices ![0, 1536] S20x256 := by decide
theorem iota_S20x128 : S20x128.Iotas .tc 32 [1] := by decide
theorem iota_S128x128_d1_w32 : S128x128.Iotas .tc 32 [1] := by decide

variable {F : FTy → Type} [FloatOps F]

/-! ### The arithmetic of one group -/

/-- The group's weights: the codes times the block's scale. -/
def gW (ws : F .f32) (cd : FVec F S128x128 .fp8e4m3) : FVec F S128x128 .f32 :=
  mulf (extf .f32 cd bitsLt_fp8e4m3_f32) (broadcast S128x128 ws)

/-- The weights scaled by the candidate's channel scales. -/
def gG (ws : F .f32) (s : FVec F S1x1x128 .f32) (cd : FVec F S128x128 .fp8e4m3) : FVec F S128x128 .f32 :=
  mulf (gW ws cd) (broadcastTo S128x128 (shapeCast S1x128 s shapeCasts_S1x1x128_S1x128) broadcasts_S1x128_S128x128)

/-- Each row's least scaled weight. -/
def gLo (g : FVec F S128x128 .f32) : FVec F S128x1 .f32 :=
  shapeCast S128x1 (multiReduction .minimumf [1] S128 g 0x7F800000#32 reduces_S128x128_S128 (.inl rfl) rfl) shapeCasts_S128_S128x1

/-- Each row's quantisation step. -/
def gSf (g : FVec F S128x128 .f32) : FVec F S128x1 .f32 :=
  extf .f32 (truncf .bf16 (divf (maximumf (subf
    (shapeCast S128x1 (multiReduction .maximumf [1] S128 g 0xFF800000#32 reduces_S128x128_S128 (.inl rfl) rfl) shapeCasts_S128_S128x1)
    (gLo g)) (broadcast S128x1 (Scalar.ofBits .f32 0x3727C5AC#32))) (broadcast S128x1 (Scalar.ofBits .f32 0x41700000#32)))
    bitsLt_bf16_f32) bitsLt_bf16_f32

/-- The steps' reciprocals. -/
def gRsf (g : FVec F S128x128 .f32) : FVec F S128x1 .f32 :=
  divf (broadcast S128x1 (Scalar.ofBits .f32 0x3F800000#32)) (gSf g)

/-- Each row's zero point. -/
def gZero (g : FVec F S128x128 .f32) : FVec F S128x1 .f32 :=
  minimumf (broadcast S128x1 (Scalar.ofBits .f32 0x41700000#32))
    (maximumf (broadcast S128x1 (Scalar.ofBits .f32 0x00000000#32))
      (roundeven (mulf (subf (broadcast S128x1 (Scalar.ofBits .f32 0x00000000#32)) (gLo g)) (gRsf g))))

/-- The codes the group is quantised to. -/
def gQ (g : FVec F S128x128 .f32) : FVec F S128x128 .f32 :=
  minimumf (broadcast S128x128 (Scalar.ofBits .f32 0x41700000#32))
    (maximumf (broadcast S128x128 (Scalar.ofBits .f32 0x00000000#32))
      (addf (roundeven (mulf g (broadcastTo S128x128 (gRsf g) broadcasts_S128x1_S128x128)))
        (broadcastTo S128x128 (gZero g) broadcasts_S128x1_S128x128)))

/-- The error the quantised group makes: its codes decoded and divided by the channel scales, less the weights. -/
def gD (ws : F .f32) (s rs : FVec F S1x1x128 .f32) (cd : FVec F S128x128 .fp8e4m3) : FVec F S128x128 .bf16 :=
  shapeCast S128x128 (truncf .bf16 (subf
    (mulf (mulf (subf (gQ (gG ws s cd)) (broadcastTo S128x128 (gZero (gG ws s cd)) broadcasts_S128x1_S128x128))
      (broadcastTo S128x128 (gSf (gG ws s cd)) broadcasts_S128x1_S128x128))
      (broadcastTo S128x128 (shapeCast S1x128 rs shapeCasts_S1x1x128_S1x128) broadcasts_S1x128_S128x128))
    (gW ws cd)) bitsLt_bf16_f32) shapeCasts_S128x128_S128x128

/-- The codes as bytes. -/
def gQi (g : FVec F S128x128 .f32) : IVec S128x128 8 := trunci 8 (fptosi 32 (gQ g)) natLt_8_32

/-- A column of 128 values put in lane `lane` of `acc`. -/
def putLane (lane : BitVec 32) (x : FVec F S128x1 .f32) (acc : FVec F S128x128 .f32) : FVec F S128x128 .f32 :=
  select (cmpi .eq (iota .tc S128x128 32 [1] iota_S128x128_d1_w32) (broadcast S128x128 lane))
    (broadcastTo S128x128 (shapeCast S128x1 x shapeCasts_S128x1_S128x1) broadcasts_S128x1_S128x128) acc

/-! ### The group as a program -/

variable {nD : Nat} {τ : Topo} {sig : RefSig} {Λ₀ : Labels}

/-- The offset pair of a group in a slab. -/
abbrev at2 (a b : Nat) : Fin 2 → Nat := ![a, b]

/-- One group that only leaves its error: loads the block's scale, the channel scales, their reciprocals and the codes,
    and stores the error. -/
def groupD (wscale : Memref sig .tc .smem S14x40 .f32) (sr rsr : Memref sig .tc .vmem S20x1x5120 .f32)
    (codes : Memref sig .tc .vmem S896x512 .fp8e4m3) (d : Memref sig .tc .vmem S896x5120 .bf16) (hd : d.IsWhole)
    (ow : Fin 2 → Nat) (hw : ∀ a, ow a + S1x1.size a ≤ S14x40.size a)
    (os : Fin 3 → Nat) (hs : ∀ a, os a + S1x1x128.size a ≤ S20x1x5120.size a)
    (oc : Fin 2 → Nat) (hc : ∀ a, oc a + S128x128.size a ≤ S896x512.size a)
    (od : Fin 2 → Nat) (hod : ∀ a, od a + S128x128.size a ≤ S896x5120.size a)
    (hpd : (Rect.unit (s := S896x5120) od S128x128.size hod).PackedRows (EltTy.packing .bf16)) :
    Prog (TpuEff nD τ sig (Elt F) Λ₀ .tc) PUnit := do
  let ws : Elt F .f32 ← smemLoad wscale (Rect.unit (s := S14x40) ow S1x1.size hw) numel1_S1x1 rfl
  let s : Vec F S1x1x128 .f32 ← Prog.lift (.load sr (Rect.unit (s := S20x1x5120) os S1x1x128.size hs).toLoadRect (View.loadsAt_vmem h_S1x1x128))
  let rs : Vec F S1x1x128 .f32 ← Prog.lift (.load rsr (Rect.unit (s := S20x1x5120) os S1x1x128.size hs).toLoadRect (View.loadsAt_vmem h_S1x1x128))
  let cd : Vec F S128x128 .fp8e4m3 ← Prog.lift (.load codes (Rect.unit (s := S896x512) oc S128x128.size hc).toLoadRect (View.loadsAt_vmem h_S128x128))
  let _old : Vec F S128x128 .bf16 ← Prog.lift (.load d (Rect.unit (s := S896x5120) od S128x128.size hod).toLoadRect (View.loadsAt_vmem h_S128x128))
  Prog.lift (.store d (Rect.unit (s := S896x5120) od S128x128.size hod) (gD ws s rs cd) Finset.univ
    (View.stores_vmem h_S128x128 (hd.storeExact_slice rfl _ hpd) (fun _ => rfl)) (.inl rfl))

/-- One group that also leaves its codes, and passes on the row block's steps and zero points with the group's own put in. -/
def groupE (wscale : Memref sig .tc .smem S14x40 .f32) (sr rsr : Memref sig .tc .vmem S20x1x5120 .f32)
    (codes : Memref sig .tc .vmem S896x512 .fp8e4m3) (d : Memref sig .tc .vmem S896x5120 .bf16) (hd : d.IsWhole)
    (q : Memref sig .tc .vmem S896x512 .i8) (hq : q.IsWhole) (lane : BitVec 32)
    (ow : Fin 2 → Nat) (hw : ∀ a, ow a + S1x1.size a ≤ S14x40.size a)
    (os : Fin 3 → Nat) (hs : ∀ a, os a + S1x1x128.size a ≤ S20x1x5120.size a)
    (oc : Fin 2 → Nat) (hc : ∀ a, oc a + S128x128.size a ≤ S896x512.size a)
    (hpc : (Rect.unit (s := S896x512) oc S128x128.size hc).PackedRows (EltTy.packing .i8))
    (od : Fin 2 → Nat) (hod : ∀ a, od a + S128x128.size a ≤ S896x5120.size a)
    (hpd : (Rect.unit (s := S896x5120) od S128x128.size hod).PackedRows (EltTy.packing .bf16))
    (acc : FVec F S128x128 .f32 × FVec F S128x128 .f32) :
    Prog (TpuEff nD τ sig (Elt F) Λ₀ .tc) (FVec F S128x128 .f32 × FVec F S128x128 .f32) := do
  let ws : Elt F .f32 ← smemLoad wscale (Rect.unit (s := S14x40) ow S1x1.size hw) numel1_S1x1 rfl
  let s : Vec F S1x1x128 .f32 ← Prog.lift (.load sr (Rect.unit (s := S20x1x5120) os S1x1x128.size hs).toLoadRect (View.loadsAt_vmem h_S1x1x128))
  let rs : Vec F S1x1x128 .f32 ← Prog.lift (.load rsr (Rect.unit (s := S20x1x5120) os S1x1x128.size hs).toLoadRect (View.loadsAt_vmem h_S1x1x128))
  let cd : Vec F S128x128 .fp8e4m3 ← Prog.lift (.load codes (Rect.unit (s := S896x512) oc S128x128.size hc).toLoadRect (View.loadsAt_vmem h_S128x128))
  let _old : Vec F S128x128 .bf16 ← Prog.lift (.load d (Rect.unit (s := S896x5120) od S128x128.size hod).toLoadRect (View.loadsAt_vmem h_S128x128))
  Prog.lift (.store d (Rect.unit (s := S896x5120) od S128x128.size hod) (gD ws s rs cd) Finset.univ
    (View.stores_vmem h_S128x128 (hd.storeExact_slice rfl _ hpd) (fun _ => rfl)) (.inl rfl))
  let _oldq : Vec F S128x128 .i8 ← Prog.lift (.load q (Rect.unit (s := S896x512) oc S128x128.size hc).toLoadRect (View.loadsAt_vmem h_S128x128))
  Prog.lift (.store q (Rect.unit (s := S896x512) oc S128x128.size hc) (gQi (gG ws s cd)) Finset.univ
    (View.stores_vmem h_S128x128 (hq.storeExact_slice rfl _ hpc) (fun _ => rfl)) (.inl rfl))
  pure (putLane lane (gSf (gG ws s cd)) acc.1, putLane lane (gZero (gG ws s cd)) acc.2)

end Cert.Search
-- ==== Proof.Step.lean ====
/- The column step, the first block's loop trip, and the two closing pieces of the search kernel as programs over any
   buffers: a row block is four groups, a column step is seven row blocks and one product against the slab of the second
   moment. The printed body runs them with the offsets its own words compute (`Offs` lists what those words come to). -/
module

public import proofs.«01_k».proof.Proof.Block
public import Idealize.ShloMosaic.Lib.Affine
public import Idealize.ShloMosaic.Lib.Pipeline.Kit

@[expose] public section

set_option maxRecDepth 16384

noncomputable section

namespace Cert.Search

open Idealize.ShloMosaic Idealize.SL.Sem

theorem inb_codes_i8 {rb j : Nat} (h : rb < 7) (h' : j < 4) :
    (Rect.unit (s := S896x512) ![128 * rb, 128 * j] S128x128.size (inb_codes h h')).PackedRows (EltTy.packing .i8) :=
  Affine.packed_dvd (of_decide_eq_true rfl) (show 4 ∣ 128 * rb from ⟨32 * rb, by omega⟩) (by decide)

/-- The words one column step computes its offsets by, and what they come to: `R` is the first row block's row of the
    scale table, `n` the slab. -/
structure Offs where
  R : Nat
  n : Nat
  hR : R ≤ 7
  hn : n < 10
  /-- what the step assumes of the candidate's word -/
  chk : BitVec 32 → Prop
  dec : ∀ v, Decidable (chk v)
  chk_of : ∀ v : BitVec 32, v.toNat < 20 → chk v
  of_chk : ∀ v : BitVec 32, chk v → v.toNat < 20
  /-- where the candidate's word lies -/
  oo : Fin 1 → Nat
  hoo : ∀ a, oo a + S1.size a ≤ S20.size a
  ow : Nat → Nat → Fin 2 → Nat
  ow_eq : ∀ rb j, rb < 7 → j < 4 → ow rb j = ![R + rb, 4 * n + j]
  os : BitVec 32 → Nat → Fin 3 → Nat
  os_eq : ∀ v j, j < 4 → os v j = ![v.toNat, 0, 512 * n + 128 * j]
  od : Nat → Nat → Fin 2 → Nat
  od_eq : ∀ rb j, rb < 7 → j < 4 → od rb j = ![128 * rb, 512 * n + 128 * j]

namespace Offs
variable (O : Offs)

theorem hw {rb j : Nat} (h : rb < 7) (h' : j < 4) : ∀ a, O.ow rb j a + S1x1.size a ≤ S14x40.size a := by
  have := O.hR; have := O.hn
  rw [O.ow_eq rb j h h']; intro a; fin_cases a <;> simp <;> omega

theorem hs {v : BitVec 32} (hv : O.chk v) {j : Nat} (h' : j < 4) :
    ∀ a, O.os v j a + S1x1x128.size a ≤ S20x1x5120.size a := by
  have := O.of_chk v hv; have := O.hn
  rw [O.os_eq v j h']; intro a; fin_cases a <;> simp <;> omega

theorem hod {rb j : Nat} (h : rb < 7) (h' : j < 4) : ∀ a, O.od rb j a + S128x128.size a ≤ S896x5120.size a := by
  have := O.hn
  rw [O.od_eq rb j h h']; intro a; fin_cases a <;> simp <;> omega

theorem hpd {rb j : Nat} (h : rb < 7) (h' : j < 4) :
    (Rect.unit (s := S896x5120) (O.od rb j) S128x128.size (O.hod h h')).PackedRows (EltTy.packing .bf16) :=
  Affine.packed_dvd (of_decide_eq_true rfl)
    (show 2 ∣ O.od rb j 0 by rw [O.od_eq rb j h h']; exact ⟨64 * rb, by simp; omega⟩) (by decide)

end Offs

variable {F : FTy → Type} [FloatOps F]
variable {nD : Nat} {τ : Topo} {sig : RefSig} {Λ₀ : Labels}

/-- The body's buffers. -/
structure Bufs (sig : RefSig) where
  order : Memref sig .tc .smem S20 .i32
  wscale : Memref sig .tc .smem S14x40 .f32
  codes0 : Memref sig .tc .vmem S896x5120 .fp8e4m3
  codes : Memref sig .tc .vmem S896x512 .fp8e4m3
  h : Memref sig .tc .vmem S5120x512 .bf16
  s : Memref sig .tc .vmem S20x1x5120 .f32
  rs : Memref sig .tc .vmem S20x1x5120 .f32
  rxc : Memref sig .tc .vmem S1x5120 .f32
  err : Memref sig .tc .vmem S20x128 .f32
  rows : Memref sig .tc .vmem S20x1792 .f32
  dh : Memref sig .tc .vmem S896x512 .bf16
  q : Memref sig .tc .vmem S896x512 .i8
  sf : Memref sig .tc .vmem S896x128 .f32
  zero : Memref sig .tc .vmem S896x128 .f32
  d0 : Memref sig .tc .vmem S896x5120 .bf16
  d1 : Memref sig .tc .vmem S896x5120 .bf16
  acc : Memref sig .tc .vmem S896x128 .f32
  hdh : dh.IsWhole
  hq : q.IsWhole
  hd0 : d0.IsWhole
  hd1 : d1.IsWhole

/-! ### Row blocks -/

/-- Four groups of one row block, errors only. -/
def rowD (O : Offs) (B : Bufs sig) (codes : Memref sig .tc .vmem S896x512 .fp8e4m3) (v : BitVec 32) (hv : O.chk v)
    (rb : Nat) (h : rb < 7) : Prog (TpuEff nD τ sig (Elt F) Λ₀ .tc) PUnit := do
  groupD B.wscale B.s B.rs codes B.d0 B.hd0 (O.ow rb 0) (O.hw h (by decide)) (O.os v 0) (O.hs hv (by decide))
    ![128 * rb, 128 * 0] (inb_codes h (by decide)) (O.od rb 0) (O.hod h (by decide)) (O.hpd h (by decide))
  groupD B.wscale B.s B.rs codes B.d0 B.hd0 (O.ow rb 1) (O.hw h (by decide)) (O.os v 1) (O.hs hv (by decide))
    ![128 * rb, 128 * 1] (inb_codes h (by decide)) (O.od rb 1) (O.hod h (by decide)) (O.hpd h (by decide))
  groupD B.wscale B.s B.rs codes B.d0 B.hd0 (O.ow rb 2) (O.hw h (by decide)) (O.os v 2) (O.hs hv (by decide))
    ![128 * rb, 128 * 2] (inb_codes h (by decide)) (O.od rb 2) (O.hod h (by decide)) (O.hpd h (by decide))
  groupD B.wscale B.s B.rs codes B.d0 B.hd0 (O.ow rb 3) (O.hw h (by decide)) (O.os v 3) (O.hs hv (by decide))
    ![128 * rb, 128 * 3] (inb_codes h (by decide)) (O.od rb 3) (O.hod h (by decide)) (O.hpd h (by decide))

/-- The first `k` row blocks, errors only. -/
def rowsD (O : Offs) (B : Bufs sig) (codes : Memref sig .tc .vmem S896x512 .fp8e4m3) (v : BitVec 32) (hv : O.chk v) :
    (k : Nat) → k ≤ 7 → Prog (TpuEff nD τ sig (Elt F) Λ₀ .tc) PUnit
  | 0, _ => pure ⟨⟩
  | k + 1, h => do rowsD O B codes v hv k (Nat.le_of_succ_le h); rowD O B codes v hv k h

/-- One trip of the first block's loop. -/
def tripD (O : Offs) (B : Bufs sig) (codes : Memref sig .tc .vmem S896x512 .fp8e4m3) :
    Prog (TpuEff nD τ sig (Elt F) Λ₀ .tc) PUnit := do
  let v : Elt F .i32 ← smemLoad B.order (Rect.unit (s := S20) O.oo S1.size O.hoo) numel1_S1 rfl
  have hv : O.chk v := (← Prog.lift (TpuEff.assume (O.chk v) (O.dec v))).down
  rowsD O B codes v hv 7 le_rfl

/-- One row block of a column step: the steps and zero points of the earlier slabs are read, this slab's four put in. -/
def rowE (O : Offs) (B : Bufs sig) (nxt : Memref sig .tc .vmem S896x5120 .bf16) (hnxt : nxt.IsWhole)
    (lane : Nat → BitVec 32) (v : BitVec 32) (hv : O.chk v) (rb : Nat) (h : rb < 7) :
    Prog (TpuEff nD τ sig (Elt F) Λ₀ .tc) PUnit := do
  let sf : Vec F S128x128 .f32 ← Prog.lift (.load B.sf (Rect.unit (s := S896x128) ![128 * rb, 0] S128x128.size (inb_lanes h)).toLoadRect (View.loadsAt_vmem h_S128x128))
  let zr : Vec F S128x128 .f32 ← Prog.lift (.load B.zero (Rect.unit (s := S896x128) ![128 * rb, 0] S128x128.size (inb_lanes h)).toLoadRect (View.loadsAt_vmem h_S128x128))
  let a0 ← groupE B.wscale B.s B.rs B.codes nxt hnxt B.q B.hq (lane 0) (O.ow rb 0) (O.hw h (by decide)) (O.os v 0) (O.hs hv (by decide))
    ![128 * rb, 128 * 0] (inb_codes h (by decide)) (inb_codes_i8 h (by decide)) (O.od rb 0) (O.hod h (by decide)) (O.hpd h (by decide))
    (shapeCast S128x128 sf shapeCasts_S128x128_S128x128, shapeCast S128x128 zr shapeCasts_S128x128_S128x128)
  let a1 ← groupE B.wscale B.s B.rs B.codes nxt hnxt B.q B.hq (lane 1) (O.ow rb 1) (O.hw h (by decide)) (O.os v 1) (O.hs hv (by decide))
    ![128 * rb, 128 * 1] (inb_codes h (by decide)) (inb_codes_i8 h (by decide)) (O.od rb 1) (O.hod h (by decide)) (O.hpd h (by decide)) a0
  let a2 ← groupE B.wscale B.s B.rs B.codes nxt hnxt B.q B.hq (lane 2) (O.ow rb 2) (O.hw h (by decide)) (O.os v 2) (O.hs hv (by decide))
    ![128 * rb, 128 * 2] (inb_codes h (by decide)) (inb_codes_i8 h (by decide)) (O.od rb 2) (O.hod h (by decide)) (O.hpd h (by decide)) a1
  let a3 ← groupE B.wscale B.s B.rs B.codes nxt hnxt B.q B.hq (lane 3) (O.ow rb 3) (O.hw h (by decide)) (O.os v 3) (O.hs hv (by decide))
    ![128 * rb, 128 * 3] (inb_codes h (by decide)) (inb_codes_i8 h (by decide)) (O.od rb 3) (O.hod h (by decide)) (O.hpd h (by decide)) a2
  let _o : Vec F S128x128 .f32 ← Prog.lift (.load B.sf (Rect.unit (s := S896x128) ![128 * rb, 0] S128x128.size (inb_lanes h)).toLoadRect (View.loadsAt_vmem h_S128x128))
  Prog.lift (.store B.sf (Rect.unit (s := S896x128) ![128 * rb, 0] S128x128.size (inb_lanes h)) a3.1 Finset.univ (View.stores_vmem_bits_univ h_S128x128 rfl) (.inl rfl))
  let _o : Vec F S128x128 .f32 ← Prog.lift (.load B.zero (Rect.unit (s := S896x128) ![128 * rb, 0] S128x128.size (inb_lanes h)).toLoadRect (View.loadsAt_vmem h_S128x128))
  Prog.lift (.store B.zero (Rect.unit (s := S896x128) ![128 * rb, 0] S128x128.size (inb_lanes h)) a3.2 Finset.univ (View.stores_vmem_bits_univ h_S128x128 rfl) (.inl rfl))

/-- The first `k` row blocks of a column step. -/
def rowsE (O : Offs) (B : Bufs sig) (nxt : Memref sig .tc .vmem S896x5120 .bf16) (hnxt : nxt.IsWhole)
    (lane : Nat → BitVec 32) (v : BitVec 32) (hv : O.chk v) :
    (k : Nat) → k ≤ 7 → Prog (TpuEff nD τ sig (Elt F) Λ₀ .tc) PUnit
  | 0, _ => pure ⟨⟩
  | k + 1, h => do rowsE O B nxt hnxt lane v hv k (Nat.le_of_succ_le h); rowE O B nxt hnxt lane v hv k h

/-! ### The product -/

abbrev dotDims : DotDims S896x5120 S5120x512 S896x512 where
  lhsContracting := [1]
  rhsContracting := [0]
  lhsNonContracting := [0]
  rhsNonContracting := [1]
  lhsBatch := []
  rhsBatch := []
  wf := by decide

/-- The product of the block's error with the slab. -/
def tP (d : Vec F S896x5120 .bf16) (h : Vec F S5120x512 .bf16) : FVec F S896x512 .f32 :=
  matmul dotDims none d h (constant S896x512 .f32 0x00000000#32)

/-- What is kept of the product: in normalised units. -/
def tDh (p : FVec F S896x512 .f32) (rx : Vec F S1x512 .f32) : FVec F S896x512 .bf16 :=
  truncf .bf16 (mulf p (broadcastTo S896x512 (shapeCast S1x512 rx shapeCasts_S1x512_S1x512) broadcasts_S1x512_S896x512)) bitsLt_bf16_f32

/-- What the accumulator of row sums becomes: the slab's four lane blocks added on. -/
def tAcc (p : FVec F S896x512 .f32) (dc : Vec F S896x512 .bf16) (acc : Vec F S896x128 .f32) : FVec F S896x128 .f32 :=
  shapeCast S896x128 (addf acc
    (addf (addf (addf (extractStridedSlice S896x128 ![0, 0] (mulf p (extf .f32 dc bitsLt_bf16_f32)) slices_0)
                      (extractStridedSlice S896x128 ![0, 128] (mulf p (extf .f32 dc bitsLt_bf16_f32)) slices_128))
                (extractStridedSlice S896x128 ![0, 256] (mulf p (extf .f32 dc bitsLt_bf16_f32)) slices_256))
          (extractStridedSlice S896x128 ![0, 384] (mulf p (extf .f32 dc bitsLt_bf16_f32)) slices_384))) shapeCasts_S896x128_S896x128

/-- The product step: the current block's error against the slab, kept and added to the row sums. -/
def tailE (B : Bufs sig) (cur : Memref sig .tc .vmem S896x5120 .bf16)
    (orx : Fin 2 → Nat) (hrx : ∀ a, orx a + S1x512.size a ≤ S1x5120.size a)
    (odc : Fin 2 → Nat) (hdc : ∀ a, odc a + S896x512.size a ≤ S896x5120.size a) :
    Prog (TpuEff nD τ sig (Elt F) Λ₀ .tc) PUnit := do
  let d : Vec F S896x5120 .bf16 ← Prog.lift (.load cur (Rect.unit (s := S896x5120) ![0, 0] S896x5120.size inb_S896x5120_S896x5120).toLoadRect (View.loadsAt_vmem h_S896x5120))
  let h : Vec F S5120x512 .bf16 ← Prog.lift (.load B.h (Rect.unit (s := S5120x512) ![0, 0] S5120x512.size inb_S5120x512_S5120x512).toLoadRect (View.loadsAt_vmem h_S5120x512))
  let rx : Vec F S1x512 .f32 ← Prog.lift (.load B.rxc (Rect.unit (s := S1x5120) orx S1x512.size hrx).toLoadRect (View.loadsAt_vmem h_S1x512))
  let _o : Vec F S896x512 .bf16 ← Prog.lift (.load B.dh (Rect.unit (s := S896x512) ![0, 0] S896x512.size inb_S896x512_S896x512).toLoadRect (View.loadsAt_vmem h_S896x512))
  Prog.lift (.store B.dh (Rect.unit (s := S896x512) ![0, 0] S896x512.size inb_S896x512_S896x512) (tDh (tP d h) rx) Finset.univ (View.stores_vmem h_S896x512 (B.hdh.storeExact_slice rfl _ packedbf16_S896x512) (fun _ => rfl)) (.inl rfl))
  let dc : Vec F S896x512 .bf16 ← Prog.lift (.load cur (Rect.unit (s := S896x5120) odc S896x512.size hdc).toLoadRect (View.loadsAt_vmem h_S896x512))
  let acc : Vec F S896x128 .f32 ← Prog.lift (.load B.acc (Rect.unit (s := S896x128) ![0, 0] S896x128.size inb_S896x128_S896x128).toLoadRect (View.loadsAt_vmem h_S896x128))
  let _o : Vec F S896x128 .f32 ← Prog.lift (.load B.acc (Rect.unit (s := S896x128) ![0, 0] S896x128.size inb_S896x128_S896x128).toLoadRect (View.loadsAt_vmem h_S896x128))
  Prog.lift (.store B.acc (Rect.unit (s := S896x128) ![0, 0] S896x128.size inb_S896x128_S896x128) (tAcc (tP d h) dc acc) Finset.univ (View.stores_vmem_bits_univ h_S896x128 rfl) (.inl rfl))

/-- A whole column step. -/
def stepE (O : Offs) (B : Bufs sig) (cur : Memref sig .tc .vmem S896x5120 .bf16)
    (nxt : Memref sig .tc .vmem S896x5120 .bf16) (hnxt : nxt.IsWhole) (lane : Nat → BitVec 32)
    (orx : Fin 2 → Nat) (hrx : ∀ a, orx a + S1x512.size a ≤ S1x5120.size a)
    (odc : Fin 2 → Nat) (hdc : ∀ a, odc a + S896x512.size a ≤ S896x5120.size a) :
    Prog (TpuEff nD τ sig (Elt F) Λ₀ .tc) PUnit := do
  let v : Elt F .i32 ← smemLoad B.order (Rect.unit (s := S20) O.oo S1.size O.hoo) numel1_S1 rfl
  have hv : O.chk v := (← Prog.lift (TpuEff.assume (O.chk v) (O.dec v))).down
  rowsE O B nxt hnxt lane v hv 7 le_rfl
  tailE B cur orx hrx odc hdc

/-! ### Opening and closing pieces -/

/-- A block of lane sums cleared. -/
def zeros : FVec F S896x128 .f32 := broadcast S896x128 (Scalar.ofBits .f32 0x00000000#32 : F .f32)

/-- At a block's first slab the row sums, steps and zero points are cleared. -/
def clearE (B : Bufs sig) : Prog (TpuEff nD τ sig (Elt F) Λ₀ .tc) PUnit := do
  let _o : Vec F S896x128 .f32 ← Prog.lift (.load B.acc (Rect.unit (s := S896x128) ![0, 0] S896x128.size inb_S896x128_S896x128).toLoadRect (View.loadsAt_vmem h_S896x128))
  Prog.lift (.store B.acc (Rect.unit (s := S896x128) ![0, 0] S896x128.size inb_S896x128_S896x128) (shapeCast S896x128 (zeros (F := F)) shapeCasts_S896x128_S896x128) Finset.univ (View.stores_vmem_bits_univ h_S896x128 rfl) (.inl rfl))
  let _o : Vec F S896x128 .f32 ← Prog.lift (.load B.sf (Rect.unit (s := S896x128) ![0, 0] S896x128.size inb_S896x128_S896x128).toLoadRect (View.loadsAt_vmem h_S896x128))
  Prog.lift (.store B.sf (Rect.unit (s := S896x128) ![0, 0] S896x128.size inb_S896x128_S896x128) (zeros (F := F)) Finset.univ (View.stores_vmem_bits_univ h_S896x128 rfl) (.inl rfl))
  let _o : Vec F S896x128 .f32 ← Prog.lift (.load B.zero (Rect.unit (s := S896x128) ![0, 0] S896x128.size inb_S896x128_S896x128).toLoadRect (View.loadsAt_vmem h_S896x128))
  Prog.lift (.store B.zero (Rect.unit (s := S896x128) ![0, 0] S896x128.size inb_S896x128_S896x128) (zeros (F := F)) Finset.univ (View.stores_vmem_bits_univ h_S896x128 rfl) (.inl rfl))

/-- A row block's squared errors, from its lane sums. -/
def rowSum (acc : Vec F S896x128 .f32) : FVec F S1x896 .f32 :=
  shapeCast S1x896 (multiReduction .add [0] S896 (transpose S128x896 [1, 0] acc transposes_S896x128) 0x00000000#32 reduces_S128x896_S896 (.inl rfl) rfl) shapeCasts_S896_S1x896

/-- The three sums over ranges of output channels, in lanes 0, 1 and from 2 on. -/
def errOut (rows : Vec F S20x1792 .f32) : FVec F S20x128 .f32 :=
  select (cmpi .eq (iota .tc S20x128 32 [1] iota_S20x128) (broadcast S20x128 0#32))
    (broadcastTo S20x128 (shapeCast S20x1 (shapeCast S20x1 (multiReduction .add [1] S20 (extractStridedSlice S20x1280 ![0, 0] (shapeCast S20x1792 rows shapeCasts_S20x1792) slices_e0) 0x00000000#32 reduces_S20x1280_S20 (.inl rfl) rfl) shapeCasts_S20_S20x1) shapeCasts_S20x1_S20x1) broadcasts_S20x1_S20x128)
    (select (cmpi .eq (iota .tc S20x128 32 [1] iota_S20x128) (broadcast S20x128 1#32))
      (broadcastTo S20x128 (shapeCast S20x1 (shapeCast S20x1 (multiReduction .add [1] S20 (extractStridedSlice S20x256 ![0, 1280] (shapeCast S20x1792 rows shapeCasts_S20x1792) slices_e1) 0x00000000#32 reduces_S20x256_S20 (.inl rfl) rfl) shapeCasts_S20_S20x1) shapeCasts_S20x1_S20x1) broadcasts_S20x1_S20x128)
      (broadcastTo S20x128 (shapeCast S20x1 (shapeCast S20x1 (multiReduction .add [1] S20 (extractStridedSlice S20x256 ![0, 1536] (shapeCast S20x1792 rows shapeCasts_S20x1792) slices_e2) 0x00000000#32 reduces_S20x256_S20 (.inl rfl) rfl) shapeCasts_S20_S20x1) shapeCasts_S20x1_S20x1) broadcasts_S20x1_S20x128))

/-- The row block's sums put in their row of the candidate-by-channel array. -/
def rowsOutE (B : Bufs sig) (chk : BitVec 32 → Prop) (dec : ∀ v, Decidable (chk v))
    (oo : Fin 1 → Nat) (hoo : ∀ a, oo a + S1.size a ≤ S20.size a)
    (oe : BitVec 32 → Fin 2 → Nat) (hoe : ∀ v, chk v → ∀ a, oe v a + S1x896.size a ≤ S20x1792.size a) :
    Prog (TpuEff nD τ sig (Elt F) Λ₀ .tc) PUnit := do
  let acc : Vec F S896x128 .f32 ← Prog.lift (.load B.acc (Rect.unit (s := S896x128) ![0, 0] S896x128.size inb_S896x128_S896x128).toLoadRect (View.loadsAt_vmem h_S896x128))
  let v : Elt F .i32 ← smemLoad B.order (Rect.unit (s := S20) oo S1.size hoo) numel1_S1 rfl
  have hv : chk v := (← Prog.lift (TpuEff.assume (chk v) (dec v))).down
  let _o : Vec F S1x896 .f32 ← Prog.lift (.load B.rows (Rect.unit (s := S20x1792) (oe v) S1x896.size (hoe v hv)).toLoadRect (View.loadsAt_vmem h_S1x896))
  Prog.lift (.store B.rows (Rect.unit (s := S20x1792) (oe v) S1x896.size (hoe v hv)) (rowSum acc) Finset.univ (View.stores_vmem_bits_univ h_S1x896 rfl) (.inl rfl))

/-- The three sums of every candidate, from the whole array. -/
def errE (B : Bufs sig) : Prog (TpuEff nD τ sig (Elt F) Λ₀ .tc) PUnit := do
  let rows : Vec F S20x1792 .f32 ← Prog.lift (.load B.rows (Rect.unit (s := S20x1792) ![0, 0] S20x1792.size inb_S20x1792_S20x1792).toLoadRect (View.loadsAt_vmem h_S20x1792))
  let _o : Vec F S20x128 .f32 ← Prog.lift (.load B.err (Rect.unit (s := S20x128) ![0, 0] S20x128.size inb_S20x128_S20x128).toLoadRect (View.loadsAt_vmem h_S20x128))
  Prog.lift (.store B.err (Rect.unit (s := S20x128) ![0, 0] S20x128.size inb_S20x128_S20x128) (errOut rows) Finset.univ (View.stores_vmem_bits_univ h_S20x128 rfl) (.inl rfl))

end Cert.Search
-- ==== Proof.Body.lean ====
/- The printed body of the search kernel is the program of the modules before this one: the offsets its words compute,
   in closed form, and the equality of the two programs. -/
module

public import proofs.«01_k».proof.Proof.Step
public import proofs.«01_k».proof.Proof.Gen.Kernel

@[expose] public section

set_option maxRecDepth 16384

noncomputable section

namespace Cert.Kernel

open Idealize.ShloMosaic Idealize.SL.Sem Cert.Search
open Cert.Kernel.Gen

variable {F : FTy → Type} [FloatOps F]

/-- The scale table's row of the even column step's first row block. -/
theorem off22_eq : ∀ (i : grid0.Coords) (rb : Fin 7) (j : Fin 4),
    k0_off22 i (BitVec.ofNat 32 rb.val) (BitVec.ofNat 32 j.val)
      = ![7 * (min ((i 0).val + 1) 39 % 2) + rb.val, 4 * (i 1).val + j.val] := by decide +kernel

theorem off35_eq : ∀ (i : grid0.Coords) (rb : Fin 7) (j : Fin 4),
    k0_off35 i (BitVec.ofNat 32 rb.val) (BitVec.ofNat 32 j.val)
      = ![7 * (min ((i 0).val + 1) 39 % 2) + rb.val, 4 * (i 1).val + j.val] := by decide +kernel

theorem off5_eq : ∀ (t : Fin k0_t1_loop.trips) (j : Fin 4),
    k0_off5 t (BitVec.ofNat 32 j.val) 1 = 4 * t.val + j.val := by decide +kernel

theorem trips_eq : k0_t1_loop.trips = 10 := by decide +kernel

/-- The words of one trip of the first block's loop. -/
def offs1 (i : grid0.Coords) (h1 : k0_cond1 i = 1#1) (t : Fin k0_t1_loop.trips) : Offs where
  R := 0
  n := t.val
  hR := by omega
  hn := trips_eq ▸ t.isLt
  chk := k0_chk1 i t
  dec := k0_chk1.dec i t
  oo := ![0]
  hoo := by decide
  ow rb j := ![rb, k0_off5 t (BitVec.ofNat 32 j) 1]
  ow_eq rb j _ hj := by rw [off5_eq t ⟨j, hj⟩]; simp
  os v j := k0_off2 t v (BitVec.ofNat 32 (128 * j))
  os_eq v j hj := by
    have h := congrFun (k0_off4_eq t ⟨j, hj⟩) 1
    show ![(Scalar.indexCast v).toNat, 0, k0_off4 t (BitVec.ofNat 32 (128 * j)) 1] = _
    rw [h]; rfl
  od rb j := ![128 * rb, k0_off4 t (BitVec.ofNat 32 (128 * j)) 1]
  od_eq rb j _ hj := by rw [k0_off4_eq t ⟨j, hj⟩]; rfl
  chk_of v hv _ r := by
    have ht : t.val < 10 := trips_eq ▸ t.isLt
    have h := congrFun (k0_off4_eq t r) 1
    have e : k0_off2 t v (BitVec.ofNat 32 (128 * r.val)) = ![v.toNat, 0, 512 * t.val + 128 * r.val] := by
      show ![(Scalar.indexCast v).toNat, 0, k0_off4 t (BitVec.ofNat 32 (128 * r.val)) 1] = _
      rw [h]; rfl
    rw [e]; intro a; fin_cases a <;> simp <;> omega
  of_chk v hc := by
    have h := hc h1 0 0
    have e : k0_off2 t v (BitVec.ofNat 32 (128 * (0 : Fin 4).val)) 0 = v.toNat := rfl
    rw [e] at h
    have e2 : S1x1x128.size 0 = 1 := rfl
    have e3 : S20x1x5120.size 0 = 20 := rfl
    omega

/-- The words of the even column step. -/
def offs2 (i : grid0.Coords) (h3 : k0_cond3 i = 1#1) : Offs where
  R := 7 * (min ((i 0).val + 1) 39 % 2)
  n := (i 1).val
  hR := by omega
  hn := (i 1).isLt
  chk := k0_chk2 i
  dec := k0_chk2.dec i
  oo := k0_off18 i
  hoo := k0_off18_inb i h3
  ow rb j := k0_off22 i (BitVec.ofNat 32 rb) (BitVec.ofNat 32 j)
  ow_eq rb j hr hj := off22_eq i ⟨rb, hr⟩ ⟨j, hj⟩
  os v j := k0_off20 i v (BitVec.ofNat 32 (128 * j))
  os_eq v j hj := by
    have h := congrFun (k0_off21_eq i ⟨j, hj⟩) 1
    show ![(Scalar.indexCast v).toNat, 0, k0_off21 i (BitVec.ofNat 32 (128 * j)) 1] = _
    rw [h]; rfl
  od rb j := ![128 * rb, k0_off21 i (BitVec.ofNat 32 (128 * j)) 1]
  od_eq rb j _ hj := by rw [k0_off21_eq i ⟨j, hj⟩]; rfl
  chk_of v hv _ r := by
    have ht : (i 1).val < 10 := (i 1).isLt
    have h := congrFun (k0_off21_eq i r) 1
    have e : k0_off20 i v (BitVec.ofNat 32 (128 * r.val)) = ![v.toNat, 0, 512 * (i 1).val + 128 * r.val] := by
      show ![(Scalar.indexCast v).toNat, 0, k0_off21 i (BitVec.ofNat 32 (128 * r.val)) 1] = _
      rw [h]; rfl
    rw [e]; intro a; fin_cases a <;> simp <;> omega
  of_chk v hc := by
    have h := hc h3 0 0
    have e : k0_off20 i v (BitVec.ofNat 32 (128 * (0 : Fin 4).val)) 0 = v.toNat := rfl
    rw [e] at h
    have e2 : S1x1x128.size 0 = 1 := rfl
    have e3 : S20x1x5120.size 0 = 20 := rfl
    omega

/-- The words of the odd column step. -/
def offs3 (i : grid0.Coords) (h4 : k0_cond4 i = 1#1) : Offs where
  R := 7 * (min ((i 0).val + 1) 39 % 2)
  n := (i 1).val
  hR := by omega
  hn := (i 1).isLt
  chk := k0_chk3 i
  dec := k0_chk3.dec i
  oo := k0_off31 i
  hoo := k0_off31_inb i h4
  ow rb j := k0_off35 i (BitVec.ofNat 32 rb) (BitVec.ofNat 32 j)
  ow_eq rb j hr hj := off35_eq i ⟨rb, hr⟩ ⟨j, hj⟩
  os v j := k0_off33 i v (BitVec.ofNat 32 (128 * j))
  os_eq v j hj := by
    have h := congrFun (k0_off34_eq i ⟨j, hj⟩) 1
    show ![(Scalar.indexCast v).toNat, 0, k0_off34 i (BitVec.ofNat 32 (128 * j)) 1] = _
    rw [h]; rfl
  od rb j := ![128 * rb, k0_off34 i (BitVec.ofNat 32 (128 * j)) 1]
  od_eq rb j _ hj := by rw [k0_off34_eq i ⟨j, hj⟩]; rfl
  chk_of v hv _ r := by
    have ht : (i 1).val < 10 := (i 1).isLt
    have h := congrFun (k0_off34_eq i r) 1
    have e : k0_off33 i v (BitVec.ofNat 32 (128 * r.val)) = ![v.toNat, 0, 512 * (i 1).val + 128 * r.val] := by
      show ![(Scalar.indexCast v).toNat, 0, k0_off34 i (BitVec.ofNat 32 (128 * r.val)) 1] = _
      rw [h]; rfl
    rw [e]; intro a; fin_cases a <;> simp <;> omega
  of_chk v hc := by
    have h := hc h4 0 0
    have e : k0_off33 i v (BitVec.ofNat 32 (128 * (0 : Fin 4).val)) 0 = v.toNat := rfl
    rw [e] at h
    have e2 : S1x1x128.size 0 = 1 := rfl
    have e3 : S20x1x5120.size 0 = 20 := rfl
    omega

/-- The lane of the slab's group `j`, from the slab's word. -/
def lane (a : BitVec 32) (j : Nat) : BitVec 32 := Scalar.addi (Scalar.muli a 4#32) (BitVec.ofNat 32 j)

/-- The remainder of the step's word by two, as the body computes it. -/
def parity (arg0 : BitVec 32) : BitVec 32 :=
  let v24 := Scalar.select (Scalar.cmpi .eq 2#32 0#32) 1#32 2#32
  let v25 := Scalar.remsi arg0 v24
  Scalar.select (Scalar.andi (Scalar.xori (Scalar.cmpi .slt v25 0#32) (Scalar.cmpi .slt v24 0#32)) (Scalar.cmpi .ne v25 0#32))
    (Scalar.addi v25 v24) v25

/-- The first block's loop. -/
def initS (i : grid0.Coords) (h1 : k0_cond1 i = 1#1) (B : Bufs sig) : Prog (TpuEff nD τ sig (Elt F) Λ₀ .tc) PUnit :=
  Scf.Loop.for k0_t1_loop (k0_t1_ok i h1) ⟨⟩ fun t _ =>
    tripD (offs1 i h1 t) B (B.codes0.slice (Rect.unit (s := S896x5120) (k0_off3 t) S896x512.size (k0_off3_inb i t h1)) (fun _ => rfl))

/-- The even column step. -/
def evenS (i : grid0.Coords) (h3 : k0_cond3 i = 1#1) (B : Bufs sig) (a : BitVec 32) : Prog (TpuEff nD τ sig (Elt F) Λ₀ .tc) PUnit :=
  stepE (offs2 i h3) B B.d0 B.d1 B.hd1 (lane a) (k0_off29 i) (k0_off29_inb i h3) (k0_off30 i) (k0_off30_inb i h3)

/-- The odd column step. -/
def oddS (i : grid0.Coords) (h4 : k0_cond4 i = 1#1) (B : Bufs sig) (a : BitVec 32) : Prog (TpuEff nD τ sig (Elt F) Λ₀ .tc) PUnit :=
  stepE (offs3 i h4) B B.d1 B.d0 B.hd0 (lane a) (k0_off42 i) (k0_off42_inb i h4) (k0_off43 i) (k0_off43_inb i h4)

/-- The row block's sums put in their place. -/
def rowsOutS (i : grid0.Coords) (h5 : k0_cond5 i = 1#1) (B : Bufs sig) : Prog (TpuEff nD τ sig (Elt F) Λ₀ .tc) PUnit :=
  rowsOutE B (k0_chk4 i) (k0_chk4.dec i) (k0_off44 i) (k0_off44_inb i h5) (k0_off45 i) (fun v hv => k0_off45_inb i v hv h5)

/-- The body's first part: up to the even column step, and the words the rest goes on with. -/
def headS (i : grid0.Coords) (B : Bufs sig) : Prog (TpuEff nD τ sig (Elt F) Λ₀ .tc)
    (Σ' (_ : BitVec 32) (_ : BitVec 32) (_ : BitVec 32) (_ : BitVec 32), BitVec 32) := do
  if h1 : k0_cond1 i = 1#1 then initS i h1 B else pure ⟨⟩
  if _h2 : k0_cond2 i = 1#1 then clearE B else pure ⟨⟩
  if h3 : k0_cond3 i = 1#1 then evenS i h3 B (BitVec.ofNat 32 (i 1).val) else pure ⟨⟩
  pure ⟨BitVec.ofNat 32 (i 0).val, BitVec.ofNat 32 (i 1).val,
    Scalar.minsi (Scalar.addi (BitVec.ofNat 32 (i 0).val) 1#32) 39#32, parity (BitVec.ofNat 32 (i 0).val), 1#32⟩

/-- The body over the pieces of the modules before this one. -/
def bodyS (i : grid0.Coords) (B : Bufs sig) : Prog (TpuEff nD τ sig (Elt F) Λ₀ .tc) PUnit := do
  let r ← headS i B
  if h4 : k0_cond4 i = 1#1 then oddS i h4 B r.2.1 else pure ⟨⟩
  if h5 : k0_cond5 i = 1#1 then do
    rowsOutS i h5 B
    if _h6 : k0_cond6 i = 1#1 then errE B else pure ⟨⟩
    pure ⟨⟩
  else pure ⟨⟩
  pure ⟨⟩

end Cert.Kernel
-- ==== Proof.Equ.lean ====
/- The printed body is the program of the modules before this one, by computation. -/
module

public import proofs.«01_k».proof.Proof.Body

@[expose] public section

set_option maxRecDepth 65536

noncomputable section

namespace Cert.Kernel

open Idealize.ShloMosaic Idealize.SL.Sem Cert.Search
open Cert.Kernel.Gen

variable {F : FTy → Type} [FloatOps F] [Facts]

set_option maxHeartbeats 40000000 in
theorem trip_eq (i : grid0.Coords) (arg2 : Memref sig .tc .smem S20 .i32) (harg2 : arg2.IsWhole) (arg3 : Memref sig .tc .smem S14x40 .f32) (harg3 : arg3.IsWhole) (arg4 : Memref sig .tc .vmem S896x5120 .fp8e4m3) (harg4 : arg4.IsWhole) (arg5 : Memref sig .tc .vmem S896x512 .fp8e4m3) (harg5 : arg5.IsWhole) (arg6 : Memref sig .tc .vmem S5120x512 .bf16) (harg6 : arg6.IsWhole) (arg7 : Memref sig .tc .vmem S20x1x5120 .f32) (harg7 : arg7.IsWhole) (arg8 : Memref sig .tc .vmem S20x1x5120 .f32) (harg8 : arg8.IsWhole) (arg9 : Memref sig .tc .vmem S1x5120 .f32) (harg9 : arg9.IsWhole) (arg10 : Memref sig .tc .vmem S20x128 .f32) (harg10 : arg10.IsWhole) (arg11 : Memref sig .tc .vmem S20x1792 .f32) (harg11 : arg11.IsWhole) (arg12 : Memref sig .tc .vmem S896x512 .bf16) (harg12 : arg12.IsWhole) (arg13 : Memref sig .tc .vmem S896x512 .i8) (harg13 : arg13.IsWhole) (arg14 : Memref sig .tc .vmem S896x128 .f32) (harg14 : arg14.IsWhole) (arg15 : Memref sig .tc .vmem S896x128 .f32) (harg15 : arg15.IsWhole) (arg16 : Memref sig .tc .vmem S896x5120 .bf16) (harg16 : arg16.IsWhole) (arg17 : Memref sig .tc .vmem S896x5120 .bf16) (harg17 : arg17.IsWhole) (arg18 : Memref sig .tc .vmem S896x128 .f32) (harg18 : arg18.IsWhole) (h1 : k0_cond1 i = 1#1) (t : Fin k0_t1_loop.trips) :
    (do let v ← k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 0#32 1#32 t
        Prog.lift (.store arg16 (Rect.unit (s := S896x5120) (k0_off17 t 384#32) S128x128.size (k0_off17_inb i t h1 3)) v Finset.univ (View.stores_vmem Cert.Search.h_S128x128 (harg16.storeExact_slice rfl _ (k0_off17_packedbf16 i t h1 3)) (fun _ => rfl)) (.inl rfl))
        pure ⟨⟩ : Prog (TpuEff nD τ sig (Elt F) Λ₀ .tc) PUnit)
      = tripD (offs1 i h1 t) { order := arg2, wscale := arg3, codes0 := arg4, codes := arg5, h := arg6, s := arg7, rs := arg8, rxc := arg9, err := arg10, rows := arg11, dh := arg12, q := arg13, sf := arg14, zero := arg15, d0 := arg16, d1 := arg17, acc := arg18, hdh := harg12, hq := harg13, hd0 := harg16, hd1 := harg17 } (arg4.slice (Rect.unit (s := S896x5120) (k0_off3 t) S896x512.size (k0_off3_inb i t h1)) (fun _ => rfl)) := by
  rfl

set_option maxHeartbeats 40000000 in
/-- The body's first part. -/
theorem head_eq (i : grid0.Coords) (arg2 : Memref sig .tc .smem S20 .i32) (harg2 : arg2.IsWhole) (arg3 : Memref sig .tc .smem S14x40 .f32) (harg3 : arg3.IsWhole) (arg4 : Memref sig .tc .vmem S896x5120 .fp8e4m3) (harg4 : arg4.IsWhole) (arg5 : Memref sig .tc .vmem S896x512 .fp8e4m3) (harg5 : arg5.IsWhole) (arg6 : Memref sig .tc .vmem S5120x512 .bf16) (harg6 : arg6.IsWhole) (arg7 : Memref sig .tc .vmem S20x1x5120 .f32) (harg7 : arg7.IsWhole) (arg8 : Memref sig .tc .vmem S20x1x5120 .f32) (harg8 : arg8.IsWhole) (arg9 : Memref sig .tc .vmem S1x5120 .f32) (harg9 : arg9.IsWhole) (arg10 : Memref sig .tc .vmem S20x128 .f32) (harg10 : arg10.IsWhole) (arg11 : Memref sig .tc .vmem S20x1792 .f32) (harg11 : arg11.IsWhole) (arg12 : Memref sig .tc .vmem S896x512 .bf16) (harg12 : arg12.IsWhole) (arg13 : Memref sig .tc .vmem S896x512 .i8) (harg13 : arg13.IsWhole) (arg14 : Memref sig .tc .vmem S896x128 .f32) (harg14 : arg14.IsWhole) (arg15 : Memref sig .tc .vmem S896x128 .f32) (harg15 : arg15.IsWhole) (arg16 : Memref sig .tc .vmem S896x5120 .bf16) (harg16 : arg16.IsWhole) (arg17 : Memref sig .tc .vmem S896x5120 .bf16) (harg17 : arg17.IsWhole) (arg18 : Memref sig .tc .vmem S896x128 .f32) (harg18 : arg18.IsWhole) :
    k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = headS i { order := arg2, wscale := arg3, codes0 := arg4, codes := arg5, h := arg6, s := arg7, rs := arg8, rxc := arg9, err := arg10, rows := arg11, dh := arg12, q := arg13, sf := arg14, zero := arg15, d0 := arg16, d1 := arg17, acc := arg18, hdh := harg12, hq := harg13, hd0 := harg16, hd1 := harg17 } := by
  unfold k0_part144 headS
  extract_lets
  split
  · rename_i h1
    refine congr (congrArg _ ?_) (funext fun _ => rfl)
    unfold initS
    refine congrArg (Scf.Loop.for _ _ _) (funext fun t => funext fun _ => ?_)
    exact trip_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 t
  · rfl

set_option maxHeartbeats 40000000 in
/-- The printed body, whatever buffers it is given. -/
theorem body_eq (i : grid0.Coords) (arg2 : Memref sig .tc .smem S20 .i32) (harg2 : arg2.IsWhole) (arg3 : Memref sig .tc .smem S14x40 .f32) (harg3 : arg3.IsWhole) (arg4 : Memref sig .tc .vmem S896x5120 .fp8e4m3) (harg4 : arg4.IsWhole) (arg5 : Memref sig .tc .vmem S896x512 .fp8e4m3) (harg5 : arg5.IsWhole) (arg6 : Memref sig .tc .vmem S5120x512 .bf16) (harg6 : arg6.IsWhole) (arg7 : Memref sig .tc .vmem S20x1x5120 .f32) (harg7 : arg7.IsWhole) (arg8 : Memref sig .tc .vmem S20x1x5120 .f32) (harg8 : arg8.IsWhole) (arg9 : Memref sig .tc .vmem S1x5120 .f32) (harg9 : arg9.IsWhole) (arg10 : Memref sig .tc .vmem S20x128 .f32) (harg10 : arg10.IsWhole) (arg11 : Memref sig .tc .vmem S20x1792 .f32) (harg11 : arg11.IsWhole) (arg12 : Memref sig .tc .vmem S896x512 .bf16) (harg12 : arg12.IsWhole) (arg13 : Memref sig .tc .vmem S896x512 .i8) (harg13 : arg13.IsWhole) (arg14 : Memref sig .tc .vmem S896x128 .f32) (harg14 : arg14.IsWhole) (arg15 : Memref sig .tc .vmem S896x128 .f32) (harg15 : arg15.IsWhole) (arg16 : Memref sig .tc .vmem S896x5120 .bf16) (harg16 : arg16.IsWhole) (arg17 : Memref sig .tc .vmem S896x5120 .bf16) (harg17 : arg17.IsWhole) (arg18 : Memref sig .tc .vmem S896x128 .f32) (harg18 : arg18.IsWhole) :
    cc0_awq_search (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = bodyS i { order := arg2, wscale := arg3, codes0 := arg4, codes := arg5, h := arg6, s := arg7, rs := arg8, rxc := arg9, err := arg10, rows := arg11, dh := arg12, q := arg13, sf := arg14, zero := arg15, d0 := arg16, d1 := arg17, acc := arg18, hdh := harg12, hq := harg13, hd0 := harg16, hd1 := harg17 } := by
  unfold cc0_awq_search bodyS
  refine congr (congrArg _ (head_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)) (funext fun r => ?_)
  rfl

end Cert.Kernel
-- ==== Proof.Mem.lean ====
/- Running straight-line memory programs: a program that takes the resources `P` to the resources `P'` and returns `v`
   (`Runs`), composed along its binds; and the loads and stores of a buffer owned at contents read through its view. -/
module

public import Idealize.ShloMosaic.Lib.Pipeline.Frame
public import Idealize.ShloMosaic.Lib.Scf

@[expose] public section

noncomputable section

namespace Cert.Search

open Idealize.ShloMosaic Idealize.SL Idealize.SL.Sem
open Idealize.SL.BI (sProp bigSep)
open scoped Idealize.SL.BI
open Idealize.SL.BI.BIBase Idealize.SL.BI.Laws Idealize.SL.ProofMode
open Idealize.SL.RA

variable {nD : Nat} {τ : Topo} {sig : RefSig} {Val : EltTy → Type} {Λ₀ : Labels}

local notation "𝕄" => MT nD τ sig Unit Val ℕ (UR sig nD τ) ℕ

variable (defs : Defs nD τ sig Val Λ₀) (𝒱 : Variants) (c : Dev nD)

/-- The weakest precondition the modules here work with. -/
abbrev wpT {β : Type} (p : Prog (TpuEff nD τ sig Val Λ₀ .tc) β) (Q : β → sProp 𝕄) : sProp 𝕄 :=
  wp frame (wpE (Ix := Unit) (Name := ℕ) (U := UR sig nD τ) (Lvl := ℕ) defs 𝒱 (c.tc : Thread nD τ) none) Set.univ p Q

/-- The program `p`, from the resources `P`, returns `v` and leaves `P'`, whatever runs after it. -/
structure Runs {α : Type} (P : sProp 𝕄) (p : Prog (TpuEff nD τ sig Val Λ₀ .tc) α) (v : α) (P' : sProp 𝕄) : Prop where
  run : ∀ (β : Type) (k : α → Prog (TpuEff nD τ sig Val Λ₀ .tc) β) (Q : β → sProp 𝕄),
    (P' ⊢ wpT defs 𝒱 c (k v) Q) → (P ⊢ wpT defs 𝒱 c (p >>= k) Q)

variable {defs 𝒱 c}

theorem Runs.wp {α : Type} {P P' : sProp 𝕄} {p : Prog (TpuEff nD τ sig Val Λ₀ .tc) α} {v : α}
    (h : Runs defs 𝒱 c P p v P') : P ⊢ wpT defs 𝒱 c p (fun _ => P') := by
  have := h.run _ (fun x => pure x) (fun _ => P') (by
    show _ ⊢ Idealize.SL.Sem.wp frame _ _ (Prog.ret v) _
    rw [wp_ret]; iintro H; imodintro; iexact H)
  rwa [bind_pure] at this

theorem Runs.pure {α : Type} {P : sProp 𝕄} (v : α) : Runs defs 𝒱 c P (pure v) v P := by
  constructor; intro β k Q h; rw [pure_bind]; exact h

theorem Runs.bind {α γ : Type} {P P' P'' : sProp 𝕄} {p : Prog (TpuEff nD τ sig Val Λ₀ .tc) α} {v : α}
    {f : α → Prog (TpuEff nD τ sig Val Λ₀ .tc) γ} {w : γ}
    (h : Runs defs 𝒱 c P p v P') (h' : Runs defs 𝒱 c P' (f v) w P'') : Runs defs 𝒱 c P (p >>= f) w P'' := by
  constructor; intro β k Q hk; rw [bind_assoc]; exact h.run _ _ _ (h'.run _ _ _ hk)

theorem Runs.mono {α : Type} {P P' P₁ P₁' : sProp 𝕄} {p : Prog (TpuEff nD τ sig Val Λ₀ .tc) α} {v : α}
    (h : Runs defs 𝒱 c P p v P') (h₁ : P₁ ⊢ P) (h₂ : P' ⊢ P₁') : Runs defs 𝒱 c P₁ p v P₁' :=
  ⟨fun β k Q hk => h₁.trans (h.run β k Q (h₂.trans hk))⟩

theorem Runs.congr {α : Type} {P P' : sProp 𝕄} {p p' : Prog (TpuEff nD τ sig Val Λ₀ .tc) α} {v : α}
    (h : Runs defs 𝒱 c P p v P') (e : p' = p) : Runs defs 𝒱 c P p' v P' := e ▸ h

theorem Runs.assume {P : sProp 𝕄} {A : Prop} (d : Decidable A) (h : A) :
    Runs defs 𝒱 c P (Prog.lift (TpuEff.assume A d)) ⟨h⟩ P := by
  constructor; intro β k Q hk
  exact hk.trans (wp_assume 𝒱 (c.tc : Thread nD τ) none Set.univ (Q := Q) (k := k) h)

/-- What the resources `P` hold of the memref `m`: its contents `X`, and with other contents in their place `P'`. -/
structure Holds (c : Dev nD) (P : sProp 𝕄) {sp : Space} {s : Shape} {e : EltTy} (m : Memref sig .tc sp s e) (q : PosShare TreeShare)
    (X : s.Idx → Val e) (P' : (s.Idx → Val e) → sProp 𝕄) : Prop where
  out : P ⊢ iprop(ownsTc c m q X ∗ (∀ X', ownsTc c m q X' -∗ P' X'))

/-- The resources `P` hold the memref `m` at the contents `X`. -/
structure Reads (c : Dev nD) (P : sProp 𝕄) {sp : Space} {s : Shape} {e : EltTy} (m : Memref sig .tc sp s e) (q : PosShare TreeShare)
    (X : s.Idx → Val e) : Prop where
  out : P ⊢ iprop(ownsTc c m q X ∗ (ownsTc c m q X -∗ P))

theorem Holds.reads {c : Dev nD} {P : sProp 𝕄} {sp : Space} {s : Shape} {e : EltTy} {m : Memref sig .tc sp s e} {q : PosShare TreeShare}
    {X : s.Idx → Val e} {P' : (s.Idx → Val e) → sProp 𝕄} (h : Holds c P m q X P') (hP : P' X ⊢ P) : Reads c P m q X := by
  constructor
  refine h.out.trans ?_
  iintro ⟨H, HP⟩
  isplitl [H]; · iexact H
  iintro H
  iapply hP
  iapply HP; iexact H

/-- A load returns what the contents hold at the rectangle, and leaves them. -/
theorem Runs.load {cs : CoreSpace} {s : Shape} {e : EltTy} {P : sProp 𝕄} {m : Memref sig .tc cs s e} {q : PosShare TreeShare}
    {X : s.Idx → Val e} (h : Reads c P m q X)
    (r : Rect s) (hl : m.view.LoadsAt r.toLoadRect) :
    Runs defs 𝒱 c P (Prog.lift (TpuEff.load m r.toLoadRect hl)) (fun y => X (r.emb y)) P := by
  constructor; intro β k Q hk
  have hS : m.view.setOn r.toLoadRect.set ⊆ m.view.set := View.setOn_subset_set _ _
  refine h.out.trans ?_
  iintro ⟨H, HP⟩
  ihave H' := (show ownsTc c m q X ⊢ iprop(∃ f, ⌜m.view.read Val f = X⌝ ∗ (m.view.loc (c.tc : Thread nD τ) ↦[m.view.set]{q} f)) from .rfl) $$ H
  icases H' with ⟨%f, %hf, H⟩
  iapply (wp_load 𝒱 (c.tc : Thread nD τ) none Set.univ (defs := defs) (hl := hl) (k := k) (Q := Q) (f := f) hS) $$ H
  iintro H
  have e : m.view.readAt Val r.toLoadRect f = fun y => X (r.emb y) := by subst hf; rfl
  rw [e]
  iapply hk
  iapply HP
  unfold ownsTc owns
  iexists f; isplitr; · ipureintro; exact hf
  iexact H

/-- A load through a slice of an owned memref. -/
theorem Runs.load_slice {cs : CoreSpace} {s : Shape} {e : EltTy} {P : sProp 𝕄} {m : Memref sig .tc cs s e} {q : PosShare TreeShare}
    {X : s.Idx → Val e} (h : Reads c P m q X)
    (r₀ : Rect s) (h₀ : ∀ a, r₀.stride a = 1) (r : Rect r₀.shape) (hl : (m.slice r₀ h₀).view.LoadsAt r.toLoadRect) :
    Runs defs 𝒱 c P (Prog.lift (TpuEff.load (m.slice r₀ h₀) r.toLoadRect hl)) (fun y => X (r₀.emb (r.emb y))) P := by
  constructor; intro β k Q hk
  have hS : (m.slice r₀ h₀).view.setOn r.toLoadRect.set ⊆ m.view.set :=
    (View.setOn_subset_set _ _).trans (m.view.set_slice_subset r₀)
  refine h.out.trans ?_
  iintro ⟨H, HP⟩
  ihave H' := (show ownsTc c m q X ⊢ iprop(∃ f, ⌜m.view.read Val f = X⌝ ∗ (m.view.loc (c.tc : Thread nD τ) ↦[m.view.set]{q} f)) from .rfl) $$ H
  icases H' with ⟨%f, %hf, H⟩
  iapply (wp_load 𝒱 (c.tc : Thread nD τ) none Set.univ (defs := defs) (hl := hl) (k := k) (Q := Q) (f := f) hS) $$ H
  iintro H
  have e : (m.slice r₀ h₀).view.readAt Val r.toLoadRect f = fun y => X (r₀.emb (r.emb y)) := by subst hf; rfl
  rw [e]
  iapply hk
  iapply HP
  unfold ownsTc owns
  iexists f; isplitr; · ipureintro; exact hf
  iexact H

/-- A word loaded from scalar memory. -/
theorem Runs.word {s : Shape} {e : EltTy} {P : sProp 𝕄} {m : Memref sig .tc .smem s e} {q : PosShare TreeShare}
    {X : s.Idx → Val e} (h : Reads c P m q X)
    (r : Rect s) (h1 : r.shape.numel = 1) (hp : e.packing = 1) :
    Runs defs 𝒱 c P (smemLoad m r h1 hp) (X (r.emb (Shape.Idx.first (h1.symm ▸ Nat.one_pos)))) P := by
  constructor; intro β k Q hk
  exact (Runs.load h r (View.loadsAt_rect (View.loads_smem_one hp h1))).run β (fun f => k (f (Shape.Idx.first (h1.symm ▸ Nat.one_pos)))) Q hk

/-- A store through a rectangle overlays the contents there. -/
theorem Runs.store {cs : CoreSpace} {s : Shape} {e : EltTy} {P : sProp 𝕄} {m : Memref sig .tc cs s e}
    {X : s.Idx → Val e} {P' : (s.Idx → Val e) → sProp 𝕄} (h : Holds c P m fullShare X P')
    (r : Rect s) (w : r.shape.Idx → Val e) (hx : (m.access r).Stores Finset.univ)
    (hm : (Finset.univ : Finset r.shape.Idx) = Finset.univ ∨ ∀ a, r.stride a = 1) :
    Runs defs 𝒱 c P (Prog.lift (TpuEff.store m r w Finset.univ hx hm)) ⟨⟩ (P' (r.overlay X w)) := by
  constructor; intro β k Q hk
  have hS : (m.access r).setOn Finset.univ ⊆ m.view.set := m.view.set_slice_subset r
  refine h.out.trans ?_
  iintro ⟨H, HP⟩
  ihave H' := (show ownsTc c m fullShare X ⊢ iprop(∃ f, ⌜m.view.read Val f = X⌝ ∗ (m.view.loc (c.tc : Thread nD τ) ↦[m.view.set]{fullShare} f)) from .rfl) $$ H
  icases H' with ⟨%f, %hf, H⟩
  iapply (wp_store 𝒱 (c.tc : Thread nD τ) none Set.univ (defs := defs) (m := m) (w := w) (hx := hx) (hm := hm) (k := k) (Q := Q) (f := f) hS) $$ H
  iintro H
  iapply hk
  iapply HP
  unfold ownsTc owns
  iexists _; isplitr
  · ipureintro
    show m.view.read Val ((m.view.slice r).write Val f w Finset.univ) = _
    subst hf
    funext j
    by_cases hj : j ∈ r.set
    · obtain ⟨i, rfl⟩ := r.exists_idx_of_mem hj
      exact (View.read_slice_write_emb r _ _ (Finset.mem_univ i)).trans (Rect.overlay_emb r _ _ i).symm
    · rw [View.read_slice_write_of_not_mem _ _ _ _ (by rw [Rect.map_emb_univ]; exact hj), Rect.overlay_of_not_mem _ _ _ hj]
  iexact H

/-- A counted loop with nothing carried, by the resources before each trip. -/
theorem Runs.loop {w : Nat} (l : Scf.Loop w) (hok : l.OK) {body : Fin l.trips → PUnit → Prog (TpuEff nD τ sig Val Λ₀ .tc) PUnit}
    (I : Nat → sProp 𝕄) (hb : ∀ t : Fin l.trips, Runs defs 𝒱 c (I t.val) (body t ⟨⟩) ⟨⟩ (I (t.val + 1))) :
    Runs defs 𝒱 c (I 0) (Scf.Loop.for l hok ⟨⟩ body) ⟨⟩ (I l.trips) := by
  constructor; intro β k Q hk
  have := Scf.wp_for_bind frame (wpE (Ix := Unit) (Name := ℕ) (U := UR sig nD τ) (Lvl := ℕ) defs 𝒱 (c.tc : Thread nD τ) none) Set.univ
    l.lb l.ub l.st hok PUnit.unit body (fun n _ => I n) (fun t _ => Runs.wp (hb t)) (kk := k) (Q := Q)
  refine this.trans ?_
  iintro H
  iapply H
  iintro %acc H
  iapply hk
  iexact H

end Cert.Search
-- ==== Proof.State.lean ====
/- What the search kernel's pieces do to the buffers' contents: the contents of all of them (`Cont`), the resources that
   hold them (`res`), and for each piece the contents after it as a function of those before (`rowDT` … `errT`), with the
   proof that the piece runs from the one to the other. -/
module

public import proofs.«01_k».proof.Proof.Step
public import proofs.«01_k».proof.Proof.Mem

@[expose] public section

set_option maxRecDepth 16384

noncomputable section

namespace Cert.Search

open Idealize.ShloMosaic Idealize.SL Idealize.SL.Sem
open Idealize.SL.BI (sProp bigSep)
open scoped Idealize.SL.BI
open Idealize.SL.BI.BIBase Idealize.SL.BI.Laws Idealize.SL.ProofMode
open Idealize.SL.RA

variable {F : FTy → Type} [FloatOps F]
variable {nD : Nat} {τ : Topo} {sig : RefSig} {Λ₀ : Labels}

local notation "𝕄" => MT nD τ sig Unit (Elt F) ℕ (UR sig nD τ) ℕ

/-- The contents of the body's buffers. -/
@[ext] structure Cont (F : FTy → Type) where
  order : S20.Idx → Elt F .i32
  wscale : S14x40.Idx → Elt F .f32
  codes0 : S896x5120.Idx → Elt F .fp8e4m3
  codes : S896x512.Idx → Elt F .fp8e4m3
  h : S5120x512.Idx → Elt F .bf16
  s : S20x1x5120.Idx → Elt F .f32
  rs : S20x1x5120.Idx → Elt F .f32
  rxc : S1x5120.Idx → Elt F .f32
  err : S20x128.Idx → Elt F .f32
  rows : S20x1792.Idx → Elt F .f32
  dh : S896x512.Idx → Elt F .bf16
  q : S896x512.Idx → Elt F .i8
  sf : S896x128.Idx → Elt F .f32
  zero : S896x128.Idx → Elt F .f32
  d0 : S896x5120.Idx → Elt F .bf16
  d1 : S896x5120.Idx → Elt F .bf16
  acc : S896x128.Idx → Elt F .f32

/-- The buffers owned at the contents `x`, the table of words at the share `qo`. -/
def res (c : Dev nD) (qo : PosShare TreeShare) (B : Bufs sig) (x : Cont F) : sProp 𝕄 :=
  iprop(ownsTc c B.order qo x.order ∗ ownsTc c B.wscale fullShare x.wscale ∗ ownsTc c B.codes0 fullShare x.codes0
    ∗ ownsTc c B.codes fullShare x.codes ∗ ownsTc c B.h fullShare x.h ∗ ownsTc c B.s fullShare x.s
    ∗ ownsTc c B.rs fullShare x.rs ∗ ownsTc c B.rxc fullShare x.rxc ∗ ownsTc c B.err fullShare x.err
    ∗ ownsTc c B.rows fullShare x.rows ∗ ownsTc c B.dh fullShare x.dh ∗ ownsTc c B.q fullShare x.q
    ∗ ownsTc c B.sf fullShare x.sf ∗ ownsTc c B.zero fullShare x.zero ∗ ownsTc c B.d0 fullShare x.d0
    ∗ ownsTc c B.d1 fullShare x.d1 ∗ ownsTc c B.acc fullShare x.acc)

section Holds

theorem Holds.last (c : Dev nD) {sp : Space} {s : Shape} {e : EltTy} (m : Memref sig .tc sp s e) (q : PosShare TreeShare)
    (X : s.Idx → Elt F e) : Holds c (ownsTc c m q X : sProp 𝕄) m q X (fun X' => ownsTc c m q X') := by
  constructor
  iintro H
  isplitl [H]; · iexact H
  iintro %X' H
  iexact H

theorem Holds.head (c : Dev nD) {sp : Space} {s : Shape} {e : EltTy} (m : Memref sig .tc sp s e) (q : PosShare TreeShare)
    (X : s.Idx → Elt F e) (R : sProp 𝕄) :
    Holds c iprop(ownsTc c m q X ∗ R) m q X (fun X' => iprop(ownsTc c m q X' ∗ R)) := by
  constructor
  iintro ⟨H, R⟩
  isplitl [H]; · iexact H
  iintro %X' H
  isplitl [H] <;> iassumption

theorem Holds.tail {c : Dev nD} {sp : Space} {s : Shape} {e : EltTy} {m : Memref sig .tc sp s e} {q : PosShare TreeShare}
    {X : s.Idx → Elt F e} {P : sProp 𝕄} {P' : (s.Idx → Elt F e) → sProp 𝕄} (h : Holds c P m q X P') (A : sProp 𝕄) :
    Holds c iprop(A ∗ P) m q X (fun X' => iprop(A ∗ P' X')) := by
  constructor
  iintro ⟨A, P⟩
  ihave P' := h.out $$ P
  icases P' with ⟨H, P⟩
  isplitl [H]; · iexact H
  iintro %X' H
  isplitl [A]; · iexact A
  iapply P; iexact H

variable (τ) (c : Dev nD) (qo : PosShare TreeShare) (B : Bufs sig) (x : Cont F)

theorem holds_order : Holds (τ := τ) c (res c qo B x) B.order qo x.order (fun X => res c qo B { x with order := X }) :=
  .head _ _ _ _ _

theorem holds_wscale : Holds (τ := τ) c (res c qo B x) B.wscale fullShare x.wscale (fun X => res c qo B { x with wscale := X }) :=
  .tail (.head _ _ _ _ _) _

theorem holds_codes0 : Holds (τ := τ) c (res c qo B x) B.codes0 fullShare x.codes0 (fun X => res c qo B { x with codes0 := X }) :=
  .tail (.tail (.head _ _ _ _ _) _) _

theorem holds_codes : Holds (τ := τ) c (res c qo B x) B.codes fullShare x.codes (fun X => res c qo B { x with codes := X }) :=
  .tail (.tail (.tail (.head _ _ _ _ _) _) _) _

theorem holds_h : Holds (τ := τ) c (res c qo B x) B.h fullShare x.h (fun X => res c qo B { x with h := X }) :=
  .tail (.tail (.tail (.tail (.head _ _ _ _ _) _) _) _) _

theorem holds_s : Holds (τ := τ) c (res c qo B x) B.s fullShare x.s (fun X => res c qo B { x with s := X }) :=
  .tail (.tail (.tail (.tail (.tail (.head _ _ _ _ _) _) _) _) _) _

theorem holds_rs : Holds (τ := τ) c (res c qo B x) B.rs fullShare x.rs (fun X => res c qo B { x with rs := X }) :=
  .tail (.tail (.tail (.tail (.tail (.tail (.head _ _ _ _ _) _) _) _) _) _) _

theorem holds_rxc : Holds (τ := τ) c (res c qo B x) B.rxc fullShare x.rxc (fun X => res c qo B { x with rxc := X }) :=
  .tail (.tail (.tail (.tail (.tail (.tail (.tail (.head _ _ _ _ _) _) _) _) _) _) _) _

theorem holds_err : Holds (τ := τ) c (res c qo B x) B.err fullShare x.err (fun X => res c qo B { x with err := X }) :=
  .tail (.tail (.tail (.tail (.tail (.tail (.tail (.tail (.head _ _ _ _ _) _) _) _) _) _) _) _) _

theorem holds_rows : Holds (τ := τ) c (res c qo B x) B.rows fullShare x.rows (fun X => res c qo B { x with rows := X }) :=
  .tail (.tail (.tail (.tail (.tail (.tail (.tail (.tail (.tail (.head _ _ _ _ _) _) _) _) _) _) _) _) _) _

theorem holds_dh : Holds (τ := τ) c (res c qo B x) B.dh fullShare x.dh (fun X => res c qo B { x with dh := X }) :=
  .tail (.tail (.tail (.tail (.tail (.tail (.tail (.tail (.tail (.tail (.head _ _ _ _ _) _) _) _) _) _) _) _) _) _) _

theorem holds_q : Holds (τ := τ) c (res c qo B x) B.q fullShare x.q (fun X => res c qo B { x with q := X }) :=
  .tail (.tail (.tail (.tail (.tail (.tail (.tail (.tail (.tail (.tail (.tail (.head _ _ _ _ _) _) _) _) _) _) _) _) _) _) _) _

theorem holds_sf : Holds (τ := τ) c (res c qo B x) B.sf fullShare x.sf (fun X => res c qo B { x with sf := X }) :=
  .tail (.tail (.tail (.tail (.tail (.tail (.tail (.tail (.tail (.tail (.tail (.tail (.head _ _ _ _ _) _) _) _) _) _) _) _) _) _) _) _) _

theorem holds_zero : Holds (τ := τ) c (res c qo B x) B.zero fullShare x.zero (fun X => res c qo B { x with zero := X }) :=
  .tail (.tail (.tail (.tail (.tail (.tail (.tail (.tail (.tail (.tail (.tail (.tail (.tail (.head _ _ _ _ _) _) _) _) _) _) _) _) _) _) _) _) _) _

theorem holds_d0 : Holds (τ := τ) c (res c qo B x) B.d0 fullShare x.d0 (fun X => res c qo B { x with d0 := X }) :=
  .tail (.tail (.tail (.tail (.tail (.tail (.tail (.tail (.tail (.tail (.tail (.tail (.tail (.tail (.head _ _ _ _ _) _) _) _) _) _) _) _) _) _) _) _) _) _) _

theorem holds_d1 : Holds (τ := τ) c (res c qo B x) B.d1 fullShare x.d1 (fun X => res c qo B { x with d1 := X }) :=
  .tail (.tail (.tail (.tail (.tail (.tail (.tail (.tail (.tail (.tail (.tail (.tail (.tail (.tail (.tail (.head _ _ _ _ _) _) _) _) _) _) _) _) _) _) _) _) _) _) _) _

theorem holds_acc : Holds (τ := τ) c (res c qo B x) B.acc fullShare x.acc (fun X => res c qo B { x with acc := X }) :=
  .tail (.tail (.tail (.tail (.tail (.tail (.tail (.tail (.tail (.tail (.tail (.tail (.tail (.tail (.tail (.tail (.last _ _ _ _) _) _) _) _) _) _) _) _) _) _) _) _) _) _) _) _

theorem reads_order : Reads (τ := τ) c (res c qo B x) B.order qo x.order := (holds_order τ c qo B x).reads .rfl

theorem reads_wscale : Reads (τ := τ) c (res c qo B x) B.wscale fullShare x.wscale := (holds_wscale τ c qo B x).reads .rfl

theorem reads_codes0 : Reads (τ := τ) c (res c qo B x) B.codes0 fullShare x.codes0 := (holds_codes0 τ c qo B x).reads .rfl

theorem reads_codes : Reads (τ := τ) c (res c qo B x) B.codes fullShare x.codes := (holds_codes τ c qo B x).reads .rfl

theorem reads_h : Reads (τ := τ) c (res c qo B x) B.h fullShare x.h := (holds_h τ c qo B x).reads .rfl

theorem reads_s : Reads (τ := τ) c (res c qo B x) B.s fullShare x.s := (holds_s τ c qo B x).reads .rfl

theorem reads_rs : Reads (τ := τ) c (res c qo B x) B.rs fullShare x.rs := (holds_rs τ c qo B x).reads .rfl

theorem reads_rxc : Reads (τ := τ) c (res c qo B x) B.rxc fullShare x.rxc := (holds_rxc τ c qo B x).reads .rfl

theorem reads_err : Reads (τ := τ) c (res c qo B x) B.err fullShare x.err := (holds_err τ c qo B x).reads .rfl

theorem reads_rows : Reads (τ := τ) c (res c qo B x) B.rows fullShare x.rows := (holds_rows τ c qo B x).reads .rfl

theorem reads_dh : Reads (τ := τ) c (res c qo B x) B.dh fullShare x.dh := (holds_dh τ c qo B x).reads .rfl

theorem reads_q : Reads (τ := τ) c (res c qo B x) B.q fullShare x.q := (holds_q τ c qo B x).reads .rfl

theorem reads_sf : Reads (τ := τ) c (res c qo B x) B.sf fullShare x.sf := (holds_sf τ c qo B x).reads .rfl

theorem reads_zero : Reads (τ := τ) c (res c qo B x) B.zero fullShare x.zero := (holds_zero τ c qo B x).reads .rfl

theorem reads_d0 : Reads (τ := τ) c (res c qo B x) B.d0 fullShare x.d0 := (holds_d0 τ c qo B x).reads .rfl

theorem reads_d1 : Reads (τ := τ) c (res c qo B x) B.d1 fullShare x.d1 := (holds_d1 τ c qo B x).reads .rfl

theorem reads_acc : Reads (τ := τ) c (res c qo B x) B.acc fullShare x.acc := (holds_acc τ c qo B x).reads .rfl

end Holds

attribute [irreducible] res

/-! ### Reads -/

/-- What the contents `X` hold at the block of size `t` from `off`. -/
abbrev rd {s t : Shape} {α : Type} (X : s.Idx → α) (off : Fin s.rank → Nat) (size : Fin s.rank → Nat)
    (h : ∀ a, off a + size a ≤ s.size a) : (⟨s.rank, size⟩ : Shape).Idx → α :=
  fun y => X ((Rect.unit (s := s) off size h).emb y)

/-- The word of `X` at `off`. -/
abbrev rdWord {s : Shape} {α : Type} (X : s.Idx → α) (off : Fin s.rank → Nat) (size : Fin s.rank → Nat)
    (h : ∀ a, off a + size a ≤ s.size a) (h1 : (⟨s.rank, size⟩ : Shape).numel = 1) : α :=
  X ((Rect.unit (s := s) off size h).emb (Shape.Idx.first (h1.symm ▸ Nat.one_pos)))

variable {defs : Defs nD τ sig (Elt F) Λ₀} {𝒱 : Variants} {c : Dev nD} {qo : PosShare TreeShare} {B : Bufs sig}

/-! ### A group -/

/-- The contents after a group that leaves its error in `d0`; `cd` are the slab's codes. -/
def groupDT (cd : S896x512.Idx → Elt F .fp8e4m3)
    (ow : Fin 2 → Nat) (hw : ∀ a, ow a + S1x1.size a ≤ S14x40.size a)
    (os : Fin 3 → Nat) (hs : ∀ a, os a + S1x1x128.size a ≤ S20x1x5120.size a)
    (oc : Fin 2 → Nat) (hc : ∀ a, oc a + S128x128.size a ≤ S896x512.size a)
    (od : Fin 2 → Nat) (hod : ∀ a, od a + S128x128.size a ≤ S896x5120.size a) (x : Cont F) : Cont F :=
  { x with d0 := (Rect.unit (s := S896x5120) od S128x128.size hod).overlay x.d0 (
      gD (rdWord x.wscale ow S1x1.size hw numel1_S1x1) (rd (t := S1x1x128) x.s os S1x1x128.size hs) (rd (t := S1x1x128) x.rs os S1x1x128.size hs)
        (rd (t := S128x128) cd oc S128x128.size hc)) }

theorem runs_groupD (x : Cont F) (o0 : Fin 2 → Nat) (h0 : ∀ a, o0 a + S896x512.size a ≤ S896x5120.size a)
    (ow : Fin 2 → Nat) (hw : ∀ a, ow a + S1x1.size a ≤ S14x40.size a)
    (os : Fin 3 → Nat) (hs : ∀ a, os a + S1x1x128.size a ≤ S20x1x5120.size a)
    (oc : Fin 2 → Nat) (hc : ∀ a, oc a + S128x128.size a ≤ S896x512.size a)
    (od : Fin 2 → Nat) (hod : ∀ a, od a + S128x128.size a ≤ S896x5120.size a)
    (hpd : (Rect.unit (s := S896x5120) od S128x128.size hod).PackedRows (EltTy.packing .bf16)) :
    Runs defs 𝒱 c (res c qo B x)
      (groupD B.wscale B.s B.rs (B.codes0.slice (Rect.unit (s := S896x5120) o0 S896x512.size h0) (fun _ => rfl)) B.d0 B.hd0 ow hw os hs oc hc od hod hpd) ⟨⟩
      (res c qo B (groupDT (rd (t := S896x512) x.codes0 o0 S896x512.size h0) ow hw os hs oc hc od hod x)) := by
  unfold groupD
  refine Runs.bind (Runs.word (reads_wscale τ c qo B x) _ _ _) ?_
  refine Runs.bind (Runs.load (reads_s τ c qo B x) _ _) ?_
  refine Runs.bind (Runs.load (reads_rs τ c qo B x) _ _) ?_
  refine Runs.bind (Runs.load_slice (reads_codes0 τ c qo B x) _ _ _ _) ?_
  refine Runs.bind (Runs.load (reads_d0 τ c qo B x) _ _) ?_
  exact Runs.store (holds_d0 τ c qo B x) _ _ _ _

/-- The contents after a group that leaves its error in `d1` and its codes. -/
def groupET
    (ow : Fin 2 → Nat) (hw : ∀ a, ow a + S1x1.size a ≤ S14x40.size a)
    (os : Fin 3 → Nat) (hs : ∀ a, os a + S1x1x128.size a ≤ S20x1x5120.size a)
    (oc : Fin 2 → Nat) (hc : ∀ a, oc a + S128x128.size a ≤ S896x512.size a)
    (od : Fin 2 → Nat) (hod : ∀ a, od a + S128x128.size a ≤ S896x5120.size a) (x : Cont F) : Cont F :=
  { x with
    d1 := (Rect.unit (s := S896x5120) od S128x128.size hod).overlay x.d1
      (gD (rdWord x.wscale ow S1x1.size hw numel1_S1x1) (rd (t := S1x1x128) x.s os S1x1x128.size hs) (rd (t := S1x1x128) x.rs os S1x1x128.size hs)
        (rd (t := S128x128) x.codes oc S128x128.size hc))
    q := (Rect.unit (s := S896x512) oc S128x128.size hc).overlay x.q
      (gQi (gG (rdWord x.wscale ow S1x1.size hw numel1_S1x1) (rd (t := S1x1x128) x.s os S1x1x128.size hs) (rd (t := S128x128) x.codes oc S128x128.size hc))) }

/-- The group's scaled weights. -/
def groupG (ow : Fin 2 → Nat) (hw : ∀ a, ow a + S1x1.size a ≤ S14x40.size a)
    (os : Fin 3 → Nat) (hs : ∀ a, os a + S1x1x128.size a ≤ S20x1x5120.size a)
    (oc : Fin 2 → Nat) (hc : ∀ a, oc a + S128x128.size a ≤ S896x512.size a) (x : Cont F) : FVec F S128x128 .f32 :=
  gG (rdWord x.wscale ow S1x1.size hw numel1_S1x1) (rd (t := S1x1x128) x.s os S1x1x128.size hs) (rd (t := S128x128) x.codes oc S128x128.size hc)

theorem runs_groupE (x : Cont F) (ln : BitVec 32)
    (ow : Fin 2 → Nat) (hw : ∀ a, ow a + S1x1.size a ≤ S14x40.size a)
    (os : Fin 3 → Nat) (hs : ∀ a, os a + S1x1x128.size a ≤ S20x1x5120.size a)
    (oc : Fin 2 → Nat) (hc : ∀ a, oc a + S128x128.size a ≤ S896x512.size a)
    (hpc : (Rect.unit (s := S896x512) oc S128x128.size hc).PackedRows (EltTy.packing .i8))
    (od : Fin 2 → Nat) (hod : ∀ a, od a + S128x128.size a ≤ S896x5120.size a)
    (hpd : (Rect.unit (s := S896x5120) od S128x128.size hod).PackedRows (EltTy.packing .bf16))
    (a : FVec F S128x128 .f32 × FVec F S128x128 .f32) :
    Runs defs 𝒱 c (res c qo B x)
      (groupE B.wscale B.s B.rs B.codes B.d1 B.hd1 B.q B.hq ln ow hw os hs oc hc hpc od hod hpd a)
      (putLane ln (gSf (groupG ow hw os hs oc hc x)) a.1, putLane ln (gZero (groupG ow hw os hs oc hc x)) a.2)
      (res c qo B (groupET ow hw os hs oc hc od hod x)) := by
  unfold groupE
  refine Runs.bind (Runs.word (reads_wscale τ c qo B x) _ _ _) ?_
  refine Runs.bind (Runs.load (reads_s τ c qo B x) _ _) ?_
  refine Runs.bind (Runs.load (reads_rs τ c qo B x) _ _) ?_
  refine Runs.bind (Runs.load (reads_codes τ c qo B x) _ _) ?_
  refine Runs.bind (Runs.load (reads_d1 τ c qo B x) _ _) ?_
  refine Runs.bind (Runs.store (holds_d1 τ c qo B x) _ _ _ _) ?_
  refine Runs.bind (Runs.load (reads_q τ c qo B _) _ _) ?_
  refine Runs.bind (Runs.store (holds_q τ c qo B _) _ _ _ _) ?_
  exact Runs.pure _

/-! ### Row blocks -/

variable (O : Offs)

/-- The contents after group `j` of row block `rb`, errors only. -/
def gDT (cd : S896x512.Idx → Elt F .fp8e4m3) (v : BitVec 32) (hv : O.chk v) (rb : Nat) (h : rb < 7) (j : Nat) (h' : j < 4) :
    Cont F → Cont F :=
  groupDT cd (O.ow rb j) (O.hw h h') (O.os v j) (O.hs hv h') ![128 * rb, 128 * j] (inb_codes h h') (O.od rb j) (O.hod h h')

def rowDT (cd : S896x512.Idx → Elt F .fp8e4m3) (v : BitVec 32) (hv : O.chk v) (rb : Nat) (h : rb < 7) (x : Cont F) : Cont F :=
  gDT O cd v hv rb h 3 (by decide) (gDT O cd v hv rb h 2 (by decide) (gDT O cd v hv rb h 1 (by decide) (gDT O cd v hv rb h 0 (by decide) x)))

def rowsDT (cd : S896x512.Idx → Elt F .fp8e4m3) (v : BitVec 32) (hv : O.chk v) : (k : Nat) → k ≤ 7 → Cont F → Cont F
  | 0, _, x => x
  | k + 1, h, x => rowDT O cd v hv k h (rowsDT cd v hv k (Nat.le_of_succ_le h) x)

theorem gDT_codes0 (cd : S896x512.Idx → Elt F .fp8e4m3) (v : BitVec 32) (hv : O.chk v) (rb : Nat) (h : rb < 7) (j : Nat) (h' : j < 4)
    (x : Cont F) : (gDT O cd v hv rb h j h' x).codes0 = x.codes0 := by
  unfold gDT groupDT; rfl

theorem rowsDT_codes0 (cd : S896x512.Idx → Elt F .fp8e4m3) (v : BitVec 32) (hv : O.chk v) (k : Nat) (h : k ≤ 7) (x : Cont F) :
    (rowsDT O cd v hv k h x).codes0 = x.codes0 := by
  induction k with
  | zero => rfl
  | succ k ih =>
    unfold rowsDT rowDT
    rw [gDT_codes0, gDT_codes0, gDT_codes0, gDT_codes0]
    exact ih (Nat.le_of_succ_le h)

theorem runs_gD (x : Cont F) (o0 : Fin 2 → Nat) (h0 : ∀ a, o0 a + S896x512.size a ≤ S896x5120.size a)
    (cd : S896x512.Idx → Elt F .fp8e4m3) (hcd : rd (t := S896x512) x.codes0 o0 S896x512.size h0 = cd)
    (v : BitVec 32) (hv : O.chk v) (rb : Nat) (h : rb < 7) (j : Nat) (h' : j < 4) :
    Runs defs 𝒱 c (res c qo B x)
      (groupD B.wscale B.s B.rs (B.codes0.slice (Rect.unit (s := S896x5120) o0 S896x512.size h0) (fun _ => rfl)) B.d0 B.hd0
        (O.ow rb j) (O.hw h h') (O.os v j) (O.hs hv h') ![128 * rb, 128 * j] (inb_codes h h') (O.od rb j) (O.hod h h') (O.hpd h h')) ⟨⟩
      (res c qo B (gDT O cd v hv rb h j h' x)) := by
  subst hcd
  exact runs_groupD x o0 h0 _ _ _ _ _ _ _ _ _

theorem runs_rowD (x : Cont F) (o0 : Fin 2 → Nat) (h0 : ∀ a, o0 a + S896x512.size a ≤ S896x5120.size a)
    (cd : S896x512.Idx → Elt F .fp8e4m3) (hcd : rd (t := S896x512) x.codes0 o0 S896x512.size h0 = cd)
    (v : BitVec 32) (hv : O.chk v) (rb : Nat) (h : rb < 7) :
    Runs defs 𝒱 c (res c qo B x)
      (rowD O B (B.codes0.slice (Rect.unit (s := S896x5120) o0 S896x512.size h0) (fun _ => rfl)) v hv rb h) ⟨⟩
      (res c qo B (rowDT O cd v hv rb h x)) := by
  unfold rowD rowDT
  refine Runs.bind (runs_gD O x o0 h0 cd hcd v hv rb h 0 (by decide)) ?_
  refine Runs.bind (runs_gD O _ o0 h0 cd (by rw [gDT_codes0]; exact hcd) v hv rb h 1 (by decide)) ?_
  refine Runs.bind (runs_gD O _ o0 h0 cd (by rw [gDT_codes0, gDT_codes0]; exact hcd) v hv rb h 2 (by decide)) ?_
  exact runs_gD O _ o0 h0 cd (by rw [gDT_codes0, gDT_codes0, gDT_codes0]; exact hcd) v hv rb h 3 (by decide)

theorem runs_rowsD (x : Cont F) (o0 : Fin 2 → Nat) (h0 : ∀ a, o0 a + S896x512.size a ≤ S896x5120.size a)
    (v : BitVec 32) (hv : O.chk v) (k : Nat) (h : k ≤ 7) :
    Runs defs 𝒱 c (res c qo B x)
      (rowsD O B (B.codes0.slice (Rect.unit (s := S896x5120) o0 S896x512.size h0) (fun _ => rfl)) v hv k h) ⟨⟩
      (res c qo B (rowsDT O (rd (t := S896x512) x.codes0 o0 S896x512.size h0) v hv k h x)) := by
  induction k with
  | zero => exact Runs.pure _
  | succ k ih =>
    unfold rowsD rowsDT
    exact Runs.bind (ih _) (runs_rowD O _ o0 h0 _ (by rw [rowsDT_codes0]) v hv k h)

open Classical in
/-- The contents after one trip of the first block's loop, over the slab of codes from `o0`. -/
def tripDT (o0 : Fin 2 → Nat) (h0 : ∀ a, o0 a + S896x512.size a ≤ S896x5120.size a) (x : Cont F) : Cont F :=
  if hv : O.chk (rdWord x.order O.oo S1.size O.hoo numel1_S1) then
    rowsDT O (rd (t := S896x512) x.codes0 o0 S896x512.size h0) _ hv 7 le_rfl x
  else x

theorem runs_tripD (x : Cont F) (o0 : Fin 2 → Nat) (h0 : ∀ a, o0 a + S896x512.size a ≤ S896x5120.size a)
    (hv : O.chk (rdWord x.order O.oo S1.size O.hoo numel1_S1)) :
    Runs defs 𝒱 c (res c qo B x)
      (tripD O B (B.codes0.slice (Rect.unit (s := S896x5120) o0 S896x512.size h0) (fun _ => rfl))) ⟨⟩
      (res c qo B (tripDT O o0 h0 x)) := by
  unfold tripD tripDT
  rw [dif_pos hv]
  refine Runs.bind (Runs.word (reads_order τ c qo B x) _ _ _) ?_
  refine Runs.bind (Runs.assume _ hv) ?_
  exact runs_rowsD O x o0 h0 _ hv 7 le_rfl

/-- The contents after group `j` of row block `rb` of a column step. -/
def gET (v : BitVec 32) (hv : O.chk v) (rb : Nat) (h : rb < 7) (j : Nat) (h' : j < 4) : Cont F → Cont F :=
  groupET (O.ow rb j) (O.hw h h') (O.os v j) (O.hs hv h') ![128 * rb, 128 * j] (inb_codes h h') (O.od rb j) (O.hod h h')

/-- Its scaled weights. -/
def gGT (v : BitVec 32) (hv : O.chk v) (rb : Nat) (h : rb < 7) (j : Nat) (h' : j < 4) : Cont F → FVec F S128x128 .f32 :=
  groupG (O.ow rb j) (O.hw h h') (O.os v j) (O.hs hv h') ![128 * rb, 128 * j] (inb_codes h h')

/-- Four columns put in four lanes. -/
def put4 (ln : Nat → BitVec 32) (f0 f1 f2 f3 : FVec F S128x1 .f32) (a : FVec F S128x128 .f32) : FVec F S128x128 .f32 :=
  putLane (ln 3) f3 (putLane (ln 2) f2 (putLane (ln 1) f1 (putLane (ln 0) f0 a)))

/-- The contents after the four groups of a row block. -/
def gE4 (v : BitVec 32) (hv : O.chk v) (rb : Nat) (h : rb < 7) (x : Cont F) : Cont F :=
  gET O v hv rb h 3 (by decide) (gET O v hv rb h 2 (by decide) (gET O v hv rb h 1 (by decide) (gET O v hv rb h 0 (by decide) x)))

def rowET (ln : Nat → BitVec 32) (v : BitVec 32) (hv : O.chk v) (rb : Nat) (h : rb < 7) (x : Cont F) : Cont F :=
  { gE4 O v hv rb h x with
    sf := (Rect.unit (s := S896x128) ![128 * rb, 0] S128x128.size (inb_lanes h)).overlay (gE4 O v hv rb h x).sf (
      put4 ln (gSf (gGT O v hv rb h 0 (by decide) x)) (gSf (gGT O v hv rb h 1 (by decide) x)) (gSf (gGT O v hv rb h 2 (by decide) x))
        (gSf (gGT O v hv rb h 3 (by decide) x)) (shapeCast S128x128 (rd (t := S128x128) x.sf ![128 * rb, 0] S128x128.size (inb_lanes h)) shapeCasts_S128x128_S128x128))
    zero := (Rect.unit (s := S896x128) ![128 * rb, 0] S128x128.size (inb_lanes h)).overlay (gE4 O v hv rb h x).zero (
      put4 ln (gZero (gGT O v hv rb h 0 (by decide) x)) (gZero (gGT O v hv rb h 1 (by decide) x)) (gZero (gGT O v hv rb h 2 (by decide) x))
        (gZero (gGT O v hv rb h 3 (by decide) x)) (shapeCast S128x128 (rd (t := S128x128) x.zero ![128 * rb, 0] S128x128.size (inb_lanes h)) shapeCasts_S128x128_S128x128)) }

theorem gGT_gET (v : BitVec 32) (hv : O.chk v) (rb : Nat) (h : rb < 7) (i j : Nat) (hi : i < 4) (hj : j < 4) (x : Cont F) :
    gGT O v hv rb h j hj (gET O v hv rb h i hi x) = gGT O v hv rb h j hj x := by
  unfold gGT gET groupET groupG; rfl

theorem runs_gE (x : Cont F) (g : FVec F S128x128 .f32) (ln : BitVec 32) (v : BitVec 32) (hv : O.chk v) (rb : Nat) (h : rb < 7)
    (j : Nat) (h' : j < 4) (hg : gGT O v hv rb h j h' x = g) (a : FVec F S128x128 .f32 × FVec F S128x128 .f32) :
    Runs defs 𝒱 c (res c qo B x)
      (groupE B.wscale B.s B.rs B.codes B.d1 B.hd1 B.q B.hq ln (O.ow rb j) (O.hw h h') (O.os v j) (O.hs hv h')
        ![128 * rb, 128 * j] (inb_codes h h') (inb_codes_i8 h h') (O.od rb j) (O.hod h h') (O.hpd h h') a)
      (putLane ln (gSf g) a.1, putLane ln (gZero g) a.2)
      (res c qo B (gET O v hv rb h j h' x)) := by
  subst hg
  exact runs_groupE x _ _ _ _ _ _ _ _ _ _ _ _

theorem runs_rowE (x : Cont F) (ln : Nat → BitVec 32) (v : BitVec 32) (hv : O.chk v) (rb : Nat) (h : rb < 7) :
    Runs defs 𝒱 c (res c qo B x) (rowE O B B.d1 B.hd1 ln v hv rb h) ⟨⟩ (res c qo B (rowET O ln v hv rb h x)) := by
  unfold rowE rowET
  refine Runs.bind (Runs.load (reads_sf τ c qo B x) _ _) ?_
  refine Runs.bind (Runs.load (reads_zero τ c qo B x) _ _) ?_
  refine Runs.bind (runs_gE O x _ (ln 0) v hv rb h 0 (by decide) rfl _) ?_
  refine Runs.bind (runs_gE O _ _ (ln 1) v hv rb h 1 (by decide) (gGT_gET ..) _) ?_
  refine Runs.bind (runs_gE O _ _ (ln 2) v hv rb h 2 (by decide) ((gGT_gET ..).trans (gGT_gET ..)) _) ?_
  refine Runs.bind (runs_gE O _ _ (ln 3) v hv rb h 3 (by decide) ((gGT_gET ..).trans ((gGT_gET ..).trans (gGT_gET ..))) _) ?_
  refine Runs.bind (Runs.load (reads_sf τ c qo B (gE4 O v hv rb h x)) _ _) ?_
  refine Runs.bind (Runs.store (holds_sf τ c qo B (gE4 O v hv rb h x)) _ _ _ _) ?_
  refine Runs.bind (Runs.load (reads_zero τ c qo B _) _ _) ?_
  exact Runs.store (holds_zero τ c qo B _) _ _ _ _

def rowsET (ln : Nat → BitVec 32) (v : BitVec 32) (hv : O.chk v) : (k : Nat) → k ≤ 7 → Cont F → Cont F
  | 0, _, x => x
  | k + 1, h, x => rowET O ln v hv k h (rowsET ln v hv k (Nat.le_of_succ_le h) x)

theorem runs_rowsE (x : Cont F) (ln : Nat → BitVec 32) (v : BitVec 32) (hv : O.chk v) (k : Nat) (h : k ≤ 7) :
    Runs defs 𝒱 c (res c qo B x) (rowsE O B B.d1 B.hd1 ln v hv k h) ⟨⟩ (res c qo B (rowsET O ln v hv k h x)) := by
  induction k with
  | zero => exact Runs.pure _
  | succ k ih => exact Runs.bind (ih _) (runs_rowE O _ ln v hv k h)

/-! ### The product, and the opening and closing pieces -/

/-- The contents after the product step. -/
def tailT (orx : Fin 2 → Nat) (hrx : ∀ a, orx a + S1x512.size a ≤ S1x5120.size a)
    (odc : Fin 2 → Nat) (hdc : ∀ a, odc a + S896x512.size a ≤ S896x5120.size a) (x : Cont F) : Cont F :=
  { x with
    dh := (Rect.unit (s := S896x512) ![0, 0] S896x512.size inb_S896x512_S896x512).overlay x.dh
      (tDh (tP (rd (t := S896x5120) x.d0 ![0, 0] S896x5120.size inb_S896x5120_S896x5120) (rd (t := S5120x512) x.h ![0, 0] S5120x512.size inb_S5120x512_S5120x512))
        (rd (t := S1x512) x.rxc orx S1x512.size hrx))
    acc := (Rect.unit (s := S896x128) ![0, 0] S896x128.size inb_S896x128_S896x128).overlay x.acc
      (tAcc (tP (rd (t := S896x5120) x.d0 ![0, 0] S896x5120.size inb_S896x5120_S896x5120) (rd (t := S5120x512) x.h ![0, 0] S5120x512.size inb_S5120x512_S5120x512))
        (rd (t := S896x512) x.d0 odc S896x512.size hdc) (rd (t := S896x128) x.acc ![0, 0] S896x128.size inb_S896x128_S896x128)) }

theorem runs_tailE (x : Cont F) (orx : Fin 2 → Nat) (hrx : ∀ a, orx a + S1x512.size a ≤ S1x5120.size a)
    (odc : Fin 2 → Nat) (hdc : ∀ a, odc a + S896x512.size a ≤ S896x5120.size a) :
    Runs defs 𝒱 c (res c qo B x) (tailE B B.d0 orx hrx odc hdc) ⟨⟩ (res c qo B (tailT orx hrx odc hdc x)) := by
  unfold tailE
  refine Runs.bind (Runs.load (reads_d0 τ c qo B x) _ _) ?_
  refine Runs.bind (Runs.load (reads_h τ c qo B x) _ _) ?_
  refine Runs.bind (Runs.load (reads_rxc τ c qo B x) _ _) ?_
  refine Runs.bind (Runs.load (reads_dh τ c qo B x) _ _) ?_
  refine Runs.bind (Runs.store (holds_dh τ c qo B x) _ _ _ _) ?_
  refine Runs.bind (Runs.load (reads_d0 τ c qo B _) _ _) ?_
  refine Runs.bind (Runs.load (reads_acc τ c qo B _) _ _) ?_
  refine Runs.bind (Runs.load (reads_acc τ c qo B _) _ _) ?_
  exact Runs.store (holds_acc τ c qo B _) _ _ _ _

open Classical in
/-- The contents after a whole column step. -/
def stepT (ln : Nat → BitVec 32) (orx : Fin 2 → Nat) (hrx : ∀ a, orx a + S1x512.size a ≤ S1x5120.size a)
    (odc : Fin 2 → Nat) (hdc : ∀ a, odc a + S896x512.size a ≤ S896x5120.size a) (x : Cont F) : Cont F :=
  if hv : O.chk (rdWord x.order O.oo S1.size O.hoo numel1_S1) then
    tailT orx hrx odc hdc (rowsET O ln _ hv 7 le_rfl x)
  else x

theorem runs_stepE (x : Cont F) (ln : Nat → BitVec 32) (orx : Fin 2 → Nat) (hrx : ∀ a, orx a + S1x512.size a ≤ S1x5120.size a)
    (odc : Fin 2 → Nat) (hdc : ∀ a, odc a + S896x512.size a ≤ S896x5120.size a)
    (hv : O.chk (rdWord x.order O.oo S1.size O.hoo numel1_S1)) :
    Runs defs 𝒱 c (res c qo B x) (stepE O B B.d0 B.d1 B.hd1 ln orx hrx odc hdc) ⟨⟩ (res c qo B (stepT O ln orx hrx odc hdc x)) := by
  unfold stepE stepT
  rw [dif_pos hv]
  refine Runs.bind (Runs.word (reads_order τ c qo B x) _ _ _) ?_
  refine Runs.bind (Runs.assume _ hv) ?_
  exact Runs.bind (runs_rowsE O x ln _ hv 7 le_rfl) (runs_tailE _ _ _ _ _)

/-- The contents after the clearing at a block's first slab. -/
def clearT (x : Cont F) : Cont F :=
  { x with
    acc := (Rect.unit (s := S896x128) ![0, 0] S896x128.size inb_S896x128_S896x128).overlay x.acc (shapeCast S896x128 (zeros (F := F)) shapeCasts_S896x128_S896x128)
    sf := (Rect.unit (s := S896x128) ![0, 0] S896x128.size inb_S896x128_S896x128).overlay x.sf (zeros (F := F))
    zero := (Rect.unit (s := S896x128) ![0, 0] S896x128.size inb_S896x128_S896x128).overlay x.zero (zeros (F := F)) }

theorem runs_clearE (x : Cont F) : Runs defs 𝒱 c (res c qo B x) (clearE B) ⟨⟩ (res c qo B (clearT x)) := by
  unfold clearE
  refine Runs.bind (Runs.load (reads_acc τ c qo B x) _ _) ?_
  refine Runs.bind (Runs.store (holds_acc τ c qo B x) _ _ _ _) ?_
  refine Runs.bind (Runs.load (reads_sf τ c qo B _) _ _) ?_
  refine Runs.bind (Runs.store (holds_sf τ c qo B _) _ _ _ _) ?_
  refine Runs.bind (Runs.load (reads_zero τ c qo B _) _ _) ?_
  exact Runs.store (holds_zero τ c qo B _) _ _ _ _

open Classical in
/-- The contents after the row block's sums are put in their row. -/
def rowsOutT (chk : BitVec 32 → Prop) (oo : Fin 1 → Nat) (hoo : ∀ a, oo a + S1.size a ≤ S20.size a)
    (oe : BitVec 32 → Fin 2 → Nat) (hoe : ∀ v, chk v → ∀ a, oe v a + S1x896.size a ≤ S20x1792.size a) (x : Cont F) : Cont F :=
  if hv : chk (rdWord x.order oo S1.size hoo numel1_S1) then
    { x with rows := (Rect.unit (s := S20x1792) (oe _) S1x896.size (hoe _ hv)).overlay x.rows (
        rowSum (rd (t := S896x128) x.acc ![0, 0] S896x128.size inb_S896x128_S896x128)) }
  else x

theorem runs_rowsOutE (x : Cont F) (chk : BitVec 32 → Prop) (dec : ∀ v, Decidable (chk v))
    (oo : Fin 1 → Nat) (hoo : ∀ a, oo a + S1.size a ≤ S20.size a)
    (oe : BitVec 32 → Fin 2 → Nat) (hoe : ∀ v, chk v → ∀ a, oe v a + S1x896.size a ≤ S20x1792.size a)
    (hv : chk (rdWord x.order oo S1.size hoo numel1_S1)) :
    Runs defs 𝒱 c (res c qo B x) (rowsOutE B chk dec oo hoo oe hoe) ⟨⟩ (res c qo B (rowsOutT chk oo hoo oe hoe x)) := by
  unfold rowsOutE rowsOutT
  rw [dif_pos hv]
  refine Runs.bind (Runs.load (reads_acc τ c qo B x) _ _) ?_
  refine Runs.bind (Runs.word (reads_order τ c qo B x) _ _ _) ?_
  refine Runs.bind (Runs.assume _ hv) ?_
  refine Runs.bind (Runs.load (reads_rows τ c qo B x) _ _) ?_
  exact Runs.store (holds_rows τ c qo B x) _ _ _ _

/-- The contents after the last piece. -/
def errT (x : Cont F) : Cont F :=
  { x with err := (Rect.unit (s := S20x128) ![0, 0] S20x128.size inb_S20x128_S20x128).overlay x.err (
      errOut (rd (t := S20x1792) x.rows ![0, 0] S20x1792.size inb_S20x1792_S20x1792)) }

theorem runs_errE (x : Cont F) : Runs defs 𝒱 c (res c qo B x) (errE B) ⟨⟩ (res c qo B (errT x)) := by
  unfold errE
  refine Runs.bind (Runs.load (reads_rows τ c qo B x) _ _) ?_
  refine Runs.bind (Runs.load (reads_err τ c qo B x) _ _) ?_
  exact Runs.store (holds_err τ c qo B x) _ _ _ _

/-! ### The two error buffers exchanged -/

/-- The buffers with the two error buffers exchanged. -/
def Bufs.swap (B : Bufs sig) : Bufs sig := { B with d0 := B.d1, d1 := B.d0, hd0 := B.hd1, hd1 := B.hd0 }

/-- The contents likewise. -/
def Cont.swap (x : Cont F) : Cont F := { x with d0 := x.d1, d1 := x.d0 }

theorem res_swap (c : Dev nD) (qo : PosShare TreeShare) (B : Bufs sig) (x : Cont F) :
    (res c qo B x : sProp 𝕄) ⊢ res c qo B.swap x.swap := by
  unfold res Bufs.swap Cont.swap
  iintro ⟨H0, H1, H2, H3, H4, H5, H6, H7, H8, H9, H10, H11, H12, H13, H14, H15, H16⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H14]; · iexact H14
  iexact H16

/-- The column step with the two error buffers' parts exchanged. -/
theorem runs_stepE_swap (x : Cont F) (ln : Nat → BitVec 32) (orx : Fin 2 → Nat) (hrx : ∀ a, orx a + S1x512.size a ≤ S1x5120.size a)
    (odc : Fin 2 → Nat) (hdc : ∀ a, odc a + S896x512.size a ≤ S896x5120.size a)
    (hv : O.chk (rdWord x.order O.oo S1.size O.hoo numel1_S1)) :
    Runs defs 𝒱 c (res c qo B x) (stepE O B B.d1 B.d0 B.hd0 ln orx hrx odc hdc) ⟨⟩
      (res c qo B (stepT O ln orx hrx odc hdc x.swap).swap) :=
  Runs.mono (runs_stepE (B := B.swap) O x.swap ln orx hrx odc hdc hv) (res_swap c qo B x) (res_swap c qo B.swap _)

end Cert.Search
-- ==== Proof.Point.lean ====
/- One grid point's run: the conditions and offsets a point's words come to (`Pt`), the body over them (`bodyP`), the
   contents it leaves (`bodyT`) and the proof that it runs from the one to the other. -/
module

public import proofs.«01_k».proof.Proof.State

@[expose] public section

set_option maxRecDepth 16384

noncomputable section

namespace Cert.Search

open Idealize.ShloMosaic Idealize.SL Idealize.SL.Sem
open Idealize.SL.BI (sProp bigSep)
open scoped Idealize.SL.BI
open Idealize.SL.BI.BIBase Idealize.SL.BI.Laws Idealize.SL.ProofMode
open Idealize.SL.RA

variable {F : FTy → Type} [FloatOps F]
variable {nD : Nat} {τ : Topo} {sig : RefSig} {Λ₀ : Labels}

local notation "𝕄" => MT nD τ sig Unit (Elt F) ℕ (UR sig nD τ) ℕ

/-- The lane of the slab's group `j`, from the slab's word. -/
def lane (a : BitVec 32) (j : Nat) : BitVec 32 := Scalar.addi (Scalar.muli a 4#32) (BitVec.ofNat 32 j)

/-- What one grid point's words come to: the conditions its branches test and the offsets its pieces use. -/
structure Pt where
  t : Nat
  n : Nat
  ht : t < 40
  hn : n < 10
  c1 : BitVec 1
  c2 : BitVec 1
  c3 : BitVec 1
  c4 : BitVec 1
  c5 : BitVec 1
  c6 : BitVec 1
  hc1 : c1 = 1#1 ↔ (t = 0 ∧ n = 0)
  hc2 : c2 = 1#1 ↔ n = 0
  hc3 : c3 = 1#1 ↔ t % 2 = 0
  hc4 : c4 = 1#1 ↔ t % 2 = 1
  hc5 : c5 = 1#1 ↔ n = 9
  hc6 : c6 = 1#1 ↔ t = 39
  lp : Scf.Loop 32
  lok : c1 = 1#1 → lp.OK
  htrips : lp.trips = 10
  o1 : c1 = 1#1 → Fin lp.trips → Offs
  o1R : ∀ h k, (o1 h k).R = 0
  o1n : ∀ h k, (o1 h k).n = k.val
  o1o : ∀ h k, (o1 h k).oo = ![0]
  off3 : Fin lp.trips → Fin 2 → Nat
  inb3 : ∀ k, c1 = 1#1 → ∀ a, off3 k a + S896x512.size a ≤ S896x5120.size a
  off3_eq : ∀ k, off3 k = ![0, 512 * k.val]
  o2 : c3 = 1#1 → Offs
  o2R : ∀ h, (o2 h).R = 7 * (min (t + 1) 39 % 2)
  o2n : ∀ h, (o2 h).n = n
  o2o : ∀ h, (o2 h).oo = ![min (t + 1) 39 / 2]
  r2 : Fin 2 → Nat
  hr2 : c3 = 1#1 → ∀ a, r2 a + S1x512.size a ≤ S1x5120.size a
  r2_eq : r2 = ![0, 512 * n]
  d2 : Fin 2 → Nat
  hd2 : c3 = 1#1 → ∀ a, d2 a + S896x512.size a ≤ S896x5120.size a
  d2_eq : d2 = ![0, 512 * n]
  o3 : c4 = 1#1 → Offs
  o3R : ∀ h, (o3 h).R = 7 * (min (t + 1) 39 % 2)
  o3n : ∀ h, (o3 h).n = n
  o3o : ∀ h, (o3 h).oo = ![min (t + 1) 39 / 2]
  r3 : Fin 2 → Nat
  hr3 : c4 = 1#1 → ∀ a, r3 a + S1x512.size a ≤ S1x5120.size a
  r3_eq : r3 = ![0, 512 * n]
  d3 : Fin 2 → Nat
  hd3 : c4 = 1#1 → ∀ a, d3 a + S896x512.size a ≤ S896x5120.size a
  d3_eq : d3 = ![0, 512 * n]
  w : BitVec 32
  chk4 : BitVec 32 → Prop
  dec4 : ∀ v, Decidable (chk4 v)
  chk4_of : ∀ v : BitVec 32, v.toNat < 20 → chk4 v
  o4 : Fin 1 → Nat
  ho4 : c5 = 1#1 → ∀ a, o4 a + S1.size a ≤ S20.size a
  o4_eq : o4 = ![t / 2]
  oe : BitVec 32 → Fin 2 → Nat
  hoe : ∀ v, chk4 v → c5 = 1#1 → ∀ a, oe v a + S1x896.size a ≤ S20x1792.size a
  oe_eq : ∀ v : BitVec 32, oe v = ![v.toNat, t % 2 * 896]

variable (p : Pt)

/-- The first block's loop, at the first point. -/
def progA (B : Bufs sig) : Prog (TpuEff nD τ sig (Elt F) Λ₀ .tc) PUnit :=
  if h1 : p.c1 = 1#1 then
    Scf.Loop.for p.lp (p.lok h1) ⟨⟩ fun t _ =>
      tripD (p.o1 h1 t) B (B.codes0.slice (Rect.unit (s := S896x5120) (p.off3 t) S896x512.size (p.inb3 t h1)) (fun _ => rfl))
  else pure ⟨⟩

/-- The clearing, at a block's first slab. -/
def progB (B : Bufs sig) : Prog (TpuEff nD τ sig (Elt F) Λ₀ .tc) PUnit :=
  if _h2 : p.c2 = 1#1 then clearE B else pure ⟨⟩

/-- The column step at an even block. -/
def progC (B : Bufs sig) : Prog (TpuEff nD τ sig (Elt F) Λ₀ .tc) PUnit :=
  if h3 : p.c3 = 1#1 then stepE (p.o2 h3) B B.d0 B.d1 B.hd1 (lane p.w) p.r2 (p.hr2 h3) p.d2 (p.hd2 h3) else pure ⟨⟩

/-- The column step at an odd block. -/
def progD (B : Bufs sig) : Prog (TpuEff nD τ sig (Elt F) Λ₀ .tc) PUnit :=
  if h4 : p.c4 = 1#1 then stepE (p.o3 h4) B B.d1 B.d0 B.hd0 (lane p.w) p.r3 (p.hr3 h4) p.d3 (p.hd3 h4) else pure ⟨⟩

/-- The sums written out, at a block's last slab. -/
def progE (B : Bufs sig) : Prog (TpuEff nD τ sig (Elt F) Λ₀ .tc) PUnit :=
  if h5 : p.c5 = 1#1 then
    rowsOutE B p.chk4 p.dec4 p.o4 (p.ho4 h5) p.oe (fun v hv => p.hoe v hv h5) >>= fun _ =>
      if _h6 : p.c6 = 1#1 then errE B else pure ⟨⟩
  else pure ⟨⟩

/-- The body at a grid point. -/
def bodyP (B : Bufs sig) : Prog (TpuEff nD τ sig (Elt F) Λ₀ .tc) PUnit :=
  progA p B >>= fun _ => progB p B >>= fun _ => progC p B >>= fun _ => progD p B >>= fun _ => progE p B

/-- The contents after `k` trips of the first block's loop. -/
def initT (h1 : p.c1 = 1#1) : (k : Nat) → k ≤ p.lp.trips → Cont F → Cont F
  | 0, _, x => x
  | k + 1, h, x => tripDT (p.o1 h1 ⟨k, h⟩) (p.off3 ⟨k, h⟩) (p.inb3 ⟨k, h⟩ h1) (initT h1 k (Nat.le_of_succ_le h) x)

def partA (x : Cont F) : Cont F := if h1 : p.c1 = 1#1 then initT p h1 p.lp.trips le_rfl x else x
def partB (x : Cont F) : Cont F := if p.c2 = 1#1 then clearT x else x
def partC (x : Cont F) : Cont F := if h3 : p.c3 = 1#1 then stepT (p.o2 h3) (lane p.w) p.r2 (p.hr2 h3) p.d2 (p.hd2 h3) x else x
def partD (x : Cont F) : Cont F :=
  if h4 : p.c4 = 1#1 then (stepT (p.o3 h4) (lane p.w) p.r3 (p.hr3 h4) p.d3 (p.hd3 h4) x.swap).swap else x
def partE (x : Cont F) : Cont F := if h5 : p.c5 = 1#1 then rowsOutT p.chk4 p.o4 (p.ho4 h5) p.oe (fun v hv => p.hoe v hv h5) x else x
def partF (x : Cont F) : Cont F := if p.c5 = 1#1 ∧ p.c6 = 1#1 then errT x else x

/-- The contents the body leaves. -/
def bodyT (x : Cont F) : Cont F := partF p (partE p (partD p (partC p (partB p (partA p x)))))

/-! ### What no piece changes -/

/-- Two contents with the same operands. -/
structure Same (x y : Cont F) : Prop where
  order : y.order = x.order
  wscale : y.wscale = x.wscale
  codes0 : y.codes0 = x.codes0
  codes : y.codes = x.codes
  h : y.h = x.h
  s : y.s = x.s
  rs : y.rs = x.rs
  rxc : y.rxc = x.rxc

theorem Same.refl (x : Cont F) : Same x x := ⟨rfl, rfl, rfl, rfl, rfl, rfl, rfl, rfl⟩

theorem Same.trans {x y z : Cont F} (a : Same x y) (b : Same y z) : Same x z :=
  ⟨b.order.trans a.order, b.wscale.trans a.wscale, b.codes0.trans a.codes0, b.codes.trans a.codes, b.h.trans a.h,
    b.s.trans a.s, b.rs.trans a.rs, b.rxc.trans a.rxc⟩

theorem same_gDT (O : Offs) (cd : S896x512.Idx → Elt F .fp8e4m3) (v : BitVec 32) (hv : O.chk v) (rb : Nat) (h : rb < 7) (j : Nat) (h' : j < 4)
    (x : Cont F) : Same x (gDT O cd v hv rb h j h' x) := by
  unfold gDT groupDT; exact ⟨rfl, rfl, rfl, rfl, rfl, rfl, rfl, rfl⟩

theorem same_gET (O : Offs) (v : BitVec 32) (hv : O.chk v) (rb : Nat) (h : rb < 7) (j : Nat) (h' : j < 4)
    (x : Cont F) : Same x (gET O v hv rb h j h' x) := by
  unfold gET groupET; exact ⟨rfl, rfl, rfl, rfl, rfl, rfl, rfl, rfl⟩

theorem same_gE4 (O : Offs) (v : BitVec 32) (hv : O.chk v) (rb : Nat) (h : rb < 7) (x : Cont F) : Same x (gE4 O v hv rb h x) :=
  (same_gET ..).trans ((same_gET ..).trans ((same_gET ..).trans (same_gET ..)))

theorem same_rowET (O : Offs) (ln : Nat → BitVec 32) (v : BitVec 32) (hv : O.chk v) (rb : Nat) (h : rb < 7) (x : Cont F) :
    Same x (rowET O ln v hv rb h x) := by
  have g := same_gE4 O v hv rb h x
  unfold rowET
  generalize gE4 O v hv rb h x = y at g ⊢
  exact ⟨g.order, g.wscale, g.codes0, g.codes, g.h, g.s, g.rs, g.rxc⟩

theorem same_tailT (orx : Fin 2 → Nat) (hrx : ∀ a, orx a + S1x512.size a ≤ S1x5120.size a)
    (odc : Fin 2 → Nat) (hdc : ∀ a, odc a + S896x512.size a ≤ S896x5120.size a) (x : Cont F) : Same x (tailT orx hrx odc hdc x) := by
  unfold tailT; exact ⟨rfl, rfl, rfl, rfl, rfl, rfl, rfl, rfl⟩

theorem same_rowsDT (O : Offs) (cd : S896x512.Idx → Elt F .fp8e4m3) (v : BitVec 32) (hv : O.chk v) (k : Nat) (h : k ≤ 7)
    (x : Cont F) : Same x (rowsDT O cd v hv k h x) := by
  induction k with
  | zero => exact .refl x
  | succ k ih =>
    unfold rowsDT rowDT
    exact (ih (Nat.le_of_succ_le h)).trans ((same_gDT ..).trans ((same_gDT ..).trans ((same_gDT ..).trans (same_gDT ..))))

theorem same_tripDT (O : Offs) (o0 : Fin 2 → Nat) (h0 : ∀ a, o0 a + S896x512.size a ≤ S896x5120.size a) (x : Cont F) :
    Same x (tripDT O o0 h0 x) := by
  unfold tripDT; split
  · exact same_rowsDT _ _ _ _ _ _ _
  · exact .refl x

theorem same_initT (h1 : p.c1 = 1#1) (k : Nat) (h : k ≤ p.lp.trips) (x : Cont F) : Same x (initT p h1 k h x) := by
  induction k with
  | zero => exact .refl x
  | succ k ih => exact (ih (Nat.le_of_succ_le h)).trans (same_tripDT _ _ _ _)

theorem same_rowsET (O : Offs) (ln : Nat → BitVec 32) (v : BitVec 32) (hv : O.chk v) (k : Nat) (h : k ≤ 7) (x : Cont F) :
    Same x (rowsET O ln v hv k h x) := by
  induction k with
  | zero => exact .refl x
  | succ k ih => exact (ih (Nat.le_of_succ_le h)).trans (same_rowET ..)

theorem same_stepT (O : Offs) (ln : Nat → BitVec 32) (orx : Fin 2 → Nat) (hrx : ∀ a, orx a + S1x512.size a ≤ S1x5120.size a)
    (odc : Fin 2 → Nat) (hdc : ∀ a, odc a + S896x512.size a ≤ S896x5120.size a) (x : Cont F) :
    Same x (stepT O ln orx hrx odc hdc x) := by
  unfold stepT; split
  · exact (same_rowsET O ln _ _ 7 le_rfl x).trans (same_tailT ..)
  · exact .refl x

theorem same_partA (x : Cont F) : Same x (partA p x) := by
  unfold partA; split
  · exact same_initT _ _ _ _ _
  · exact .refl x
theorem same_partB (x : Cont F) : Same x (partB p x) := by
  unfold partB clearT; split
  · exact ⟨rfl, rfl, rfl, rfl, rfl, rfl, rfl, rfl⟩
  · exact .refl x
theorem same_partC (x : Cont F) : Same x (partC p x) := by
  unfold partC; split
  · exact same_stepT _ _ _ _ _ _ _
  · exact .refl x
theorem same_partD (x : Cont F) : Same x (partD p x) := by
  unfold partD; split
  · have := same_stepT (p.o3 ‹_›) (lane p.w) p.r3 (p.hr3 ‹_›) p.d3 (p.hd3 ‹_›) x.swap
    exact ⟨this.order, this.wscale, this.codes0, this.codes, this.h, this.s, this.rs, this.rxc⟩
  · exact .refl x
theorem same_partE (x : Cont F) : Same x (partE p x) := by
  unfold partE rowsOutT; split
  · split
    · exact ⟨rfl, rfl, rfl, rfl, rfl, rfl, rfl, rfl⟩
    · exact .refl x
  · exact .refl x
theorem same_partF (x : Cont F) : Same x (partF p x) := by
  unfold partF errT; split
  · exact ⟨rfl, rfl, rfl, rfl, rfl, rfl, rfl, rfl⟩
  · exact .refl x

theorem same_bodyT (x : Cont F) : Same x (bodyT p x) :=
  (same_partA p x).trans <| (same_partB p _).trans <| (same_partC p _).trans <| (same_partD p _).trans <|
    (same_partE p _).trans (same_partF p _)

/-! ### The run -/

variable {defs : Defs nD τ sig (Elt F) Λ₀} {𝒱 : Variants} {c : Dev nD} {qo : PosShare TreeShare} {B : Bufs sig}

theorem runs_partA (x : Cont F) (hx : ∀ j, (x.order j).toNat < 20) :
    Runs defs 𝒱 c (res c qo B x) (progA p B) ⟨⟩ (res c qo B (partA p x)) := by
  unfold progA partA
  split
  · rename_i h1
    have := Runs.loop (defs := defs) (𝒱 := 𝒱) (c := c) p.lp (p.lok h1)
      (body := fun t _ => tripD (p.o1 h1 t) B (B.codes0.slice (Rect.unit (s := S896x5120) (p.off3 t) S896x512.size (p.inb3 t h1)) (fun _ => rfl)))
      (fun k => if h : k ≤ p.lp.trips then res c qo B (initT p h1 k h x) else iprop(True)) (fun k => by
        rw [dif_pos k.isLt.le, dif_pos (Nat.succ_le_of_lt k.isLt)]
        refine runs_tripD _ _ _ _ ?_
        rw [(same_initT p h1 k.val k.isLt.le x).order]
        exact (p.o1 h1 k).chk_of _ (hx _))
    rwa [dif_pos (Nat.zero_le _), dif_pos le_rfl] at this
  · exact .pure _

theorem runs_partB (x : Cont F) :
    Runs defs 𝒱 c (res c qo B x) (progB p B) ⟨⟩ (res c qo B (partB p x)) := by
  unfold progB partB
  split
  · exact runs_clearE _
  · exact .pure _

theorem runs_partC (x : Cont F) (hx : ∀ j, (x.order j).toNat < 20) :
    Runs defs 𝒱 c (res c qo B x) (progC p B) ⟨⟩ (res c qo B (partC p x)) := by
  unfold progC partC
  split
  · exact runs_stepE _ _ _ _ _ _ _ ((p.o2 ‹_›).chk_of _ (hx _))
  · exact .pure _

theorem runs_partD (x : Cont F) (hx : ∀ j, (x.order j).toNat < 20) :
    Runs defs 𝒱 c (res c qo B x) (progD p B) ⟨⟩ (res c qo B (partD p x)) := by
  unfold progD partD
  split
  · exact runs_stepE_swap _ _ _ _ _ _ _ ((p.o3 ‹_›).chk_of _ (hx _))
  · exact .pure _

theorem runs_partEF (x : Cont F) (hx : ∀ j, (x.order j).toNat < 20) :
    Runs defs 𝒱 c (res c qo B x) (progE p B) ⟨⟩ (res c qo B (partF p (partE p x))) := by
  unfold progE partF partE
  by_cases h5 : p.c5 = 1#1
  · rw [dif_pos h5, dif_pos h5]
    refine Runs.bind (runs_rowsOutE x _ _ _ _ _ _ (p.chk4_of _ (hx _))) ?_
    by_cases h6 : p.c6 = 1#1
    · rw [dif_pos h6, if_pos ⟨h5, h6⟩]
      exact runs_errE _
    · rw [dif_neg h6, if_neg (fun h => h6 h.2)]
      exact .pure _
  · rw [dif_neg h5, dif_neg h5, if_neg (fun h => h5 h.1)]
    exact .pure _

/-- The body runs from the contents `x` to `bodyT x`, every word of the table naming a candidate. -/
theorem runs_bodyP (x : Cont F) (hx : ∀ j, (x.order j).toNat < 20) :
    Runs defs 𝒱 c (res c qo B x) (bodyP p B) ⟨⟩ (res c qo B (bodyT p x)) := by
  unfold bodyP bodyT
  have ha := same_partA p x
  have hb := ha.trans (same_partB p _)
  have hc := hb.trans (same_partC p _)
  have hd := hc.trans (same_partD p _)
  refine Runs.bind (runs_partA p x hx) ?_
  refine Runs.bind (runs_partB p _) ?_
  refine Runs.bind (runs_partC p _ fun j => by rw [hb.order]; exact hx j) ?_
  refine Runs.bind (runs_partD p _ fun j => by rw [hc.order]; exact hx j) ?_
  exact runs_partEF p _ fun j => by rw [hd.order]; exact hx j

end Cert.Search
-- ==== Proof.PtK.lean ====
/- The words of the kernel's grid points, in closed form, and the printed body at a grid point as the program over them. -/
module

public import proofs.«01_k».proof.Proof.Equ
public import proofs.«01_k».proof.Proof.Point

@[expose] public section

set_option maxRecDepth 16384

noncomputable section

namespace Cert.Kernel

open Idealize.ShloMosaic Idealize.SL.Sem Cert.Search
open Cert.Kernel.Gen

variable {F : FTy → Type} [FloatOps F]

theorem cond1_iff : ∀ i : grid0.Coords, k0_cond1 i = 1#1 ↔ ((i 0).val = 0 ∧ (i 1).val = 0) := by decide +kernel
theorem cond2_iff : ∀ i : grid0.Coords, k0_cond2 i = 1#1 ↔ (i 1).val = 0 := by decide +kernel
theorem cond3_iff : ∀ i : grid0.Coords, k0_cond3 i = 1#1 ↔ (i 0).val % 2 = 0 := by decide +kernel
theorem cond4_iff : ∀ i : grid0.Coords, k0_cond4 i = 1#1 ↔ (i 0).val % 2 = 1 := by decide +kernel
theorem cond5_iff : ∀ i : grid0.Coords, k0_cond5 i = 1#1 ↔ (i 1).val = 9 := by decide +kernel
theorem cond6_iff : ∀ i : grid0.Coords, k0_cond6 i = 1#1 ↔ (i 0).val = 39 := by decide +kernel

theorem off18_cf : ∀ i : grid0.Coords, k0_off18 i = ![min ((i 0).val + 1) 39 / 2] := by decide +kernel
theorem off31_cf : ∀ i : grid0.Coords, k0_off31 i = ![min ((i 0).val + 1) 39 / 2] := by decide +kernel
theorem off29_cf : ∀ i : grid0.Coords, k0_off29 i = ![0, 512 * (i 1).val] := by decide +kernel
theorem off30_cf : ∀ i : grid0.Coords, k0_off30 i = ![0, 512 * (i 1).val] := by decide +kernel
theorem off42_cf : ∀ i : grid0.Coords, k0_off42 i = ![0, 512 * (i 1).val] := by decide +kernel
theorem off43_cf : ∀ i : grid0.Coords, k0_off43 i = ![0, 512 * (i 1).val] := by decide +kernel
theorem off44_cf : ∀ i : grid0.Coords, k0_off44 i = ![(i 0).val / 2] := by decide +kernel
theorem off3_cf : ∀ t : Fin k0_t1_loop.trips, k0_off3 t = ![0, 512 * t.val] := by decide +kernel
theorem off45_0 : ∀ i : grid0.Coords, k0_off45 i 0#32 1 = (i 0).val % 2 * 896 := by decide +kernel

theorem off45_cf (i : grid0.Coords) (v : BitVec 32) : k0_off45 i v = ![v.toNat, (i 0).val % 2 * 896] := by
  have h := off45_0 i
  show ![(Scalar.indexCast v).toNat, k0_off45 i 0#32 1] = _
  rw [h]; rfl

/-- The words of the grid point `i`. -/
def pt (i : grid0.Coords) : Pt where
  t := (i 0).val
  n := (i 1).val
  ht := (i 0).isLt
  hn := (i 1).isLt
  c1 := k0_cond1 i
  c2 := k0_cond2 i
  c3 := k0_cond3 i
  c4 := k0_cond4 i
  c5 := k0_cond5 i
  c6 := k0_cond6 i
  hc1 := cond1_iff i
  hc2 := cond2_iff i
  hc3 := cond3_iff i
  hc4 := cond4_iff i
  hc5 := cond5_iff i
  hc6 := cond6_iff i
  lp := k0_t1_loop
  lok := k0_t1_ok i
  htrips := trips_eq
  o1 := offs1 i
  o1R _ _ := rfl
  o1n _ _ := rfl
  o1o _ _ := rfl
  off3 := k0_off3
  inb3 k h := k0_off3_inb i k h
  off3_eq := off3_cf
  o2 := offs2 i
  o2R _ := rfl
  o2n _ := rfl
  o2o _ := off18_cf i
  r2 := k0_off29 i
  hr2 := k0_off29_inb i
  r2_eq := off29_cf i
  d2 := k0_off30 i
  hd2 := k0_off30_inb i
  d2_eq := off30_cf i
  o3 := offs3 i
  o3R _ := rfl
  o3n _ := rfl
  o3o _ := off31_cf i
  r3 := k0_off42 i
  hr3 := k0_off42_inb i
  r3_eq := off42_cf i
  d3 := k0_off43 i
  hd3 := k0_off43_inb i
  d3_eq := off43_cf i
  w := BitVec.ofNat 32 (i 1).val
  chk4 := k0_chk4 i
  dec4 := k0_chk4.dec i
  chk4_of v hv := by
    intro _
    rw [off45_cf]
    intro a; fin_cases a <;> simp <;> omega
  o4 := k0_off44 i
  ho4 := k0_off44_inb i
  o4_eq := off44_cf i
  oe := k0_off45 i
  hoe v hv h := k0_off45_inb i v hv h
  oe_eq := off45_cf i

theorem bodyS_eq (i : grid0.Coords) (B : Bufs sig) : bodyS (F := F) i B = bodyP (pt i) B := by
  unfold bodyS headS bodyP
  have eA : progA (F := F) (nD := nD) (τ := τ) (Λ₀ := Λ₀) (pt i) B = if h1 : k0_cond1 i = 1#1 then initS i h1 B else pure ⟨⟩ := rfl
  have eB : progB (F := F) (nD := nD) (τ := τ) (Λ₀ := Λ₀) (pt i) B = if _h2 : k0_cond2 i = 1#1 then clearE B else pure ⟨⟩ := rfl
  have eC : progC (F := F) (nD := nD) (τ := τ) (Λ₀ := Λ₀) (pt i) B = if h3 : k0_cond3 i = 1#1 then evenS i h3 B (BitVec.ofNat 32 (i 1).val) else pure ⟨⟩ := rfl
  have eD : progD (F := F) (nD := nD) (τ := τ) (Λ₀ := Λ₀) (pt i) B = if h4 : k0_cond4 i = 1#1 then oddS i h4 B (BitVec.ofNat 32 (i 1).val) else pure ⟨⟩ := rfl
  have eE : progE (F := F) (nD := nD) (τ := τ) (Λ₀ := Λ₀) (pt i) B = if h5 : k0_cond5 i = 1#1 then (rowsOutS i h5 B >>= fun _ => if _h6 : k0_cond6 i = 1#1 then errE B else pure ⟨⟩) else pure ⟨⟩ := rfl
  rw [eA, eB, eC, eD, eE]
  by_cases h1 : k0_cond1 i = 1#1 <;> by_cases h2 : k0_cond2 i = 1#1 <;> by_cases h3 : k0_cond3 i = 1#1 <;>
  by_cases h4 : k0_cond4 i = 1#1 <;> by_cases h5 : k0_cond5 i = 1#1 <;> by_cases h6 : k0_cond6 i = 1#1 <;>
  simp only [h1, h2, h3, h4, h5, h6, dif_pos, dif_neg, not_false_eq_true, bind_assoc, pure_bind, bind_pure, bind_pure_unit, dite_true, dite_false, ↓reduceDIte, reduceCtorEq]

end Cert.Kernel
-- ==== Proof.Launch.lean ====
/- The launch of the search kernel: the pipeline's proof data over any invariant of the scratch buffers (`Track`), the body's
   obligation from one step of the contents, and the run. -/
module

public import proofs.«01_k».proof.Proof.PtK
public import proofs.«01_k».proof.Proof.Gen.Kernel.Launch
public import Idealize.ShloMosaic.Lib.Pipeline.FrameBody
public import Idealize.ShloMosaic.Lib.Pipeline.ArrRel
public import Idealize.ShloMosaic.Lib.Pipeline.Value
public import Idealize.ShloMosaic.Lib.Claim
public import Idealize.ShloMosaic.Lib.Tactic

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Search
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers when the region is entered. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The prefetched table's contents. -/
def adm : (p : Fin 1) → (pcfgs (F := F) p).Adm := fun _ => ⟨fun k => V m 0 (pre0.ref k), trivial⟩

/-- The pipeline. -/
abbrev cfgM : Cfg sig Λ₀ := Pipeline.pin (pcfgs (F := F)) (adm m) 0

/-! ## The proof data -/

/-- What is known of the scratch buffers, the rows' buffer and the outputs before or after a point. -/
structure Track (F : FTy → Type) where
  Inv : ℕ → (S896x5120.Idx → Elt F .bf16) → (S896x5120.Idx → Elt F .bf16) → (S896x128.Idx → Elt F .f32) → Prop
  Rows : ℕ → (S20x1792.Idx → Elt F .f32) → Prop
  Err : ℕ → (S20x128.Idx → Elt F .f32) → Prop
  Dh : ℕ → (S896x512.Idx → Elt F .bf16) → Prop

variable (T : Track F)

/-- What the body leaves in each window's buffer. -/
def leave (w : Fin 13) (t : ℕ) : (Y X : ((cfgM m).win w).block.Idx → Elt F ((cfgM m).win w).elt) → Prop :=
  match w with
  | 7 => fun _ X => T.Err t X
  | 8 => fun _ X => T.Rows (t + 1) X
  | 9 => fun _ X => T.Dh t X
  | 10 => fun _ _ => True
  | 11 => fun _ _ => True
  | 12 => fun _ _ => True
  | 0 => fun Y X => X = Y
  | 1 => fun Y X => X = Y
  | 2 => fun Y X => X = Y
  | 3 => fun Y X => X = Y
  | 4 => fun Y X => X = Y
  | 5 => fun Y X => X = Y
  | 6 => fun Y X => X = Y
  | ⟨_ + 13, h⟩ => absurd h (Nat.not_lt.2 (Nat.le_add_left _ _))

/-- The resources between two points: the scratch buffers, the table and the generator's register. -/
def phi (c : Dev nD) (k : ℕ) : sProp 𝕄 :=
  iprop(∃ d0 d1 acc, ⌜T.Inv k d0 d1 acc⌝ ∗ ownsTc c (Memref.whole cc0_scratch0) fullShare d0
    ∗ ownsTc c (Memref.whole cc0_scratch1) fullShare d1 ∗ ownsTc c (Memref.whole cc0_scratch2) fullShare acc
    ∗ ownsTc c (Memref.whole main_v16) fullShare.right (V m 0 main_v16) ∗ ∃ r, prngReg c r)

theorem phi_eq (c : Dev nD) (k : ℕ) : phi m T c k = iprop(∃ d0 d1 acc, ⌜T.Inv k d0 d1 acc⌝ ∗ (((c : Thread nD τ).loc cc0_scratch0) ↦{fullShare} d0)
    ∗ (((c : Thread nD τ).loc cc0_scratch1) ↦{fullShare} d1) ∗ (((c : Thread nD τ).loc cc0_scratch2) ↦{fullShare} acc)
    ∗ (((c : Thread nD τ).loc main_v16) ↦{fullShare.right} V m 0 main_v16) ∗ ∃ r, prngReg c r) := by
  unfold phi
  simp only [ownsTc, owns_whole]

/-- The proof data of core `c`. -/
def rdat (c : Dev nD) : RDat τ (Elt F) Unit ℕ (UR sig nD τ) ℕ (cfgM m) c where
  A w := V m c (Pipeline.arrRef spec0 w)
  after w t Y X := leave m T w t.val Y X
  Φ k := phi m T c k.val
  q w := Pipeline.shareOf spec0 w
  owed _ := 0

/-- The block of window `w`'s array at point `t`. -/
def iblk (c : Dev nD) (w : Fin 13) (t : Fin grid0.N) : (((cfgM m).win w).xblock (grid0.coords t)).Idx → Elt F ((cfgM m).win w).elt :=
  (((cfgM m).win w).blk t).view.read (Elt F) (V m c (Pipeline.arrRef spec0 w))

/-- An input window holds its block at every point. -/
theorem finds_in (c : Dev nD) (w : Fin 13) (hw : (spec0 w).isOut = false) (t : Fin grid0.N) (Y)
    (hk : ∀ (t : ℕ) Y X, leave m T w t Y X → X = Y)
    (h : (rdat m T c).Finds w t Y) : ∃ d, Y = (rdat m T c).fetched w t d :=
  RDat.finds_in_eq_fetched (rdat m T c) w hw (fun _ _ _ => rfl) (fun t => hk t.val) t Y h

theorem finds_in' (c : Dev nD) (w : Fin 13) (hw : (spec0 w).isOut = false) (t : Fin grid0.N) (Y)
    (hk : ∀ (t : ℕ) Y X, leave m T w t Y X → X = Y)
    (hf : ∀ d, (rdat m T c).fetched w t d = iblk m c w t)
    (h : (rdat m T c).Finds w t Y) : Y = iblk m c w t := by
  obtain ⟨d, hd⟩ := finds_in m T c w hw t Y hk h
  exact hd.trans (hf d)

/-- The contents of the operands at a point. -/
structure Fed (c : Dev nD) (t : Fin grid0.N) (x : Cont F) : Prop where
  order : x.order = V m 0 main_v16
  wscale : x.wscale = iblk m c 0 t
  codes0 : x.codes0 = iblk m c 1 t
  codes : x.codes = iblk m c 2 t
  h : x.h = iblk m c 3 t
  s : x.s = iblk m c 4 t
  rs : x.rs = iblk m c 5 t
  rxc : x.rxc = iblk m c 6 t

/-- One step of the contents keeps the track. -/
def Steps (c : Dev nD) : Prop := ∀ (t : Fin grid0.N) (x : Cont F), Fed m c t x →
  T.Inv t.val x.d0 x.d1 x.acc → T.Rows t.val x.rows →
  let y := bodyT (pt (grid0.coords t)) x
  T.Inv (t.val + 1) y.d0 y.d1 y.acc ∧ T.Rows (t.val + 1) y.rows ∧ T.Err t.val y.err ∧ T.Dh t.val y.dh

/-- What the rows' buffer holds when the body gets it. -/
theorem finds_rows (hR : ∀ X, T.Rows 0 X) (hfl : ∀ t : Fin grid0.N, ((cfgM m).win 8).flush t = true → t.val = 399)
    (c : Dev nD) (t : Fin grid0.N) (Y) (h : (rdat m T c).Finds 8 t Y) : T.Rows t.val Y := by
  by_cases h0 : t.val = 0
  · rw [h0]; exact hR Y
  · rcases ((rdat m T c).finds_of_pos (((cfgM m).win 8).fetch_out rfl t) h0 Y).mp h with hf | ⟨Y', _, hL⟩
    · have := hfl _ hf
      have ht := t.isLt
      have hN : grid0.N = 400 := N_0
      simp only at this; omega
    · have : T.Rows (t.val - 1 + 1) Y := hL
      rwa [Nat.sub_add_cancel (by omega)] at this

/-- The body's buffers at a point. -/
def bufs (t : Fin grid0.N) : Bufs sig :=
  let s := (cfgM m).slots t
  { order := Memref.whole main_v16, wscale := spec0_0.stage (s 0), codes0 := spec0_1.stage (s 1), codes := spec0_2.stage (s 2),
    h := spec0_3.stage (s 3), s := spec0_4.stage (s 4), rs := spec0_5.stage (s 5), rxc := spec0_6.stage (s 6),
    err := spec0_7.stage (s 7), rows := spec0_8.stage (s 8), dh := spec0_9.stage (s 9), q := spec0_10.stage (s 10),
    sf := spec0_11.stage (s 11), zero := spec0_12.stage (s 12), d0 := Memref.whole cc0_scratch0, d1 := Memref.whole cc0_scratch1,
    acc := Memref.whole cc0_scratch2, hdh := hstage0_9 ((s 9).cast nbuf0_9), hq := hstage0_10 ((s 10).cast nbuf0_10),
    hd0 := Memref.isWhole_whole _, hd1 := Memref.isWhole_whole _ }

theorem row_eq (t : Fin grid0.N) :
    defs₀ (F := F) .tc (cfgM m).body ((cfgM m).bodyArgs t ((cfgM m).slots t)) = bodyP (pt (grid0.coords t)) (bufs m t) := by
  rw [← bodyS_eq]
  unfold defs₀; rw [Defs.onTc_tc]
  exact body_eq ..

set_option maxHeartbeats 4000000 in
theorem body_obligation (hR : ∀ X, T.Rows 0 X) (hfl : ∀ t : Fin grid0.N, ((cfgM m).win 8).flush t = true → t.val = 399)
    (c : Dev nD) (hs : Steps m T c) (hx : ∀ j, (V m 0 main_v16 j : BitVec 32).toNat < 20) :
    (rdat m T c).BodyObligation (defs₀ (F := F)) Variants.none () Set.univ := by
  intro t Y hY
  rw [row_eq]
  rw [bigSep_W0, bigSep_W0]
  have f0 := finds_in' m T c 0 rfl t _ (fun _ _ _ h => h) (fun _ => rfl) (hY 0)
  have f1 := finds_in' m T c 1 rfl t _ (fun _ _ _ h => h) (fun _ => rfl) (hY 1)
  have f2 := finds_in' m T c 2 rfl t _ (fun _ _ _ h => h) (fun _ => rfl) (hY 2)
  have f3 := finds_in' m T c 3 rfl t _ (fun _ _ _ h => h) (fun _ => rfl) (hY 3)
  have f4 := finds_in' m T c 4 rfl t _ (fun _ _ _ h => h) (fun _ => rfl) (hY 4)
  have f5 := finds_in' m T c 5 rfl t _ (fun _ _ _ h => h) (fun _ => rfl) (hY 5)
  have f6 := finds_in' m T c 6 rfl t _ (fun _ _ _ h => h) (fun _ => rfl) (hY 6)
  have f8 := finds_rows m T hR hfl c t _ (hY 8)
  rw [show (rdat m T c).Φ t.castSucc = phi m T c t.val from rfl, show (rdat m T c).Φ t.succ = phi m T c (t.val + 1) from rfl]
  unfold phi
  iintro ⟨⟨%d0, %d1, %acc, %hI, H0, H1, H2, Ho, Hp⟩, Hw, G0, G1, G2, G3, G4, G5, G6, G7, G8, G9, G10, G11, G12⟩
  let x : Cont F := ⟨V m 0 main_v16, Y 0, Y 1, Y 2, Y 3, Y 4, Y 5, Y 6, Y 7, Y 8, Y 9, Y 10, Y 11, Y 12, d0, d1, acc⟩
  have hfed : Fed m c t x := ⟨rfl, f0, f1, f2, f3, f4, f5, f6⟩
  have hrun := (runs_bodyP (defs := defs₀ (F := F)) (𝒱 := Variants.none) (c := c) (qo := fullShare.right) (B := bufs m t)
    (pt (grid0.coords t)) x hx).wp
  obtain ⟨h1, h2, h3, h4⟩ := hs t x hfed hI f8
  have hsame := same_bodyT (pt (grid0.coords t)) x
  generalize bodyT (pt (grid0.coords t)) x = y at hrun h1 h2 h3 h4 hsame
  iapply (wp_wand_r _ _ _ (Q := fun _ => res c fullShare.right (bufs m t) y))
  isplitl [H0 H1 H2 Ho G0 G1 G2 G3 G4 G5 G6 G7 G8 G9 G10 G11 G12]
  · iapply hrun
    unfold res
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [H0]; · iexact H0
    isplitl [H1]; · iexact H1
    iexact H2
  iintro %_ HR
  unfold res
  icases HR with ⟨Ho, G0, G1, G2, G3, G4, G5, G6, G7, G8, G9, G10, G11, G12, H0, H1, H2⟩
  isplitl [H0 H1 H2 Ho Hp]
  · iexists y.d0; iexists y.d1; iexists y.acc
    isplitr; · ipureintro; exact h1
    isplitl [H0]; · iexact H0
    isplitl [H1]; · iexact H1
    isplitl [H2]; · iexact H2
    isplitl [Ho]; · rw [hsame.order]; iexact Ho
    iexact Hp
  isplitl [Hw]; · iexact Hw
  isplitl [G0]; · iexists y.wscale; isplitr; · ipureintro; exact hsame.wscale
                  iexact G0
  isplitl [G1]; · iexists y.codes0; isplitr; · ipureintro; exact hsame.codes0
                  iexact G1
  isplitl [G2]; · iexists y.codes; isplitr; · ipureintro; exact hsame.codes
                  iexact G2
  isplitl [G3]; · iexists y.h; isplitr; · ipureintro; exact hsame.h
                  iexact G3
  isplitl [G4]; · iexists y.s; isplitr; · ipureintro; exact hsame.s
                  iexact G4
  isplitl [G5]; · iexists y.rs; isplitr; · ipureintro; exact hsame.rs
                  iexact G5
  isplitl [G6]; · iexists y.rxc; isplitr; · ipureintro; exact hsame.rxc
                  iexact G6
  isplitl [G7]; · iexists y.err; isplitr; · ipureintro; exact h3
                  iexact G7
  isplitl [G8]; · iexists y.rows; isplitr; · ipureintro; exact h2
                  iexact G8
  isplitl [G9]; · iexists y.dh; isplitr; · ipureintro; exact h4
                  iexact G9
  isplitl [G10]; · iexists y.q; isplitr; · ipureintro; trivial
                   iexact G10
  isplitl [G11]; · iexists y.sf; isplitr; · ipureintro; trivial
                   iexact G11
  iexists y.zero; isplitr; · ipureintro; trivial
  iexact G12

theorem flush8 (a : (pcfg0 (F := F)).Adm) : ∀ t : Fin grid0.N, ((cfg0 a).win 8).flush t = true → t.val = 399 := by
  intro t h
  have hN : grid0.N = 400 := N_0
  have ht := t.isLt
  by_contra hne
  rw [Window.flush] at h
  simp only [Bool.and_eq_true, Bool.or_eq_true, decide_eq_true_eq] at h
  rcases h.2 with h | ⟨_, h⟩
  · have : t.val + 1 = 400 := h.trans N_0
    omega
  · exact h rfl

set_option backward.isDefEq.respectTransparency.types false in
set_option maxHeartbeats 4000000 in
/-- The run: every array ends at contents it may hold, every other buffer as the region found it, every counter at zero. -/
theorem run_main (hR : ∀ X, T.Rows 0 X) (h0 : ∀ d0 d1 acc, T.Inv 0 d0 d1 acc)
    (hs : ∀ c, Steps m T c) (hx : ∀ j, (V m 0 main_v16 j : BitVec 32).toNat < 20) :
    θ_run defs (onTc (τ := τ) (main (F := F))) (s₀ m ρ)
      (fun r => RDat.FramePost (cfgM m) (rdat m T) (V m) r ∧ r.2.sem = fun _ => 0) :=
  RDat.θ_run_frameP_track_shared pcfgs (adm m) 0 launch₀0 defs₀ Variants.none (rdat m T) m ρ main
    (hbody := fun c => body_obligation m T hR (flush8 _) c (hs c) hx)
    (hq := fun c w _ => rfl) (howed := fun _ _ => rfl) (V := V m) (hmain := hmain m Variants.none)
    (hA := fun _ _ => rfl)
    (hpf := fun c k => by obtain rfl : c = 0 := Subsingleton.elim _ _; rfl)
    (hin := fun c => by
      unfold Pipeline.ΦA
      rw [scopedRest0_eq]
      unfold Pipeline.ΦT Pipeline.prefHeld
      rw [show (Finset.univ : Finset (Fin pre0.K)) = {0} from rfl, bigSep_singleton]
      show _ ⊢ phi m T c 0
      rw [phi_eq]
      iintro ⟨⟨⟨⟨%d0, H0⟩, ⟨%d1, H1⟩, ⟨%acc, H2⟩⟩, Hp⟩, Ht⟩
      iexists d0; iexists d1; iexists acc
      isplitr; · ipureintro; exact h0 _ _ _
      isplitl [H0]; · iexact H0
      isplitl [H1]; · iexact H1
      isplitl [H2]; · iexact H2
      isplitl [Ht]; · iexact Ht
      iexact Hp)
    (hout := fun c => by
      unfold Pipeline.ΦA
      rw [scopedRest0_eq]
      show phi m T c _ ⊢ _
      rw [phi_eq]
      iintro ⟨%d0, %d1, %acc, %_, H0, H1, H2, Ht, Hp⟩
      isplitr [Hp]
      · isplitl [H0]; · iexists d0; iexact H0
        isplitl [H1]; · iexists d1; iexact H1
        iexists acc; iexact H2
      · iexact Hp)
    (Q' := _) (hQ' := fun r h => h)

end Cert.Kernel
-- ==== Proof.Order.lean ====
/- The table of candidates: the twenty of them with the selected one moved to the end. -/
module

public import proofs.«01_k».proof.Proof.Block
public import Idealize.ShloMosaic.Lib.Affine

@[expose] public section

noncomputable section

namespace Cert.Search

open Idealize.ShloMosaic

/-- The candidate at place `i` when `r` is the selected one. -/
def ord (r i : Nat) : Nat := if i = 19 then r else if i < r then i else i + 1

/-- The word the table holds at place `i`. -/
def ordW (r : BitVec 32) (i : Nat) : BitVec 32 :=
  Scalar.select (IntOp.cmpi .eq (BitVec.ofNat 32 i) 19#32) r
    (Scalar.select (IntOp.cmpi .slt (BitVec.ofNat 32 i) r) (BitVec.ofNat 32 i) (BitVec.ofNat 32 i + 1#32))

theorem ordW_toNat (r : BitVec 32) (hr : r.toNat < 20) (i : Nat) (hi : i < 20) : (ordW r i).toNat = ord r.toNat i := by
  have key : ∀ r : Fin 20, ∀ i : Fin 20, (ordW (BitVec.ofNat 32 r.val) i.val).toNat = ord r.val i.val := by decide +kernel
  have := key ⟨r.toNat, hr⟩ ⟨i, hi⟩
  simpa only [BitVec.ofNat_toNat, BitVec.setWidth_eq] using this

theorem ord_lt {r i : Nat} (hr : r < 20) (hi : i < 20) : ord r i < 20 := by
  unfold ord; split_ifs <;> omega

theorem ord_inj {r i j : Nat} (hr : r < 20) (hi : i < 20) (hj : j < 20) (h : ord r i = ord r j) : i = j := by
  unfold ord at h; split_ifs at h <;> omega

theorem ord_surj {r v : Nat} (hr : r < 20) (hv : v < 20) : ∃ i, i < 20 ∧ ord r i = v := by
  unfold ord
  rcases Nat.lt_trichotomy v r with h | h | h
  · exact ⟨v, hv, by split_ifs <;> omega⟩
  · exact ⟨19, by omega, by simp [h]⟩
  · exact ⟨v - 1, by omega, by split_ifs <;> omega⟩

theorem ord_last (r : Nat) : ord r 19 = r := by simp [ord]

/-- A word between 0 and 20, read signed, is below 20 read unsigned. -/
theorem lt_of_signed (r : BitVec 32) (h : IntOp.andi (IntOp.cmpi .sge r 0#32) (IntOp.cmpi .slt r 20#32) = 1#1) : r.toNat < 20 := by
  obtain ⟨h1, h2⟩ := IntOp.andi_eq_one.mp h
  have h1 := IntOp.cmpi_sge.mp h1
  have h2 := IntOp.cmpi_slt.mp h2
  have e0 : (0#32 : BitVec 32).toInt = 0 := by decide
  have e1 : (20#32 : BitVec 32).toInt = 20 := by decide
  rw [e0] at h1; rw [e1] at h2
  have := BitVec.toInt_eq_toNat_cond r
  split_ifs at this <;> omega

end Cert.Search
-- ==== Proof.Entry.lean ====
/- What the region finds: the arguments as launched, the host operations' results, and the table of candidates. -/
module

public import proofs.«01_k».proof.Proof.Launch
public import proofs.«01_k».proof.Proof.Order
public import proofs.«01_k».proof.Pre_selects_a_candidate
public import Idealize.ShloMosaic.Lib.StableHlo.ReadAt
public import Idealize.ShloMosaic.Lib.Affine

@[expose] public section

set_option maxRecDepth 16384

noncomputable section

namespace Cert.Kernel

open Idealize.ShloMosaic Idealize.ShloMosaic.TcCoe Idealize.ShloMosaic.Tactic
open Idealize.SL Idealize.SL.Sem
open Idealize.ShloMosaic.Pipeline (RDat Cfg Window)
open Cert.Search
open Cert.Kernel.Gen

variable {F : FTy → Type} [FloatOps F]
variable (m : (ℓ : Loc nD τ sig) → Buf (Elt F) ℓ) (ρ : Dev nD → PrngReg)

/-- A buffer no host operation writes is found as launched. -/
theorem V_of_ne (c : Dev nD) (b : Ref sig .tc) (hb : ∀ op ∈ (List.flatten [hostOps0, hostOps0_1, hostOps0_2] : List (HloOp τ sig (Elt F))), Proc.devRef (τ := τ) .tc b ∉ op.writes) :
    V m c b = m ((c : Thread nD τ).loc b) :=
  StableHlo.after_of_forall_not_mem (b := Proc.devRef .tc b) _ _ hb

/-- The buffers the host operations write. -/
abbrev written : List (Ref sig .tc) :=
  [main_cst, main_v0, main_v1, main_v2, main_cst_0, main_v3, main_v4, main_cst_1, main_v5, main_v6, main_v7, main_v8, main_c, main_v9,
    main_v10, main_v11, main_v12, main_c_2, main_v13, main_v14, main_v15, main_call1_v0, main_v16]

theorem V_kept (c : Dev nD) (b : Ref sig .tc) (hb : ∀ r ∈ written, b ≠ r) : V m c b = m ((c : Thread nD τ).loc b) := by
  refine StableHlo.after_of_forall_not_mem (b := Proc.devRef .tc b) _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact StableHlo.devRef_ne_of_ne (hb _ (by simp [written]))

theorem V_arg0 (c : Dev nD) : V m c main_arg0 = m ((c : Thread nD τ).loc main_arg0) := V_kept m c _ (by decide)
theorem V_arg1 (c : Dev nD) : V m c main_arg1 = m ((c : Thread nD τ).loc main_arg1) := V_kept m c _ (by decide)
theorem V_arg2 (c : Dev nD) : V m c main_arg2 = m ((c : Thread nD τ).loc main_arg2) := V_kept m c _ (by decide)
theorem V_arg3 (c : Dev nD) : V m c main_arg3 = m ((c : Thread nD τ).loc main_arg3) := V_kept m c _ (by decide)
theorem V_arg4 (c : Dev nD) : V m c main_arg4 = m ((c : Thread nD τ).loc main_arg4) := V_kept m c _ (by decide)
theorem V_arg5 (c : Dev nD) : V m c main_arg5 = m ((c : Thread nD τ).loc main_arg5) := V_kept m c _ (by decide)

/-- The one index of a word's array. -/
def ix1 : Shape.Idx S1 := fun a => ⟨0, by fin_cases a; decide⟩

/-- The selected candidate's word. -/
def ratio (c : Dev nD) : BitVec 32 := m ((c : Thread nD τ).loc main_arg0) ix1

theorem V_table (c : Dev nD) (j : S20.Idx) : V m c main_v16 j = ordW (ratio m c) (j 0).val := by
  dsimp only [V, hostOps0, hostOps0_1, hostOps0_2, List.flatten_cons, List.flatten_nil, List.append_nil, List.cons_append, List.nil_append]
  after_results
  have e : ∀ i : Shape.Idx S1, m ((c : Thread nD τ).loc main_arg0) i = ratio m c := fun i =>
    congrArg (m ((c : Thread nD τ).loc main_arg0)) (funext fun a => by
      have := (i a).isLt; have h1 : S1.size a = 1 := by fin_cases a; rfl
      have h0 := (ix1 a).isLt
      exact Fin.ext (by omega))
  show Scalar.select _ (m ((c : Thread nD τ).loc main_arg0) _) (Scalar.select (IntOp.cmpi .slt _ (m ((c : Thread nD τ).loc main_arg0) _)) _ _) = _
  rw [e]
  rfl

theorem V_rs (c : Dev nD) (j : S20x1x5120.Idx) :
    V m c main_v1 j = Host.divf (F := F) (constant S20x1x5120 .f32 0x3F800000#32) (m ((c : Thread nD τ).loc main_arg4)) j := by
  dsimp only [V, hostOps0, hostOps0_1, hostOps0_2, List.flatten_cons, List.flatten_nil, List.append_nil, List.cons_append, List.nil_append]
  after_results
  rfl

theorem V_rxc (c : Dev nD) (j : S1x5120.Idx) :
    V m c main_v6 j = Host.divf (F := F) (constant S1x5120 .f32 0x3F800000#32)
      (maximumf (shapeCast S1x5120 (m ((c : Thread nD τ).loc main_arg5)) shapeCasts_S5120_S1x5120) (constant S1x5120 .f32 0x38D1B717#32)) j := by
  dsimp only [V, hostOps0, hostOps0_1, hostOps0_2, List.flatten_cons, List.flatten_nil, List.append_nil, List.cons_append, List.nil_append]
  after_results
  rfl

/-- The precondition: the selected candidate is one of the twenty. -/
theorem ratio_lt [Cert.Pre_selects_a_candidate.Facts] (c : Dev nD) (x1 x2 x3 x4 x5)
    (h : Cert.Pre_selects_a_candidate.fn (F := F) (m ((c : Thread nD τ).loc main_arg0)) x1 x2 x3 x4 x5 = fun _ => 1#1) : (ratio m c).toNat < 20 :=
  lt_of_signed _ (congrFun h ix1)

theorem table_lt (c : Dev nD) (h : (ratio m c).toNat < 20) (j : S20.Idx) : (V m c main_v16 j : BitVec 32).toNat < 20 := by
  rw [V_table, ordW_toNat _ h _ (j 0).isLt]
  exact ord_lt h (j 0).isLt

/-! ## The arguments end unchanged -/

theorem args_kept (T : Track F) (r : PUnit × MemSt nD τ sig (Elt F)) (h : RDat.FramePost (cfgM m) (rdat m T) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have ha : ∀ w : Fin 13, (spec0 w).isOut = false → r.2.mem ((c : Thread nD τ).loc (Pipeline.arrRef spec0 w)) = V m c (Pipeline.arrRef spec0 w) :=
    fun w hw => by
      have := (h c).1 w
      rwa [RDat.ArrAt_in (rdat m T c) w hw] at this
  exact ⟨((h c).2 main_arg0 (Pipeline.mem_restRefs_of main_arg0 (by decide)
      (show ∀ w : Fin 13, (spec0 w).arr.view.ref ≠ main_arg0 by decide))).trans (V_arg0 m c),
    (ha 0 rfl).trans (V_arg1 m c), (ha 1 rfl).trans (V_arg2 m c), (ha 3 rfl).trans (V_arg3 m c), (ha 4 rfl).trans (V_arg4 m c),
    ((h c).2 main_arg5 (Pipeline.mem_restRefs_of main_arg5 (by decide)
      (show ∀ w : Fin 13, (spec0 w).arr.view.ref ≠ main_arg5 by decide))).trans (V_arg5 m c)⟩

/-- The track that says nothing. -/
def noTrack : Track F := ⟨fun _ _ _ _ => True, fun _ _ => True, fun _ _ => True, fun _ _ => True⟩

/-- The run: it ends, the arguments unchanged and every counter at zero. -/
theorem frame (h : ∀ c, (ratio m c).toNat < 20) :
    θ_run defs (onTc (τ := τ) (main (F := F))) ⟨m, fun _ => 0, ρ⟩
      (fun r => (∀ c : Dev nD,
        r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨args_kept m noTrack r h.1, h.2⟩)
    (run_main m ρ noTrack (fun _ => trivial) (fun _ _ _ => trivial) (fun _ _ _ _ _ _ => ⟨trivial, trivial, trivial, trivial⟩)
      (table_lt m 0 (h 0)))

end Cert.Kernel
-- ==== Proof.BodyI.lean ====
/- The printed body of the search kernel is the program of the modules before this one: the offsets its words compute,
   in closed form, and the equality of the two programs. -/
module

public import proofs.«01_k».proof.Proof.Step
public import proofs.«01_k».proof.Proof.Gen.KernelIdeal

@[expose] public section

set_option maxRecDepth 16384

noncomputable section

namespace Cert.KernelIdeal

open Idealize.ShloMosaic Idealize.SL.Sem Cert.Search
open Cert.KernelIdeal.Gen

variable {F : FTy → Type} [FloatOps F]

/-- The scale table's row of the even column step's first row block. -/
theorem off22_eq : ∀ (i : grid0.Coords) (rb : Fin 7) (j : Fin 4),
    k0_off22 i (BitVec.ofNat 32 rb.val) (BitVec.ofNat 32 j.val)
      = ![7 * (min ((i 0).val + 1) 39 % 2) + rb.val, 4 * (i 1).val + j.val] := by decide +kernel

theorem off35_eq : ∀ (i : grid0.Coords) (rb : Fin 7) (j : Fin 4),
    k0_off35 i (BitVec.ofNat 32 rb.val) (BitVec.ofNat 32 j.val)
      = ![7 * (min ((i 0).val + 1) 39 % 2) + rb.val, 4 * (i 1).val + j.val] := by decide +kernel

theorem off5_eq : ∀ (t : Fin k0_t1_loop.trips) (j : Fin 4),
    k0_off5 t (BitVec.ofNat 32 j.val) 1 = 4 * t.val + j.val := by decide +kernel

theorem trips_eq : k0_t1_loop.trips = 10 := by decide +kernel

/-- The words of one trip of the first block's loop. -/
def offs1 (i : grid0.Coords) (h1 : k0_cond1 i = 1#1) (t : Fin k0_t1_loop.trips) : Offs where
  R := 0
  n := t.val
  hR := by omega
  hn := trips_eq ▸ t.isLt
  chk := k0_chk1 i t
  dec := k0_chk1.dec i t
  oo := ![0]
  hoo := by decide
  ow rb j := ![rb, k0_off5 t (BitVec.ofNat 32 j) 1]
  ow_eq rb j _ hj := by rw [off5_eq t ⟨j, hj⟩]; simp
  os v j := k0_off2 t v (BitVec.ofNat 32 (128 * j))
  os_eq v j hj := by
    have h := congrFun (k0_off4_eq t ⟨j, hj⟩) 1
    show ![(Scalar.indexCast v).toNat, 0, k0_off4 t (BitVec.ofNat 32 (128 * j)) 1] = _
    rw [h]; rfl
  od rb j := ![128 * rb, k0_off4 t (BitVec.ofNat 32 (128 * j)) 1]
  od_eq rb j _ hj := by rw [k0_off4_eq t ⟨j, hj⟩]; rfl
  chk_of v hv _ r := by
    have ht : t.val < 10 := trips_eq ▸ t.isLt
    have h := congrFun (k0_off4_eq t r) 1
    have e : k0_off2 t v (BitVec.ofNat 32 (128 * r.val)) = ![v.toNat, 0, 512 * t.val + 128 * r.val] := by
      show ![(Scalar.indexCast v).toNat, 0, k0_off4 t (BitVec.ofNat 32 (128 * r.val)) 1] = _
      rw [h]; rfl
    rw [e]; intro a; fin_cases a <;> simp <;> omega
  of_chk v hc := by
    have h := hc h1 0 0
    have e : k0_off2 t v (BitVec.ofNat 32 (128 * (0 : Fin 4).val)) 0 = v.toNat := rfl
    rw [e] at h
    have e2 : S1x1x128.size 0 = 1 := rfl
    have e3 : S20x1x5120.size 0 = 20 := rfl
    omega

/-- The words of the even column step. -/
def offs2 (i : grid0.Coords) (h3 : k0_cond3 i = 1#1) : Offs where
  R := 7 * (min ((i 0).val + 1) 39 % 2)
  n := (i 1).val
  hR := by omega
  hn := (i 1).isLt
  chk := k0_chk2 i
  dec := k0_chk2.dec i
  oo := k0_off18 i
  hoo := k0_off18_inb i h3
  ow rb j := k0_off22 i (BitVec.ofNat 32 rb) (BitVec.ofNat 32 j)
  ow_eq rb j hr hj := off22_eq i ⟨rb, hr⟩ ⟨j, hj⟩
  os v j := k0_off20 i v (BitVec.ofNat 32 (128 * j))
  os_eq v j hj := by
    have h := congrFun (k0_off21_eq i ⟨j, hj⟩) 1
    show ![(Scalar.indexCast v).toNat, 0, k0_off21 i (BitVec.ofNat 32 (128 * j)) 1] = _
    rw [h]; rfl
  od rb j := ![128 * rb, k0_off21 i (BitVec.ofNat 32 (128 * j)) 1]
  od_eq rb j _ hj := by rw [k0_off21_eq i ⟨j, hj⟩]; rfl
  chk_of v hv _ r := by
    have ht : (i 1).val < 10 := (i 1).isLt
    have h := congrFun (k0_off21_eq i r) 1
    have e : k0_off20 i v (BitVec.ofNat 32 (128 * r.val)) = ![v.toNat, 0, 512 * (i 1).val + 128 * r.val] := by
      show ![(Scalar.indexCast v).toNat, 0, k0_off21 i (BitVec.ofNat 32 (128 * r.val)) 1] = _
      rw [h]; rfl
    rw [e]; intro a; fin_cases a <;> simp <;> omega
  of_chk v hc := by
    have h := hc h3 0 0
    have e : k0_off20 i v (BitVec.ofNat 32 (128 * (0 : Fin 4).val)) 0 = v.toNat := rfl
    rw [e] at h
    have e2 : S1x1x128.size 0 = 1 := rfl
    have e3 : S20x1x5120.size 0 = 20 := rfl
    omega

/-- The words of the odd column step. -/
def offs3 (i : grid0.Coords) (h4 : k0_cond4 i = 1#1) : Offs where
  R := 7 * (min ((i 0).val + 1) 39 % 2)
  n := (i 1).val
  hR := by omega
  hn := (i 1).isLt
  chk := k0_chk3 i
  dec := k0_chk3.dec i
  oo := k0_off31 i
  hoo := k0_off31_inb i h4
  ow rb j := k0_off35 i (BitVec.ofNat 32 rb) (BitVec.ofNat 32 j)
  ow_eq rb j hr hj := off35_eq i ⟨rb, hr⟩ ⟨j, hj⟩
  os v j := k0_off33 i v (BitVec.ofNat 32 (128 * j))
  os_eq v j hj := by
    have h := congrFun (k0_off34_eq i ⟨j, hj⟩) 1
    show ![(Scalar.indexCast v).toNat, 0, k0_off34 i (BitVec.ofNat 32 (128 * j)) 1] = _
    rw [h]; rfl
  od rb j := ![128 * rb, k0_off34 i (BitVec.ofNat 32 (128 * j)) 1]
  od_eq rb j _ hj := by rw [k0_off34_eq i ⟨j, hj⟩]; rfl
  chk_of v hv _ r := by
    have ht : (i 1).val < 10 := (i 1).isLt
    have h := congrFun (k0_off34_eq i r) 1
    have e : k0_off33 i v (BitVec.ofNat 32 (128 * r.val)) = ![v.toNat, 0, 512 * (i 1).val + 128 * r.val] := by
      show ![(Scalar.indexCast v).toNat, 0, k0_off34 i (BitVec.ofNat 32 (128 * r.val)) 1] = _
      rw [h]; rfl
    rw [e]; intro a; fin_cases a <;> simp <;> omega
  of_chk v hc := by
    have h := hc h4 0 0
    have e : k0_off33 i v (BitVec.ofNat 32 (128 * (0 : Fin 4).val)) 0 = v.toNat := rfl
    rw [e] at h
    have e2 : S1x1x128.size 0 = 1 := rfl
    have e3 : S20x1x5120.size 0 = 20 := rfl
    omega

/-- The lane of the slab's group `j`, from the slab's word. -/
def lane (a : BitVec 32) (j : Nat) : BitVec 32 := Scalar.addi (Scalar.muli a 4#32) (BitVec.ofNat 32 j)

/-- The remainder of the step's word by two, as the body computes it. -/
def parity (arg0 : BitVec 32) : BitVec 32 :=
  let v24 := Scalar.select (Scalar.cmpi .eq 2#32 0#32) 1#32 2#32
  let v25 := Scalar.remsi arg0 v24
  Scalar.select (Scalar.andi (Scalar.xori (Scalar.cmpi .slt v25 0#32) (Scalar.cmpi .slt v24 0#32)) (Scalar.cmpi .ne v25 0#32))
    (Scalar.addi v25 v24) v25

/-- The first block's loop. -/
def initS (i : grid0.Coords) (h1 : k0_cond1 i = 1#1) (B : Bufs sig) : Prog (TpuEff nD τ sig (Elt F) Λ₀ .tc) PUnit :=
  Scf.Loop.for k0_t1_loop (k0_t1_ok i h1) ⟨⟩ fun t _ =>
    tripD (offs1 i h1 t) B (B.codes0.slice (Rect.unit (s := S896x5120) (k0_off3 t) S896x512.size (k0_off3_inb i t h1)) (fun _ => rfl))

/-- The even column step. -/
def evenS (i : grid0.Coords) (h3 : k0_cond3 i = 1#1) (B : Bufs sig) (a : BitVec 32) : Prog (TpuEff nD τ sig (Elt F) Λ₀ .tc) PUnit :=
  stepE (offs2 i h3) B B.d0 B.d1 B.hd1 (lane a) (k0_off29 i) (k0_off29_inb i h3) (k0_off30 i) (k0_off30_inb i h3)

/-- The odd column step. -/
def oddS (i : grid0.Coords) (h4 : k0_cond4 i = 1#1) (B : Bufs sig) (a : BitVec 32) : Prog (TpuEff nD τ sig (Elt F) Λ₀ .tc) PUnit :=
  stepE (offs3 i h4) B B.d1 B.d0 B.hd0 (lane a) (k0_off42 i) (k0_off42_inb i h4) (k0_off43 i) (k0_off43_inb i h4)

/-- The row block's sums put in their place. -/
def rowsOutS (i : grid0.Coords) (h5 : k0_cond5 i = 1#1) (B : Bufs sig) : Prog (TpuEff nD τ sig (Elt F) Λ₀ .tc) PUnit :=
  rowsOutE B (k0_chk4 i) (k0_chk4.dec i) (k0_off44 i) (k0_off44_inb i h5) (k0_off45 i) (fun v hv => k0_off45_inb i v hv h5)

/-- The body's first part: up to the even column step, and the words the rest goes on with. -/
def headS (i : grid0.Coords) (B : Bufs sig) : Prog (TpuEff nD τ sig (Elt F) Λ₀ .tc)
    (Σ' (_ : BitVec 32) (_ : BitVec 32) (_ : BitVec 32) (_ : BitVec 32), BitVec 32) := do
  if h1 : k0_cond1 i = 1#1 then initS i h1 B else pure ⟨⟩
  if _h2 : k0_cond2 i = 1#1 then clearE B else pure ⟨⟩
  if h3 : k0_cond3 i = 1#1 then evenS i h3 B (BitVec.ofNat 32 (i 1).val) else pure ⟨⟩
  pure ⟨BitVec.ofNat 32 (i 0).val, BitVec.ofNat 32 (i 1).val,
    Scalar.minsi (Scalar.addi (BitVec.ofNat 32 (i 0).val) 1#32) 39#32, parity (BitVec.ofNat 32 (i 0).val), 1#32⟩

/-- The body over the pieces of the modules before this one. -/
def bodyS (i : grid0.Coords) (B : Bufs sig) : Prog (TpuEff nD τ sig (Elt F) Λ₀ .tc) PUnit := do
  let r ← headS i B
  if h4 : k0_cond4 i = 1#1 then oddS i h4 B r.2.1 else pure ⟨⟩
  if h5 : k0_cond5 i = 1#1 then do
    rowsOutS i h5 B
    if _h6 : k0_cond6 i = 1#1 then errE B else pure ⟨⟩
    pure ⟨⟩
  else pure ⟨⟩
  pure ⟨⟩

end Cert.KernelIdeal
-- ==== Proof.EquI.lean ====
/- The printed body is the program of the modules before this one, by computation. -/
module

public import proofs.«01_k».proof.Proof.BodyI

@[expose] public section

set_option maxRecDepth 65536

noncomputable section

namespace Cert.KernelIdeal

open Idealize.ShloMosaic Idealize.SL.Sem Cert.Search
open Cert.KernelIdeal.Gen

variable {F : FTy → Type} [FloatOps F] [Facts]

set_option maxHeartbeats 40000000 in
theorem trip_eq (i : grid0.Coords) (arg2 : Memref sig .tc .smem S20 .i32) (harg2 : arg2.IsWhole) (arg3 : Memref sig .tc .smem S14x40 .f32) (harg3 : arg3.IsWhole) (arg4 : Memref sig .tc .vmem S896x5120 .fp8e4m3) (harg4 : arg4.IsWhole) (arg5 : Memref sig .tc .vmem S896x512 .fp8e4m3) (harg5 : arg5.IsWhole) (arg6 : Memref sig .tc .vmem S5120x512 .bf16) (harg6 : arg6.IsWhole) (arg7 : Memref sig .tc .vmem S20x1x5120 .f32) (harg7 : arg7.IsWhole) (arg8 : Memref sig .tc .vmem S20x1x5120 .f32) (harg8 : arg8.IsWhole) (arg9 : Memref sig .tc .vmem S1x5120 .f32) (harg9 : arg9.IsWhole) (arg10 : Memref sig .tc .vmem S20x128 .f32) (harg10 : arg10.IsWhole) (arg11 : Memref sig .tc .vmem S20x1792 .f32) (harg11 : arg11.IsWhole) (arg12 : Memref sig .tc .vmem S896x512 .bf16) (harg12 : arg12.IsWhole) (arg13 : Memref sig .tc .vmem S896x512 .i8) (harg13 : arg13.IsWhole) (arg14 : Memref sig .tc .vmem S896x128 .f32) (harg14 : arg14.IsWhole) (arg15 : Memref sig .tc .vmem S896x128 .f32) (harg15 : arg15.IsWhole) (arg16 : Memref sig .tc .vmem S896x5120 .bf16) (harg16 : arg16.IsWhole) (arg17 : Memref sig .tc .vmem S896x5120 .bf16) (harg17 : arg17.IsWhole) (arg18 : Memref sig .tc .vmem S896x128 .f32) (harg18 : arg18.IsWhole) (h1 : k0_cond1 i = 1#1) (t : Fin k0_t1_loop.trips) :
    (do let v ← k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 0#32 1#32 t
        Prog.lift (.store arg16 (Rect.unit (s := S896x5120) (k0_off17 t 384#32) S128x128.size (k0_off17_inb i t h1 3)) v Finset.univ (View.stores_vmem Cert.Search.h_S128x128 (harg16.storeExact_slice rfl _ (k0_off17_packedbf16 i t h1 3)) (fun _ => rfl)) (.inl rfl))
        pure ⟨⟩ : Prog (TpuEff nD τ sig (Elt F) Λ₀ .tc) PUnit)
      = tripD (offs1 i h1 t) { order := arg2, wscale := arg3, codes0 := arg4, codes := arg5, h := arg6, s := arg7, rs := arg8, rxc := arg9, err := arg10, rows := arg11, dh := arg12, q := arg13, sf := arg14, zero := arg15, d0 := arg16, d1 := arg17, acc := arg18, hdh := harg12, hq := harg13, hd0 := harg16, hd1 := harg17 } (arg4.slice (Rect.unit (s := S896x5120) (k0_off3 t) S896x512.size (k0_off3_inb i t h1)) (fun _ => rfl)) := by
  rfl

set_option maxHeartbeats 40000000 in
/-- The body's first part. -/
theorem head_eq (i : grid0.Coords) (arg2 : Memref sig .tc .smem S20 .i32) (harg2 : arg2.IsWhole) (arg3 : Memref sig .tc .smem S14x40 .f32) (harg3 : arg3.IsWhole) (arg4 : Memref sig .tc .vmem S896x5120 .fp8e4m3) (harg4 : arg4.IsWhole) (arg5 : Memref sig .tc .vmem S896x512 .fp8e4m3) (harg5 : arg5.IsWhole) (arg6 : Memref sig .tc .vmem S5120x512 .bf16) (harg6 : arg6.IsWhole) (arg7 : Memref sig .tc .vmem S20x1x5120 .f32) (harg7 : arg7.IsWhole) (arg8 : Memref sig .tc .vmem S20x1x5120 .f32) (harg8 : arg8.IsWhole) (arg9 : Memref sig .tc .vmem S1x5120 .f32) (harg9 : arg9.IsWhole) (arg10 : Memref sig .tc .vmem S20x128 .f32) (harg10 : arg10.IsWhole) (arg11 : Memref sig .tc .vmem S20x1792 .f32) (harg11 : arg11.IsWhole) (arg12 : Memref sig .tc .vmem S896x512 .bf16) (harg12 : arg12.IsWhole) (arg13 : Memref sig .tc .vmem S896x512 .i8) (harg13 : arg13.IsWhole) (arg14 : Memref sig .tc .vmem S896x128 .f32) (harg14 : arg14.IsWhole) (arg15 : Memref sig .tc .vmem S896x128 .f32) (harg15 : arg15.IsWhole) (arg16 : Memref sig .tc .vmem S896x5120 .bf16) (harg16 : arg16.IsWhole) (arg17 : Memref sig .tc .vmem S896x5120 .bf16) (harg17 : arg17.IsWhole) (arg18 : Memref sig .tc .vmem S896x128 .f32) (harg18 : arg18.IsWhole) :
    k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = headS i { order := arg2, wscale := arg3, codes0 := arg4, codes := arg5, h := arg6, s := arg7, rs := arg8, rxc := arg9, err := arg10, rows := arg11, dh := arg12, q := arg13, sf := arg14, zero := arg15, d0 := arg16, d1 := arg17, acc := arg18, hdh := harg12, hq := harg13, hd0 := harg16, hd1 := harg17 } := by
  unfold k0_part144 headS
  extract_lets
  split
  · rename_i h1
    refine congr (congrArg _ ?_) (funext fun _ => rfl)
    unfold initS
    refine congrArg (Scf.Loop.for _ _ _) (funext fun t => funext fun _ => ?_)
    exact trip_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 t
  · rfl

set_option maxHeartbeats 40000000 in
/-- The printed body, whatever buffers it is given. -/
theorem body_eq (i : grid0.Coords) (arg2 : Memref sig .tc .smem S20 .i32) (harg2 : arg2.IsWhole) (arg3 : Memref sig .tc .smem S14x40 .f32) (harg3 : arg3.IsWhole) (arg4 : Memref sig .tc .vmem S896x5120 .fp8e4m3) (harg4 : arg4.IsWhole) (arg5 : Memref sig .tc .vmem S896x512 .fp8e4m3) (harg5 : arg5.IsWhole) (arg6 : Memref sig .tc .vmem S5120x512 .bf16) (harg6 : arg6.IsWhole) (arg7 : Memref sig .tc .vmem S20x1x5120 .f32) (harg7 : arg7.IsWhole) (arg8 : Memref sig .tc .vmem S20x1x5120 .f32) (harg8 : arg8.IsWhole) (arg9 : Memref sig .tc .vmem S1x5120 .f32) (harg9 : arg9.IsWhole) (arg10 : Memref sig .tc .vmem S20x128 .f32) (harg10 : arg10.IsWhole) (arg11 : Memref sig .tc .vmem S20x1792 .f32) (harg11 : arg11.IsWhole) (arg12 : Memref sig .tc .vmem S896x512 .bf16) (harg12 : arg12.IsWhole) (arg13 : Memref sig .tc .vmem S896x512 .i8) (harg13 : arg13.IsWhole) (arg14 : Memref sig .tc .vmem S896x128 .f32) (harg14 : arg14.IsWhole) (arg15 : Memref sig .tc .vmem S896x128 .f32) (harg15 : arg15.IsWhole) (arg16 : Memref sig .tc .vmem S896x5120 .bf16) (harg16 : arg16.IsWhole) (arg17 : Memref sig .tc .vmem S896x5120 .bf16) (harg17 : arg17.IsWhole) (arg18 : Memref sig .tc .vmem S896x128 .f32) (harg18 : arg18.IsWhole) :
    cc0_awq_search (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = bodyS i { order := arg2, wscale := arg3, codes0 := arg4, codes := arg5, h := arg6, s := arg7, rs := arg8, rxc := arg9, err := arg10, rows := arg11, dh := arg12, q := arg13, sf := arg14, zero := arg15, d0 := arg16, d1 := arg17, acc := arg18, hdh := harg12, hq := harg13, hd0 := harg16, hd1 := harg17 } := by
  unfold cc0_awq_search bodyS
  refine congr (congrArg _ (head_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)) (funext fun r => ?_)
  rfl

end Cert.KernelIdeal
-- ==== Proof.PtI.lean ====
/- The words of the kernel's grid points, in closed form, and the printed body at a grid point as the program over them. -/
module

public import proofs.«01_k».proof.Proof.EquI
public import proofs.«01_k».proof.Proof.Point

@[expose] public section

set_option maxRecDepth 16384

noncomputable section

namespace Cert.KernelIdeal

open Idealize.ShloMosaic Idealize.SL.Sem Cert.Search
open Cert.KernelIdeal.Gen

variable {F : FTy → Type} [FloatOps F]

theorem cond1_iff : ∀ i : grid0.Coords, k0_cond1 i = 1#1 ↔ ((i 0).val = 0 ∧ (i 1).val = 0) := by decide +kernel
theorem cond2_iff : ∀ i : grid0.Coords, k0_cond2 i = 1#1 ↔ (i 1).val = 0 := by decide +kernel
theorem cond3_iff : ∀ i : grid0.Coords, k0_cond3 i = 1#1 ↔ (i 0).val % 2 = 0 := by decide +kernel
theorem cond4_iff : ∀ i : grid0.Coords, k0_cond4 i = 1#1 ↔ (i 0).val % 2 = 1 := by decide +kernel
theorem cond5_iff : ∀ i : grid0.Coords, k0_cond5 i = 1#1 ↔ (i 1).val = 9 := by decide +kernel
theorem cond6_iff : ∀ i : grid0.Coords, k0_cond6 i = 1#1 ↔ (i 0).val = 39 := by decide +kernel

theorem off18_cf : ∀ i : grid0.Coords, k0_off18 i = ![min ((i 0).val + 1) 39 / 2] := by decide +kernel
theorem off31_cf : ∀ i : grid0.Coords, k0_off31 i = ![min ((i 0).val + 1) 39 / 2] := by decide +kernel
theorem off29_cf : ∀ i : grid0.Coords, k0_off29 i = ![0, 512 * (i 1).val] := by decide +kernel
theorem off30_cf : ∀ i : grid0.Coords, k0_off30 i = ![0, 512 * (i 1).val] := by decide +kernel
theorem off42_cf : ∀ i : grid0.Coords, k0_off42 i = ![0, 512 * (i 1).val] := by decide +kernel
theorem off43_cf : ∀ i : grid0.Coords, k0_off43 i = ![0, 512 * (i 1).val] := by decide +kernel
theorem off44_cf : ∀ i : grid0.Coords, k0_off44 i = ![(i 0).val / 2] := by decide +kernel
theorem off3_cf : ∀ t : Fin k0_t1_loop.trips, k0_off3 t = ![0, 512 * t.val] := by decide +kernel
theorem off45_0 : ∀ i : grid0.Coords, k0_off45 i 0#32 1 = (i 0).val % 2 * 896 := by decide +kernel

theorem off45_cf (i : grid0.Coords) (v : BitVec 32) : k0_off45 i v = ![v.toNat, (i 0).val % 2 * 896] := by
  have h := off45_0 i
  show ![(Scalar.indexCast v).toNat, k0_off45 i 0#32 1] = _
  rw [h]; rfl

/-- The words of the grid point `i`. -/
def pt (i : grid0.Coords) : Pt where
  t := (i 0).val
  n := (i 1).val
  ht := (i 0).isLt
  hn := (i 1).isLt
  c1 := k0_cond1 i
  c2 := k0_cond2 i
  c3 := k0_cond3 i
  c4 := k0_cond4 i
  c5 := k0_cond5 i
  c6 := k0_cond6 i
  hc1 := cond1_iff i
  hc2 := cond2_iff i
  hc3 := cond3_iff i
  hc4 := cond4_iff i
  hc5 := cond5_iff i
  hc6 := cond6_iff i
  lp := k0_t1_loop
  lok := k0_t1_ok i
  htrips := trips_eq
  o1 := offs1 i
  o1R _ _ := rfl
  o1n _ _ := rfl
  o1o _ _ := rfl
  off3 := k0_off3
  inb3 k h := k0_off3_inb i k h
  off3_eq := off3_cf
  o2 := offs2 i
  o2R _ := rfl
  o2n _ := rfl
  o2o _ := off18_cf i
  r2 := k0_off29 i
  hr2 := k0_off29_inb i
  r2_eq := off29_cf i
  d2 := k0_off30 i
  hd2 := k0_off30_inb i
  d2_eq := off30_cf i
  o3 := offs3 i
  o3R _ := rfl
  o3n _ := rfl
  o3o _ := off31_cf i
  r3 := k0_off42 i
  hr3 := k0_off42_inb i
  r3_eq := off42_cf i
  d3 := k0_off43 i
  hd3 := k0_off43_inb i
  d3_eq := off43_cf i
  w := BitVec.ofNat 32 (i 1).val
  chk4 := k0_chk4 i
  dec4 := k0_chk4.dec i
  chk4_of v hv := by
    intro _
    rw [off45_cf]
    intro a; fin_cases a <;> simp <;> omega
  o4 := k0_off44 i
  ho4 := k0_off44_inb i
  o4_eq := off44_cf i
  oe := k0_off45 i
  hoe v hv h := k0_off45_inb i v hv h
  oe_eq := off45_cf i

theorem bodyS_eq (i : grid0.Coords) (B : Bufs sig) : bodyS (F := F) i B = bodyP (pt i) B := by
  unfold bodyS headS bodyP
  have eA : progA (F := F) (nD := nD) (τ := τ) (Λ₀ := Λ₀) (pt i) B = if h1 : k0_cond1 i = 1#1 then initS i h1 B else pure ⟨⟩ := rfl
  have eB : progB (F := F) (nD := nD) (τ := τ) (Λ₀ := Λ₀) (pt i) B = if _h2 : k0_cond2 i = 1#1 then clearE B else pure ⟨⟩ := rfl
  have eC : progC (F := F) (nD := nD) (τ := τ) (Λ₀ := Λ₀) (pt i) B = if h3 : k0_cond3 i = 1#1 then evenS i h3 B (BitVec.ofNat 32 (i 1).val) else pure ⟨⟩ := rfl
  have eD : progD (F := F) (nD := nD) (τ := τ) (Λ₀ := Λ₀) (pt i) B = if h4 : k0_cond4 i = 1#1 then oddS i h4 B (BitVec.ofNat 32 (i 1).val) else pure ⟨⟩ := rfl
  have eE : progE (F := F) (nD := nD) (τ := τ) (Λ₀ := Λ₀) (pt i) B = if h5 : k0_cond5 i = 1#1 then (rowsOutS i h5 B >>= fun _ => if _h6 : k0_cond6 i = 1#1 then errE B else pure ⟨⟩) else pure ⟨⟩ := rfl
  rw [eA, eB, eC, eD, eE]
  by_cases h1 : k0_cond1 i = 1#1 <;> by_cases h2 : k0_cond2 i = 1#1 <;> by_cases h3 : k0_cond3 i = 1#1 <;>
  by_cases h4 : k0_cond4 i = 1#1 <;> by_cases h5 : k0_cond5 i = 1#1 <;> by_cases h6 : k0_cond6 i = 1#1 <;>
  simp only [h1, h2, h3, h4, h5, h6, dif_pos, dif_neg, not_false_eq_true, bind_assoc, pure_bind, bind_pure, bind_pure_unit, dite_true, dite_false, ↓reduceDIte, reduceCtorEq]

end Cert.KernelIdeal
-- ==== Proof.LaunchI.lean ====
/- The launch of the search kernel: the pipeline's proof data over any invariant of the scratch buffers (`Track`), the body's
   obligation from one step of the contents, and the run. -/
module

public import proofs.«01_k».proof.Proof.PtI
public import proofs.«01_k».proof.Proof.Gen.KernelIdeal.Launch
public import Idealize.ShloMosaic.Lib.Pipeline.FrameBody
public import Idealize.ShloMosaic.Lib.Pipeline.ArrRel
public import Idealize.ShloMosaic.Lib.Pipeline.Value
public import Idealize.ShloMosaic.Lib.Claim
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Search
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers when the region is entered. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The prefetched table's contents. -/
def adm : (p : Fin 1) → (pcfgs (F := F) p).Adm := fun _ => ⟨fun k => V m 0 (pre0.ref k), trivial⟩

/-- The pipeline. -/
abbrev cfgM : Cfg sig Λ₀ := Pipeline.pin (pcfgs (F := F)) (adm m) 0

/-! ## The proof data -/

/-- What is known of the scratch buffers, the rows' buffer and the outputs before or after a point. -/
structure Track (F : FTy → Type) where
  Inv : ℕ → (S896x5120.Idx → Elt F .bf16) → (S896x5120.Idx → Elt F .bf16) → (S896x128.Idx → Elt F .f32) → Prop
  Rows : ℕ → (S20x1792.Idx → Elt F .f32) → Prop
  Err : ℕ → (S20x128.Idx → Elt F .f32) → Prop
  Dh : ℕ → (S896x512.Idx → Elt F .bf16) → Prop

variable (T : Track F)

/-- What the body leaves in each window's buffer. -/
def leave (w : Fin 13) (t : ℕ) : (Y X : ((cfgM m).win w).block.Idx → Elt F ((cfgM m).win w).elt) → Prop :=
  match w with
  | 7 => fun _ X => T.Err t X
  | 8 => fun _ X => T.Rows (t + 1) X
  | 9 => fun _ X => T.Dh t X
  | 10 => fun _ _ => True
  | 11 => fun _ _ => True
  | 12 => fun _ _ => True
  | 0 => fun Y X => X = Y
  | 1 => fun Y X => X = Y
  | 2 => fun Y X => X = Y
  | 3 => fun Y X => X = Y
  | 4 => fun Y X => X = Y
  | 5 => fun Y X => X = Y
  | 6 => fun Y X => X = Y
  | ⟨_ + 13, h⟩ => absurd h (Nat.not_lt.2 (Nat.le_add_left _ _))

/-- The resources between two points: the scratch buffers, the table and the generator's register. -/
def phi (c : Dev nD) (k : ℕ) : sProp 𝕄 :=
  iprop(∃ d0 d1 acc, ⌜T.Inv k d0 d1 acc⌝ ∗ ownsTc c (Memref.whole cc0_scratch0) fullShare d0
    ∗ ownsTc c (Memref.whole cc0_scratch1) fullShare d1 ∗ ownsTc c (Memref.whole cc0_scratch2) fullShare acc
    ∗ ownsTc c (Memref.whole main_v16) fullShare.right (V m 0 main_v16) ∗ ∃ r, prngReg c r)

theorem phi_eq (c : Dev nD) (k : ℕ) : phi m T c k = iprop(∃ d0 d1 acc, ⌜T.Inv k d0 d1 acc⌝ ∗ (((c : Thread nD τ).loc cc0_scratch0) ↦{fullShare} d0)
    ∗ (((c : Thread nD τ).loc cc0_scratch1) ↦{fullShare} d1) ∗ (((c : Thread nD τ).loc cc0_scratch2) ↦{fullShare} acc)
    ∗ (((c : Thread nD τ).loc main_v16) ↦{fullShare.right} V m 0 main_v16) ∗ ∃ r, prngReg c r) := by
  unfold phi
  simp only [ownsTc, owns_whole]

/-- The proof data of core `c`. -/
def rdat (c : Dev nD) : RDat τ (Elt F) Unit ℕ (UR sig nD τ) ℕ (cfgM m) c where
  A w := V m c (Pipeline.arrRef spec0 w)
  after w t Y X := leave m T w t.val Y X
  Φ k := phi m T c k.val
  q w := Pipeline.shareOf spec0 w
  owed _ := 0

/-- The block of window `w`'s array at point `t`. -/
def iblk (c : Dev nD) (w : Fin 13) (t : Fin grid0.N) : (((cfgM m).win w).xblock (grid0.coords t)).Idx → Elt F ((cfgM m).win w).elt :=
  (((cfgM m).win w).blk t).view.read (Elt F) (V m c (Pipeline.arrRef spec0 w))

/-- An input window holds its block at every point. -/
theorem finds_in (c : Dev nD) (w : Fin 13) (hw : (spec0 w).isOut = false) (t : Fin grid0.N) (Y)
    (hk : ∀ (t : ℕ) Y X, leave m T w t Y X → X = Y)
    (h : (rdat m T c).Finds w t Y) : ∃ d, Y = (rdat m T c).fetched w t d :=
  RDat.finds_in_eq_fetched (rdat m T c) w hw (fun _ _ _ => rfl) (fun t => hk t.val) t Y h

theorem finds_in' (c : Dev nD) (w : Fin 13) (hw : (spec0 w).isOut = false) (t : Fin grid0.N) (Y)
    (hk : ∀ (t : ℕ) Y X, leave m T w t Y X → X = Y)
    (hf : ∀ d, (rdat m T c).fetched w t d = iblk m c w t)
    (h : (rdat m T c).Finds w t Y) : Y = iblk m c w t := by
  obtain ⟨d, hd⟩ := finds_in m T c w hw t Y hk h
  exact hd.trans (hf d)

/-- The contents of the operands at a point. -/
structure Fed (c : Dev nD) (t : Fin grid0.N) (x : Cont F) : Prop where
  order : x.order = V m 0 main_v16
  wscale : x.wscale = iblk m c 0 t
  codes0 : x.codes0 = iblk m c 1 t
  codes : x.codes = iblk m c 2 t
  h : x.h = iblk m c 3 t
  s : x.s = iblk m c 4 t
  rs : x.rs = iblk m c 5 t
  rxc : x.rxc = iblk m c 6 t

/-- One step of the contents keeps the track. -/
def Steps (c : Dev nD) : Prop := ∀ (t : Fin grid0.N) (x : Cont F), Fed m c t x →
  T.Inv t.val x.d0 x.d1 x.acc → T.Rows t.val x.rows →
  let y := bodyT (pt (grid0.coords t)) x
  T.Inv (t.val + 1) y.d0 y.d1 y.acc ∧ T.Rows (t.val + 1) y.rows ∧ T.Err t.val y.err ∧ T.Dh t.val y.dh

/-- What the rows' buffer holds when the body gets it. -/
theorem finds_rows (hR : ∀ X, T.Rows 0 X) (hfl : ∀ t : Fin grid0.N, ((cfgM m).win 8).flush t = true → t.val = 399)
    (c : Dev nD) (t : Fin grid0.N) (Y) (h : (rdat m T c).Finds 8 t Y) : T.Rows t.val Y := by
  by_cases h0 : t.val = 0
  · rw [h0]; exact hR Y
  · rcases ((rdat m T c).finds_of_pos (((cfgM m).win 8).fetch_out rfl t) h0 Y).mp h with hf | ⟨Y', _, hL⟩
    · have := hfl _ hf
      have ht := t.isLt
      have hN : grid0.N = 400 := N_0
      simp only at this; omega
    · have : T.Rows (t.val - 1 + 1) Y := hL
      rwa [Nat.sub_add_cancel (by omega)] at this

/-- The body's buffers at a point. -/
def bufs (t : Fin grid0.N) : Bufs sig :=
  let s := (cfgM m).slots t
  { order := Memref.whole main_v16, wscale := spec0_0.stage (s 0), codes0 := spec0_1.stage (s 1), codes := spec0_2.stage (s 2),
    h := spec0_3.stage (s 3), s := spec0_4.stage (s 4), rs := spec0_5.stage (s 5), rxc := spec0_6.stage (s 6),
    err := spec0_7.stage (s 7), rows := spec0_8.stage (s 8), dh := spec0_9.stage (s 9), q := spec0_10.stage (s 10),
    sf := spec0_11.stage (s 11), zero := spec0_12.stage (s 12), d0 := Memref.whole cc0_scratch0, d1 := Memref.whole cc0_scratch1,
    acc := Memref.whole cc0_scratch2, hdh := hstage0_9 ((s 9).cast nbuf0_9), hq := hstage0_10 ((s 10).cast nbuf0_10),
    hd0 := Memref.isWhole_whole _, hd1 := Memref.isWhole_whole _ }

theorem row_eq (t : Fin grid0.N) :
    defs₀ (F := F) .tc (cfgM m).body ((cfgM m).bodyArgs t ((cfgM m).slots t)) = bodyP (pt (grid0.coords t)) (bufs m t) := by
  rw [← bodyS_eq]
  unfold defs₀; rw [Defs.onTc_tc]
  exact body_eq ..

set_option maxHeartbeats 4000000 in
theorem body_obligation (hR : ∀ X, T.Rows 0 X) (hfl : ∀ t : Fin grid0.N, ((cfgM m).win 8).flush t = true → t.val = 399)
    (c : Dev nD) (hs : Steps m T c) (hx : ∀ j, (V m 0 main_v16 j : BitVec 32).toNat < 20) :
    (rdat m T c).BodyObligation (defs₀ (F := F)) Variants.none () Set.univ := by
  intro t Y hY
  rw [row_eq]
  rw [bigSep_W0, bigSep_W0]
  have f0 := finds_in' m T c 0 rfl t _ (fun _ _ _ h => h) (fun _ => rfl) (hY 0)
  have f1 := finds_in' m T c 1 rfl t _ (fun _ _ _ h => h) (fun _ => rfl) (hY 1)
  have f2 := finds_in' m T c 2 rfl t _ (fun _ _ _ h => h) (fun _ => rfl) (hY 2)
  have f3 := finds_in' m T c 3 rfl t _ (fun _ _ _ h => h) (fun _ => rfl) (hY 3)
  have f4 := finds_in' m T c 4 rfl t _ (fun _ _ _ h => h) (fun _ => rfl) (hY 4)
  have f5 := finds_in' m T c 5 rfl t _ (fun _ _ _ h => h) (fun _ => rfl) (hY 5)
  have f6 := finds_in' m T c 6 rfl t _ (fun _ _ _ h => h) (fun _ => rfl) (hY 6)
  have f8 := finds_rows m T hR hfl c t _ (hY 8)
  rw [show (rdat m T c).Φ t.castSucc = phi m T c t.val from rfl, show (rdat m T c).Φ t.succ = phi m T c (t.val + 1) from rfl]
  unfold phi
  iintro ⟨⟨%d0, %d1, %acc, %hI, H0, H1, H2, Ho, Hp⟩, Hw, G0, G1, G2, G3, G4, G5, G6, G7, G8, G9, G10, G11, G12⟩
  let x : Cont F := ⟨V m 0 main_v16, Y 0, Y 1, Y 2, Y 3, Y 4, Y 5, Y 6, Y 7, Y 8, Y 9, Y 10, Y 11, Y 12, d0, d1, acc⟩
  have hfed : Fed m c t x := ⟨rfl, f0, f1, f2, f3, f4, f5, f6⟩
  have hrun := (runs_bodyP (defs := defs₀ (F := F)) (𝒱 := Variants.none) (c := c) (qo := fullShare.right) (B := bufs m t)
    (pt (grid0.coords t)) x hx).wp
  obtain ⟨h1, h2, h3, h4⟩ := hs t x hfed hI f8
  have hsame := same_bodyT (pt (grid0.coords t)) x
  generalize bodyT (pt (grid0.coords t)) x = y at hrun h1 h2 h3 h4 hsame
  iapply (wp_wand_r _ _ _ (Q := fun _ => res c fullShare.right (bufs m t) y))
  isplitl [H0 H1 H2 Ho G0 G1 G2 G3 G4 G5 G6 G7 G8 G9 G10 G11 G12]
  · iapply hrun
    unfold res
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [H0]; · iexact H0
    isplitl [H1]; · iexact H1
    iexact H2
  iintro %_ HR
  unfold res
  icases HR with ⟨Ho, G0, G1, G2, G3, G4, G5, G6, G7, G8, G9, G10, G11, G12, H0, H1, H2⟩
  isplitl [H0 H1 H2 Ho Hp]
  · iexists y.d0; iexists y.d1; iexists y.acc
    isplitr; · ipureintro; exact h1
    isplitl [H0]; · iexact H0
    isplitl [H1]; · iexact H1
    isplitl [H2]; · iexact H2
    isplitl [Ho]; · rw [hsame.order]; iexact Ho
    iexact Hp
  isplitl [Hw]; · iexact Hw
  isplitl [G0]; · iexists y.wscale; isplitr; · ipureintro; exact hsame.wscale
                  iexact G0
  isplitl [G1]; · iexists y.codes0; isplitr; · ipureintro; exact hsame.codes0
                  iexact G1
  isplitl [G2]; · iexists y.codes; isplitr; · ipureintro; exact hsame.codes
                  iexact G2
  isplitl [G3]; · iexists y.h; isplitr; · ipureintro; exact hsame.h
                  iexact G3
  isplitl [G4]; · iexists y.s; isplitr; · ipureintro; exact hsame.s
                  iexact G4
  isplitl [G5]; · iexists y.rs; isplitr; · ipureintro; exact hsame.rs
                  iexact G5
  isplitl [G6]; · iexists y.rxc; isplitr; · ipureintro; exact hsame.rxc
                  iexact G6
  isplitl [G7]; · iexists y.err; isplitr; · ipureintro; exact h3
                  iexact G7
  isplitl [G8]; · iexists y.rows; isplitr; · ipureintro; exact h2
                  iexact G8
  isplitl [G9]; · iexists y.dh; isplitr; · ipureintro; exact h4
                  iexact G9
  isplitl [G10]; · iexists y.q; isplitr; · ipureintro; trivial
                   iexact G10
  isplitl [G11]; · iexists y.sf; isplitr; · ipureintro; trivial
                   iexact G11
  iexists y.zero; isplitr; · ipureintro; trivial
  iexact G12

theorem flush8 (a : (pcfg0 (F := F)).Adm) : ∀ t : Fin grid0.N, ((cfg0 a).win 8).flush t = true → t.val = 399 := by
  intro t h
  have hN : grid0.N = 400 := N_0
  have ht := t.isLt
  by_contra hne
  rw [Window.flush] at h
  simp only [Bool.and_eq_true, Bool.or_eq_true, decide_eq_true_eq] at h
  rcases h.2 with h | ⟨_, h⟩
  · have : t.val + 1 = 400 := h.trans N_0
    omega
  · exact h rfl

set_option backward.isDefEq.respectTransparency.types false in
set_option maxHeartbeats 4000000 in
/-- The run: every array ends at contents it may hold, every other buffer as the region found it, every counter at zero. -/
theorem run_main (hR : ∀ X, T.Rows 0 X) (h0 : ∀ d0 d1 acc, T.Inv 0 d0 d1 acc)
    (hs : ∀ c, Steps m T c) (hx : ∀ j, (V m 0 main_v16 j : BitVec 32).toNat < 20) :
    θ_run defs (onTc (τ := τ) (main (F := F))) (s₀ m ρ)
      (fun r => RDat.FramePost (cfgM m) (rdat m T) (V m) r ∧ r.2.sem = fun _ => 0) :=
  RDat.θ_run_frameP_track_shared pcfgs (adm m) 0 launch₀0 defs₀ Variants.none (rdat m T) m ρ main
    (hbody := fun c => body_obligation m T hR (flush8 _) c (hs c) hx)
    (hq := fun c w _ => rfl) (howed := fun _ _ => rfl) (V := V m) (hmain := hmain m Variants.none)
    (hA := fun _ _ => rfl)
    (hpf := fun c k => by obtain rfl : c = 0 := Subsingleton.elim _ _; rfl)
    (hin := fun c => by
      unfold Pipeline.ΦA
      rw [scopedRest0_eq]
      unfold Pipeline.ΦT Pipeline.prefHeld
      rw [show (Finset.univ : Finset (Fin pre0.K)) = {0} from rfl, bigSep_singleton]
      show _ ⊢ phi m T c 0
      rw [phi_eq]
      iintro ⟨⟨⟨⟨%d0, H0⟩, ⟨%d1, H1⟩, ⟨%acc, H2⟩⟩, Hp⟩, Ht⟩
      iexists d0; iexists d1; iexists acc
      isplitr; · ipureintro; exact h0 _ _ _
      isplitl [H0]; · iexact H0
      isplitl [H1]; · iexact H1
      isplitl [H2]; · iexact H2
      isplitl [Ht]; · iexact Ht
      iexact Hp)
    (hout := fun c => by
      unfold Pipeline.ΦA
      rw [scopedRest0_eq]
      show phi m T c _ ⊢ _
      rw [phi_eq]
      iintro ⟨%d0, %d1, %acc, %_, H0, H1, H2, Ht, Hp⟩
      isplitr [Hp]
      · isplitl [H0]; · iexists d0; iexact H0
        isplitl [H1]; · iexists d1; iexact H1
        iexists acc; iexact H2
      · iexact Hp)
    (Q' := _) (hQ' := fun r h => h)

end Cert.KernelIdeal
-- ==== Proof.EntryI.lean ====
/- What the region finds: the arguments as launched, the host operations' results, and the table of candidates. -/
module

public import proofs.«01_k».proof.Proof.LaunchI
public import proofs.«01_k».proof.Proof.Order
public import proofs.«01_k».proof.Pre_selects_a_candidate
public import Idealize.ShloMosaic.Lib.StableHlo.ReadAt
public import Idealize.ShloMosaic.Lib.Affine

@[expose] public section

set_option maxRecDepth 16384

noncomputable section

namespace Cert.KernelIdeal

open Idealize.ShloMosaic Idealize.ShloMosaic.TcCoe Idealize.ShloMosaic.Tactic
open Idealize.SL Idealize.SL.Sem
open Idealize.ShloMosaic.Pipeline (RDat Cfg Window)
open Cert.Search
open Cert.KernelIdeal.Gen

variable {F : FTy → Type} [FloatOps F]
variable (m : (ℓ : Loc nD τ sig) → Buf (Elt F) ℓ) (ρ : Dev nD → PrngReg)

/-- A buffer no host operation writes is found as launched. -/
theorem V_of_ne (c : Dev nD) (b : Ref sig .tc) (hb : ∀ op ∈ (List.flatten [hostOps0, hostOps0_1, hostOps0_2] : List (HloOp τ sig (Elt F))), Proc.devRef (τ := τ) .tc b ∉ op.writes) :
    V m c b = m ((c : Thread nD τ).loc b) :=
  StableHlo.after_of_forall_not_mem (b := Proc.devRef .tc b) _ _ hb

/-- The buffers the host operations write. -/
abbrev written : List (Ref sig .tc) :=
  [main_cst, main_v0, main_v1, main_v2, main_cst_0, main_v3, main_v4, main_cst_1, main_v5, main_v6, main_v7, main_v8, main_c, main_v9,
    main_v10, main_v11, main_v12, main_c_2, main_v13, main_v14, main_v15, main_call1_v0, main_v16]

theorem V_kept (c : Dev nD) (b : Ref sig .tc) (hb : ∀ r ∈ written, b ≠ r) : V m c b = m ((c : Thread nD τ).loc b) := by
  refine StableHlo.after_of_forall_not_mem (b := Proc.devRef .tc b) _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact StableHlo.devRef_ne_of_ne (hb _ (by simp [written]))

theorem V_arg0 (c : Dev nD) : V m c main_arg0 = m ((c : Thread nD τ).loc main_arg0) := V_kept m c _ (by decide)
theorem V_arg1 (c : Dev nD) : V m c main_arg1 = m ((c : Thread nD τ).loc main_arg1) := V_kept m c _ (by decide)
theorem V_arg2 (c : Dev nD) : V m c main_arg2 = m ((c : Thread nD τ).loc main_arg2) := V_kept m c _ (by decide)
theorem V_arg3 (c : Dev nD) : V m c main_arg3 = m ((c : Thread nD τ).loc main_arg3) := V_kept m c _ (by decide)
theorem V_arg4 (c : Dev nD) : V m c main_arg4 = m ((c : Thread nD τ).loc main_arg4) := V_kept m c _ (by decide)
theorem V_arg5 (c : Dev nD) : V m c main_arg5 = m ((c : Thread nD τ).loc main_arg5) := V_kept m c _ (by decide)

/-- The one index of a word's array. -/
def ix1 : Shape.Idx S1 := fun a => ⟨0, by fin_cases a; decide⟩

/-- The selected candidate's word. -/
def ratio (c : Dev nD) : BitVec 32 := m ((c : Thread nD τ).loc main_arg0) ix1

/-- The candidate asked for is the only element of its array. -/
theorem arg0_eq (c : Dev nD) (i : Shape.Idx S1) : m ((c : Thread nD τ).loc main_arg0) i = ratio m c :=
  congrArg (m ((c : Thread nD τ).loc main_arg0)) (funext fun a => by
    have := (i a).isLt; have h1 : S1.size a = 1 := by fin_cases a; rfl
    have h0 := (ix1 a).isLt
    exact Fin.ext (by omega))

theorem V_table (c : Dev nD) (j : S20.Idx) : V m c main_v16 j = ordW (ratio m c) (j 0).val := by
  dsimp only [V, hostOps0, hostOps0_1, hostOps0_2, List.flatten_cons, List.flatten_nil, List.append_nil, List.cons_append, List.nil_append]
  after_results
  have e : ∀ i : Shape.Idx S1, m ((c : Thread nD τ).loc main_arg0) i = ratio m c := fun i =>
    congrArg (m ((c : Thread nD τ).loc main_arg0)) (funext fun a => by
      have := (i a).isLt; have h1 : S1.size a = 1 := by fin_cases a; rfl
      have h0 := (ix1 a).isLt
      exact Fin.ext (by omega))
  show Scalar.select _ (m ((c : Thread nD τ).loc main_arg0) _) (Scalar.select (IntOp.cmpi .slt _ (m ((c : Thread nD τ).loc main_arg0) _)) _ _) = _
  rw [e]
  rfl

theorem V_rs (c : Dev nD) (j : S20x1x5120.Idx) :
    V m c main_v1 j = Host.divf (F := F) (constant S20x1x5120 .f32 0x3F800000#32) (m ((c : Thread nD τ).loc main_arg4)) j := by
  dsimp only [V, hostOps0, hostOps0_1, hostOps0_2, List.flatten_cons, List.flatten_nil, List.append_nil, List.cons_append, List.nil_append]
  after_results
  rfl

theorem V_rxc (c : Dev nD) (j : S1x5120.Idx) :
    V m c main_v6 j = Host.divf (F := F) (constant S1x5120 .f32 0x3F800000#32)
      (maximumf (shapeCast S1x5120 (m ((c : Thread nD τ).loc main_arg5)) shapeCasts_S5120_S1x5120) (constant S1x5120 .f32 0x38D1B717#32)) j := by
  dsimp only [V, hostOps0, hostOps0_1, hostOps0_2, List.flatten_cons, List.flatten_nil, List.append_nil, List.cons_append, List.nil_append]
  after_results
  rfl

/-- The precondition: the selected candidate is one of the twenty. -/
theorem ratio_lt [Cert.Pre_selects_a_candidate.Facts] (c : Dev nD) (x1 x2 x3 x4 x5)
    (h : Cert.Pre_selects_a_candidate.fn (F := F) (m ((c : Thread nD τ).loc main_arg0)) x1 x2 x3 x4 x5 = fun _ => 1#1) : (ratio m c).toNat < 20 :=
  lt_of_signed _ (congrFun h ix1)

theorem table_lt (c : Dev nD) (h : (ratio m c).toNat < 20) (j : S20.Idx) : (V m c main_v16 j : BitVec 32).toNat < 20 := by
  rw [V_table, ordW_toNat _ h _ (j 0).isLt]
  exact ord_lt h (j 0).isLt

/-! ## The arguments end unchanged -/

theorem args_kept (T : Track F) (r : PUnit × MemSt nD τ sig (Elt F)) (h : RDat.FramePost (cfgM m) (rdat m T) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have ha : ∀ w : Fin 13, (spec0 w).isOut = false → r.2.mem ((c : Thread nD τ).loc (Pipeline.arrRef spec0 w)) = V m c (Pipeline.arrRef spec0 w) :=
    fun w hw => by
      have := (h c).1 w
      rwa [RDat.ArrAt_in (rdat m T c) w hw] at this
  exact ⟨((h c).2 main_arg0 (Pipeline.mem_restRefs_of main_arg0 (by decide)
      (show ∀ w : Fin 13, (spec0 w).arr.view.ref ≠ main_arg0 by decide))).trans (V_arg0 m c),
    (ha 0 rfl).trans (V_arg1 m c), (ha 1 rfl).trans (V_arg2 m c), (ha 3 rfl).trans (V_arg3 m c), (ha 4 rfl).trans (V_arg4 m c),
    ((h c).2 main_arg5 (Pipeline.mem_restRefs_of main_arg5 (by decide)
      (show ∀ w : Fin 13, (spec0 w).arr.view.ref ≠ main_arg5 by decide))).trans (V_arg5 m c)⟩

/-- The track that says nothing. -/
def noTrack : Track F := ⟨fun _ _ _ _ => True, fun _ _ => True, fun _ _ => True, fun _ _ => True⟩

/-- The run: it ends, the arguments unchanged and every counter at zero. -/
theorem frame (h : ∀ c, (ratio m c).toNat < 20) :
    θ_run defs (onTc (τ := τ) (main (F := F))) ⟨m, fun _ => 0, ρ⟩
      (fun r => (∀ c : Dev nD,
        r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨args_kept m noTrack r h.1, h.2⟩)
    (run_main m ρ noTrack (fun _ => trivial) (fun _ _ _ => trivial) (fun _ _ _ _ _ _ => ⟨trivial, trivial, trivial, trivial⟩)
      (table_lt m 0 (h 0)))

end Cert.KernelIdeal
-- ==== Proof.Quant.lean ====
/- What the error buffers hold, in closed form: the error of one candidate at one element of the weights (`dAt`), and the
   lemma that each group, row block and slab of the kernel's body fills its part of the buffer with it. -/
module

public import proofs.«01_k».proof.Proof.Point
public import Idealize.ShloMosaic.Lib.Pipeline.ValueKit.Geometry

@[expose] public section

set_option maxRecDepth 16384

noncomputable section

namespace Cert.Search

open Idealize.ShloMosaic

/-- The index of `s` with the coordinates `f`, wrapped where they leave the shape. -/
def ixm (s : Shape) (hs : ∀ a, 0 < s.size a) (f : Fin s.rank → Nat) : s.Idx := fun a => ⟨f a % s.size a, Nat.mod_lt _ (hs a)⟩

theorem ixm_eq {s : Shape} (hs : ∀ a, 0 < s.size a) (f : Fin s.rank → Nat) (y : s.Idx) (h : ∀ a, f a = (y a).val) : ixm s hs f = y := by
  funext a; apply Fin.ext
  show f a % s.size a = _
  rw [h a]; exact Nat.mod_eq_of_lt (y a).isLt

abbrev S1792x5120 : Shape := ⟨2, ![1792, 5120]⟩
abbrev S5120x5120 : Shape := ⟨2, ![5120, 5120]⟩

theorem pos14 : ∀ a, 0 < S14x40.size a := by decide
theorem pos20 : ∀ a, 0 < S20.size a := by decide
theorem pos20x : ∀ a, 0 < S20x1x5120.size a := by decide
theorem posC : ∀ a, 0 < S1792x5120.size a := by decide
theorem posH : ∀ a, 0 < S5120x5120.size a := by decide
theorem posG : ∀ a, 0 < S128x128.size a := by decide
theorem posD : ∀ a, 0 < S896x5120.size a := by decide
theorem posX : ∀ a, 0 < S1x5120.size a := by decide
theorem posR : ∀ a, 0 < S20x1792.size a := by decide
theorem pos896 : ∀ a, 0 < S1x896.size a := by decide

variable {F : FTy → Type} [FloatOps F]

/-- The arrays the call is given, and the order it takes the candidates in. -/
structure In (F : FTy → Type) where
  W : S14x40.Idx → Elt F .f32
  C : S1792x5120.Idx → Elt F .fp8e4m3
  H : S5120x5120.Idx → Elt F .bf16
  S : S20x1x5120.Idx → Elt F .f32
  RS : S20x1x5120.Idx → Elt F .f32
  RX : S1x5120.Idx → Elt F .f32
  ord : Nat → Nat

variable (A : In F)

/-- Candidate `v`'s scales of the group of columns `cg`. -/
def sAt (X : S20x1x5120.Idx → Elt F .f32) (v cg : Nat) : FVec F S1x1x128 .f32 :=
  fun y => X (ixm _ pos20x ![v, 0, 128 * cg + (y 2).val])

/-- The codes of the group at row block `rg` and columns' group `cg`. -/
def cAt (rg cg : Nat) : FVec F S128x128 .fp8e4m3 :=
  fun y => A.C (ixm _ posC ![128 * rg + (y 0).val, 128 * cg + (y 1).val])

/-- The error candidate `v` makes at the weight in row `r` and column `c`. -/
def dAt (v r c : Nat) : Elt F .bf16 :=
  gD (A.W (ixm _ pos14 ![r / 128, c / 128])) (sAt A.S v (c / 128)) (sAt A.RS v (c / 128)) (cAt A (r / 128) (c / 128))
    (ixm _ posG ![r % 128, c % 128])

/-- The error block of candidate `v` over half `par` of the rows. -/
def blk (v par : Nat) : S896x5120.Idx → Elt F .bf16 := fun z => dAt A v (896 * par + (z 0).val) (z 1).val

/-! ### Blocks read and written -/

theorem rd_at {s t : Shape} {α : Type} (hs : ∀ a, 0 < s.size a) (X : s.Idx → α) (off size : Fin s.rank → Nat) (h : ∀ a, off a + size a ≤ s.size a)
    (y : (⟨s.rank, size⟩ : Shape).Idx) (f : Fin s.rank → Nat) (hf : ∀ a, f a = off a + (y a).val) :
    rd (t := t) X off size h y = X (ixm s hs f) := by
  unfold rd
  congr 1
  refine (ixm_eq hs f _ fun a => ?_).symm
  rw [ValueKit.rect_emb_unit_val]; exact hf a

theorem overlay_in {s : Shape} {α : Type} (X : s.Idx → α) (off size : Fin s.rank → Nat) (h : ∀ a, off a + size a ≤ s.size a)
    (G : (⟨s.rank, size⟩ : Shape).Idx → α) (z : s.Idx) (y : (⟨s.rank, size⟩ : Shape).Idx) (hz : ∀ a, (z a).val = off a + (y a).val) :
    (Rect.unit (s := s) off size h).overlay X G z = G y := by
  have : z = (Rect.unit (s := s) off size h).emb y := by
    funext a; apply Fin.ext; rw [ValueKit.rect_emb_unit_val]; exact hz a
  rw [this]; exact Rect.overlay_emb _ _ _ _

theorem overlay_out {s : Shape} {α : Type} (X : s.Idx → α) (off size : Fin s.rank → Nat) (h : ∀ a, off a + size a ≤ s.size a)
    (G : (⟨s.rank, size⟩ : Shape).Idx → α) (z : s.Idx) (a : Fin s.rank) (hz : (z a).val < off a ∨ off a + size a ≤ (z a).val) :
    (Rect.unit (s := s) off size h).overlay X G z = X z := by
  apply Rect.overlay_of_not_mem
  intro hm
  rw [← Rect.map_emb_univ] at hm
  obtain ⟨y, -, hy⟩ := Finset.mem_map.mp hm
  have := ValueKit.rect_emb_unit_val off size h y a
  rw [hy] at this
  have hl : (y a).val < size a := (y a).isLt
  omega

theorem rd_whole {s : Shape} {α : Type} (X : s.Idx → α) (off : Fin s.rank → Nat) (h : ∀ a, off a + s.size a ≤ s.size a) :
    rd (t := s) X off s.size h = X := by
  funext y
  unfold rd
  congr 1
  funext a; apply Fin.ext
  rw [ValueKit.rect_emb_unit_val]
  have := h a; show off a + (y a).val = _; omega

theorem overlay_whole {s : Shape} {α : Type} (X : s.Idx → α) (off : Fin s.rank → Nat) (h : ∀ a, off a + s.size a ≤ s.size a) (G : s.Idx → α) :
    (Rect.unit (s := s) off s.size h).overlay X G = G := by
  funext z
  exact overlay_in X off s.size h G z z fun a => by have := h a; omega

/-- The word of the table at place `i`. -/
theorem word_at {α : Type} (X : S20.Idx → α) (off : Fin 1 → Nat) (h : ∀ a, off a + S1.size a ≤ S20.size a) (i : Nat) (ho : off = ![i]) :
    rdWord X off S1.size h numel1_S1 = X (ixm _ pos20 ![i]) := by
  subst ho
  unfold rdWord
  congr 1
  refine (ixm_eq pos20 _ _ fun a => ?_).symm
  rw [ValueKit.rect_emb_unit_val]
  have : ∀ y : S1.Idx, ∀ a, (y a).val = 0 := fun y a => by
    have := (y a).isLt; have h1 : S1.size a = 1 := by fin_cases a; rfl
    omega
  rw [this]; rfl

theorem wscale_at (X : S14x40.Idx → Elt F .f32) (off : Fin 2 → Nat) (h : ∀ a, off a + S1x1.size a ≤ S14x40.size a) (i j : Nat) (ho : off = ![i, j]) :
    rdWord X off S1x1.size h numel1_S1x1 = X (ixm _ pos14 ![i, j]) := by
  subst ho
  unfold rdWord
  congr 1
  refine (ixm_eq pos14 _ _ fun a => ?_).symm
  rw [ValueKit.rect_emb_unit_val]
  have : ∀ y : S1x1.Idx, ∀ a, (y a).val = 0 := fun y a => by
    have := (y a).isLt; have h1 : S1x1.size a = 1 := by fin_cases a <;> rfl
    omega
  rw [this]; rfl

/-! ### A group -/

/-- What a group's overlay leaves: the candidate's error inside the group, what was there outside. -/
theorem group_spec (O : Offs) (par v rb j : Nat) (w : BitVec 32) (hR : O.R = 7 * par) (hw : w.toNat = v) (hc : O.chk w) (h : rb < 7) (h' : j < 4)
    (cd : S896x512.Idx → Elt F .fp8e4m3) (hcd : ∀ y, cd y = A.C (ixm _ posC ![896 * par + (y 0).val, 512 * O.n + (y 1).val]))
    (d : S896x5120.Idx → Elt F .bf16) (z : S896x5120.Idx) :
    (Rect.unit (s := S896x5120) (O.od rb j) S128x128.size (O.hod h h')).overlay d
      (gD (rdWord A.W (O.ow rb j) S1x1.size (O.hw h h') numel1_S1x1) (rd (t := S1x1x128) A.S (O.os w j) S1x1x128.size (O.hs hc h'))
        (rd (t := S1x1x128) A.RS (O.os w j) S1x1x128.size (O.hs hc h')) (rd (t := S128x128) cd ![128 * rb, 128 * j] S128x128.size (inb_codes h h'))) z
      = if (z 0).val / 128 = rb ∧ (z 1).val / 128 = 4 * O.n + j then blk A v par z else d z := by
  have hod := O.od_eq rb j h h'
  have z0 : (z 0).val < 896 := (z 0).isLt
  have z1 : (z 1).val < 5120 := (z 1).isLt
  split_ifs with hz
  · obtain ⟨hz0, hz1⟩ := hz
    rw [overlay_in d (O.od rb j) S128x128.size (O.hod h h') _ z (ixm _ posG ![(z 0).val % 128, (z 1).val % 128]) (fun a => by
      rw [hod]; fin_cases a
      · show (z 0).val = 128 * rb + (z 0).val % 128 % 128; omega
      · show (z 1).val = 512 * O.n + 128 * j + (z 1).val % 128 % 128; omega)]
    unfold blk dAt
    have e0 : (896 * par + (z 0).val) / 128 = 7 * par + rb := by omega
    have e1 : (896 * par + (z 0).val) % 128 = (z 0).val % 128 := by omega
    rw [e0, e1, hz1]
    have hW : rdWord A.W (O.ow rb j) S1x1.size (O.hw h h') numel1_S1x1 = A.W (ixm _ pos14 ![7 * par + rb, 4 * O.n + j]) :=
      wscale_at _ _ _ _ _ (by rw [O.ow_eq rb j h h', hR])
    have hS : ∀ X : S20x1x5120.Idx → Elt F .f32, rd (t := S1x1x128) X (O.os w j) S1x1x128.size (O.hs hc h') = sAt X v (4 * O.n + j) := fun X => by
      funext y
      refine rd_at pos20x X _ _ _ y _ fun a => ?_
      rw [O.os_eq w j h', hw]
      have y0 : (y 0).val < 1 := (y 0).isLt
      have y1 : (y 1).val < 1 := (y 1).isLt
      fin_cases a
      · show v = v + (y 0).val; omega
      · show 0 = 0 + (y 1).val; omega
      · show 128 * (4 * O.n + j) + (y 2).val = 512 * O.n + 128 * j + (y 2).val; omega
    have hC : rd (t := S128x128) cd ![128 * rb, 128 * j] S128x128.size (inb_codes h h') = cAt A (7 * par + rb) (4 * O.n + j) := by
      funext y
      have y0 : (y 0).val < 128 := (y 0).isLt
      have y1 : (y 1).val < 128 := (y 1).isLt
      unfold rd cAt
      rw [hcd]
      congr 2
      funext a
      fin_cases a
      · show 896 * par + (((Rect.unit (s := S896x512) ![128 * rb, 128 * j] S128x128.size (inb_codes h h')).emb y) 0).val = 128 * (7 * par + rb) + (y 0).val
        rw [ValueKit.rect_emb_unit_val]; show 896 * par + (128 * rb + (y 0).val) = _; omega
      · show 512 * O.n + (((Rect.unit (s := S896x512) ![128 * rb, 128 * j] S128x128.size (inb_codes h h')).emb y) 1).val = 128 * (4 * O.n + j) + (y 1).val
        rw [ValueKit.rect_emb_unit_val]; show 512 * O.n + (128 * j + (y 1).val) = _; omega
    rw [hW, hS, hS, hC]
  · rw [not_and_or] at hz
    rcases hz with hz | hz
    · refine overlay_out d _ _ _ _ z 0 ?_
      rw [hod]; show (z 0).val < 128 * rb ∨ 128 * rb + 128 ≤ (z 0).val; omega
    · refine overlay_out d _ _ _ _ z 1 ?_
      rw [hod]; show (z 1).val < 512 * O.n + 128 * j ∨ 512 * O.n + 128 * j + 128 ≤ (z 1).val; omega

end Cert.Search
-- ==== Proof.Rows.lean ====
/- What the row blocks leave in the buffers, in closed form: they fill their slab of an error buffer and leave the rest. -/
module

public import proofs.«01_k».proof.Proof.Quant

@[expose] public section

set_option maxRecDepth 16384

noncomputable section

namespace Cert.Search

open Idealize.ShloMosaic

variable {F : FTy → Type} [FloatOps F]

/-- The contents' scales are those of the arrays. -/
structure Ops (A : In F) (x : Cont F) : Prop where
  w : x.wscale = A.W
  s : x.s = A.S
  rs : x.rs = A.RS

theorem Ops.same {A : In F} {x y : Cont F} (o : Ops A x) (h : Same x y) : Ops A y := ⟨h.wscale.trans o.w, h.s.trans o.s, h.rs.trans o.rs⟩

variable (A : In F) (O : Offs)

/-! ### The first block's loop -/

/-- The slab of codes the groups of `O` read. -/
def Slab (par : Nat) (cd : S896x512.Idx → Elt F .fp8e4m3) : Prop :=
  ∀ y, cd y = A.C (ixm _ posC ![896 * par + (y 0).val, 512 * O.n + (y 1).val])

theorem gDT_d0 (par v : Nat) (w : BitVec 32) (hR : O.R = 7 * par) (hw : w.toNat = v) (hc : O.chk w) (rb j : Nat) (h : rb < 7) (h' : j < 4)
    (cd : S896x512.Idx → Elt F .fp8e4m3) (hcd : Slab A O par cd) (x : Cont F) (hx : Ops A x) (z : S896x5120.Idx) :
    (gDT O cd w hc rb h j h' x).d0 z = if (z 0).val / 128 = rb ∧ (z 1).val / 128 = 4 * O.n + j then blk A v par z else x.d0 z := by
  obtain ⟨e1, e2, e3⟩ := hx
  rw [← group_spec A O par v rb j w hR hw hc h h' cd hcd x.d0 z, ← e1, ← e2, ← e3]
  rfl

theorem gET_d1 (par v : Nat) (w : BitVec 32) (hR : O.R = 7 * par) (hw : w.toNat = v) (hc : O.chk w) (rb j : Nat) (h : rb < 7) (h' : j < 4)
    (x : Cont F) (hcd : Slab A O par x.codes) (hx : Ops A x) (z : S896x5120.Idx) :
    (gET O w hc rb h j h' x).d1 z = if (z 0).val / 128 = rb ∧ (z 1).val / 128 = 4 * O.n + j then blk A v par z else x.d1 z := by
  obtain ⟨e1, e2, e3⟩ := hx
  rw [← group_spec A O par v rb j w hR hw hc h h' x.codes hcd x.d1 z, ← e1, ← e2, ← e3]
  rfl

theorem four (rb n z0 z1 : Nat) {α : Type} (b x : α) :
    (if z0 / 128 = rb ∧ z1 / 128 = 4 * n + 3 then b else if z0 / 128 = rb ∧ z1 / 128 = 4 * n + 2 then b else
      if z0 / 128 = rb ∧ z1 / 128 = 4 * n + 1 then b else if z0 / 128 = rb ∧ z1 / 128 = 4 * n + 0 then b else x)
      = if z0 / 128 = rb ∧ z1 / 512 = n then b else x := by
  by_cases h : z0 / 128 = rb ∧ z1 / 512 = n
  · rw [if_pos h]
    obtain ⟨h0, h1⟩ := h
    split_ifs with a b c d
    · rfl
    · rfl
    · rfl
    · rfl
    · omega
  · rw [if_neg h]
    split_ifs with a b c d
    · omega
    · omega
    · omega
    · omega
    · rfl

theorem up (k n z0 z1 : Nat) {α : Type} (b x : α) :
    (if z0 / 128 = k ∧ z1 / 512 = n then b else if z0 / 128 < k ∧ z1 / 512 = n then b else x)
      = if z0 / 128 < k + 1 ∧ z1 / 512 = n then b else x := by
  split_ifs with a b c d e f
  · rfl
  · omega
  · rfl
  · omega
  · omega
  · rfl

theorem rowsDT_d0 (par v : Nat) (w : BitVec 32) (hR : O.R = 7 * par) (hw : w.toNat = v) (hc : O.chk w)
    (cd : S896x512.Idx → Elt F .fp8e4m3) (hcd : Slab A O par cd) (x : Cont F) (hx : Ops A x) (k : Nat) (hk : k ≤ 7) (z : S896x5120.Idx) :
    (rowsDT O cd w hc k hk x).d0 z = if (z 0).val / 128 < k ∧ (z 1).val / 512 = O.n then blk A v par z else x.d0 z := by
  induction k with
  | zero => rw [if_neg (by omega)]; rfl
  | succ k ih =>
    have s0 := hx.same (same_rowsDT O cd w hc k (Nat.le_of_succ_le hk) x)
    have s1 := s0.same (same_gDT O cd w hc k hk 0 (by decide) _)
    have s2 := s1.same (same_gDT O cd w hc k hk 1 (by decide) _)
    have s3 := s2.same (same_gDT O cd w hc k hk 2 (by decide) _)
    unfold rowsDT rowDT
    rw [gDT_d0 A O par v w hR hw hc k 3 hk _ cd hcd _ s3, gDT_d0 A O par v w hR hw hc k 2 hk _ cd hcd _ s2,
      gDT_d0 A O par v w hR hw hc k 1 hk _ cd hcd _ s1, gDT_d0 A O par v w hR hw hc k 0 hk _ cd hcd _ s0, four, ih, up]

theorem rowET_d1 (par v : Nat) (w : BitVec 32) (hR : O.R = 7 * par) (hw : w.toNat = v) (hc : O.chk w) (ln : Nat → BitVec 32)
    (x : Cont F) (hcd : Slab A O par x.codes) (hx : Ops A x) (k : Nat) (hk : k < 7) (z : S896x5120.Idx) :
    (rowET O ln w hc k hk x).d1 z = if (z 0).val / 128 = k ∧ (z 1).val / 512 = O.n then blk A v par z else x.d1 z := by
  have t1 := same_gET O w hc k hk 0 (by decide) x
  have t2 := t1.trans (same_gET O w hc k hk 1 (by decide) _)
  have t3 := t2.trans (same_gET O w hc k hk 2 (by decide) _)
  show (gE4 O w hc k hk x).d1 z = _
  unfold gE4
  rw [gET_d1 A O par v w hR hw hc k 3 hk _ _ (by rw [t3.codes]; exact hcd) (hx.same t3),
    gET_d1 A O par v w hR hw hc k 2 hk _ _ (by rw [t2.codes]; exact hcd) (hx.same t2),
    gET_d1 A O par v w hR hw hc k 1 hk _ _ (by rw [t1.codes]; exact hcd) (hx.same t1),
    gET_d1 A O par v w hR hw hc k 0 hk _ _ hcd hx, four]

theorem rowsET_d1 (par v : Nat) (w : BitVec 32) (hR : O.R = 7 * par) (hw : w.toNat = v) (hc : O.chk w) (ln : Nat → BitVec 32)
    (x : Cont F) (hcd : Slab A O par x.codes) (hx : Ops A x) (k : Nat) (hk : k ≤ 7) (z : S896x5120.Idx) :
    (rowsET O ln w hc k hk x).d1 z = if (z 0).val / 128 < k ∧ (z 1).val / 512 = O.n then blk A v par z else x.d1 z := by
  induction k with
  | zero => rw [if_neg (by omega)]; rfl
  | succ k ih =>
    have s0 := same_rowsET O ln w hc k (Nat.le_of_succ_le hk) x
    unfold rowsET
    rw [rowET_d1 A O par v w hR hw hc ln _ (by rw [s0.codes]; exact hcd) (hx.same s0), ih, up]

/-! ### What the pieces leave alone -/

structure KeepD (x y : Cont F) : Prop where
  d1 : y.d1 = x.d1
  acc : y.acc = x.acc
  rows : y.rows = x.rows

theorem KeepD.trans {x y z : Cont F} (a : KeepD x y) (b : KeepD y z) : KeepD x z := ⟨b.d1.trans a.d1, b.acc.trans a.acc, b.rows.trans a.rows⟩

structure KeepE (x y : Cont F) : Prop where
  d0 : y.d0 = x.d0
  acc : y.acc = x.acc
  rows : y.rows = x.rows

theorem KeepE.trans {x y z : Cont F} (a : KeepE x y) (b : KeepE y z) : KeepE x z := ⟨b.d0.trans a.d0, b.acc.trans a.acc, b.rows.trans a.rows⟩

theorem keep_gDT (cd : S896x512.Idx → Elt F .fp8e4m3) (w : BitVec 32) (hc : O.chk w) (rb : Nat) (h : rb < 7) (j : Nat) (h' : j < 4)
    (x : Cont F) : KeepD x (gDT O cd w hc rb h j h' x) := by
  unfold gDT groupDT; exact ⟨rfl, rfl, rfl⟩

theorem keep_gET (w : BitVec 32) (hc : O.chk w) (rb : Nat) (h : rb < 7) (j : Nat) (h' : j < 4) (x : Cont F) : KeepE x (gET O w hc rb h j h' x) := by
  unfold gET groupET; exact ⟨rfl, rfl, rfl⟩

theorem keep_rowsDT (cd : S896x512.Idx → Elt F .fp8e4m3) (w : BitVec 32) (hc : O.chk w) (k : Nat) (h : k ≤ 7) (x : Cont F) :
    KeepD x (rowsDT O cd w hc k h x) := by
  induction k with
  | zero => exact ⟨rfl, rfl, rfl⟩
  | succ k ih =>
    unfold rowsDT rowDT
    exact (ih (Nat.le_of_succ_le h)).trans ((keep_gDT ..).trans ((keep_gDT ..).trans ((keep_gDT ..).trans (keep_gDT ..))))

theorem keep_rowET (ln : Nat → BitVec 32) (w : BitVec 32) (hc : O.chk w) (rb : Nat) (h : rb < 7) (x : Cont F) : KeepE x (rowET O ln w hc rb h x) := by
  have g : KeepE x (gE4 O w hc rb h x) := (keep_gET ..).trans ((keep_gET ..).trans ((keep_gET ..).trans (keep_gET ..)))
  unfold rowET
  generalize gE4 O w hc rb h x = y at g ⊢
  exact ⟨g.d0, g.acc, g.rows⟩

theorem keep_rowsET (ln : Nat → BitVec 32) (w : BitVec 32) (hc : O.chk w) (k : Nat) (h : k ≤ 7) (x : Cont F) :
    KeepE x (rowsET O ln w hc k h x) := by
  induction k with
  | zero => exact ⟨rfl, rfl, rfl⟩
  | succ k ih => exact (ih (Nat.le_of_succ_le h)).trans (keep_rowET ..)

end Cert.Search
-- ==== Proof.Col.lean ====
/- What the column step leaves in the buffers: its slab of the next block's error, and its product with the slab of the second
   moment kept and added to the row sums. -/
module

public import proofs.«01_k».proof.Proof.Rows

@[expose] public section

set_option maxRecDepth 16384

noncomputable section

namespace Cert.Search

open Idealize.ShloMosaic

variable {F : FTy → Type} [FloatOps F]
variable (A : In F) (O : Offs)

/-! ### The column step -/

/-- The slab of the second moment. -/
def hs (n : Nat) : S5120x512.Idx → Elt F .bf16 := fun y => A.H (ixm _ posH ![(y 0).val, 512 * n + (y 1).val])

/-- The slab's reciprocals of the normalising vector. -/
def rx (n : Nat) : S1x512.Idx → Elt F .f32 := fun y => A.RX (ixm _ posX ![0, 512 * n + (y 1).val])

/-- The slab's columns of an error block. -/
def cols (n : Nat) (d : S896x5120.Idx → Elt F .bf16) : S896x512.Idx → Elt F .bf16 := fun y => d (ixm _ posD ![(y 0).val, 512 * n + (y 1).val])

theorem tailT_acc (x : Cont F) (orx : Fin 2 → Nat) (hrx : ∀ a, orx a + S1x512.size a ≤ S1x5120.size a)
    (odc : Fin 2 → Nat) (hdc : ∀ a, odc a + S896x512.size a ≤ S896x5120.size a) :
    (tailT orx hrx odc hdc x).acc = tAcc (tP x.d0 x.h) (rd (t := S896x512) x.d0 odc S896x512.size hdc) x.acc := by
  unfold tailT
  refine (overlay_whole x.acc _ _ _).trans ?_
  rw [rd_whole x.d0, rd_whole x.h, rd_whole x.acc]

theorem tailT_dh (x : Cont F) (orx : Fin 2 → Nat) (hrx : ∀ a, orx a + S1x512.size a ≤ S1x5120.size a)
    (odc : Fin 2 → Nat) (hdc : ∀ a, odc a + S896x512.size a ≤ S896x5120.size a) :
    (tailT orx hrx odc hdc x).dh = tDh (tP x.d0 x.h) (rd (t := S1x512) x.rxc orx S1x512.size hrx) := by
  unfold tailT
  refine (overlay_whole x.dh _ _ _).trans ?_
  rw [rd_whole x.d0, rd_whole x.h]

theorem tailT_keep (x : Cont F) (orx : Fin 2 → Nat) (hrx : ∀ a, orx a + S1x512.size a ≤ S1x5120.size a)
    (odc : Fin 2 → Nat) (hdc : ∀ a, odc a + S896x512.size a ≤ S896x5120.size a) :
    (tailT orx hrx odc hdc x).d0 = x.d0 ∧ (tailT orx hrx odc hdc x).d1 = x.d1 ∧ (tailT orx hrx odc hdc x).rows = x.rows := by
  unfold tailT; exact ⟨rfl, rfl, rfl⟩

theorem rd_rx (n : Nat) (orx : Fin 2 → Nat) (hrx : ∀ a, orx a + S1x512.size a ≤ S1x5120.size a) (hr : orx = ![0, 512 * n]) :
    rd (t := S1x512) A.RX orx S1x512.size hrx = rx A n := by
  funext z
  have z0 : (z 0).val < 1 := (z 0).isLt
  refine rd_at posX A.RX _ _ _ z _ fun a => ?_
  rw [hr]; fin_cases a
  · show 0 = 0 + (z 0).val; omega
  · rfl

theorem rd_cols (n : Nat) (d : S896x5120.Idx → Elt F .bf16) (odc : Fin 2 → Nat) (hdc : ∀ a, odc a + S896x512.size a ≤ S896x5120.size a)
    (hd : odc = ![0, 512 * n]) : rd (t := S896x512) d odc S896x512.size hdc = cols n d := by
  funext z
  refine rd_at posD d _ _ _ z _ fun a => ?_
  rw [hd]; fin_cases a
  · show (z 0).val = 0 + (z 0).val; omega
  · rfl

theorem rowsOutT_rows (x : Cont F) (chk : BitVec 32 → Prop) (oo : Fin 1 → Nat) (hoo : ∀ a, oo a + S1.size a ≤ S20.size a)
    (oe : BitVec 32 → Fin 2 → Nat) (hoe : ∀ v, chk v → ∀ a, oe v a + S1x896.size a ≤ S20x1792.size a)
    (hv : chk (rdWord x.order oo S1.size hoo numel1_S1)) :
    (rowsOutT chk oo hoo oe hoe x).rows = (Rect.unit (s := S20x1792) (oe _) S1x896.size (hoe _ hv)).overlay x.rows (rowSum x.acc) := by
  unfold rowsOutT
  rw [dif_pos hv]
  rw [rd_whole x.acc]

theorem clearT_acc (x : Cont F) : (clearT x).acc = shapeCast S896x128 (zeros (F := F)) shapeCasts_S896x128_S896x128 := by
  unfold clearT
  refine (overlay_whole x.acc _ _ _).trans ?_
  rfl

theorem clearT_keep (x : Cont F) : (clearT x).d0 = x.d0 ∧ (clearT x).d1 = x.d1 ∧ (clearT x).rows = x.rows := by
  unfold clearT; exact ⟨rfl, rfl, rfl⟩

theorem errT_err (x : Cont F) : (errT x).err = errOut x.rows := by
  unfold errT
  refine (overlay_whole x.err _ _ _).trans ?_
  rw [rd_whole x.rows]

/-- What a column step leaves. -/
structure Stepped (v par n : Nat) (x y : Cont F) : Prop where
  d0 : y.d0 = x.d0
  d1 : ∀ z, y.d1 z = if (z 1).val / 512 = n then blk A v par z else x.d1 z
  acc : y.acc = tAcc (tP x.d0 x.h) (cols n x.d0) x.acc
  rows : y.rows = x.rows
  dh : y.dh = tDh (tP x.d0 x.h) (rx A n)

theorem stepT_spec (par i : Nat) (hR : O.R = 7 * par) (hO : O.oo = ![i]) (ln : Nat → BitVec 32) (x : Cont F)
    (hw : (x.order (ixm _ pos20 ![i])).toNat = A.ord i) (hlt : A.ord i < 20)
    (orx : Fin 2 → Nat) (hrx : ∀ a, orx a + S1x512.size a ≤ S1x5120.size a)
    (odc : Fin 2 → Nat) (hdc : ∀ a, odc a + S896x512.size a ≤ S896x5120.size a) (hr : orx = ![0, 512 * O.n]) (hd : odc = ![0, 512 * O.n])
    (hcd : Slab A O par x.codes) (hx : Ops A x) (hrxc : x.rxc = A.RX) :
    Stepped A (A.ord i) par O.n x (stepT O ln orx hrx odc hdc x) := by
  have hwd : rdWord x.order O.oo S1.size O.hoo numel1_S1 = x.order (ixm _ pos20 ![i]) := word_at _ _ _ _ hO
  have hc : O.chk (rdWord x.order O.oo S1.size O.hoo numel1_S1) := O.chk_of _ (by rw [hwd, hw]; exact hlt)
  have hv : (rdWord x.order O.oo S1.size O.hoo numel1_S1).toNat = A.ord i := by rw [hwd, hw]
  unfold stepT
  rw [dif_pos hc]
  have k := keep_rowsET O ln _ hc 7 le_rfl x
  have s := same_rowsET O ln _ hc 7 le_rfl x
  have d := rowsET_d1 A O par (A.ord i) _ hR hv hc ln x hcd hx 7 le_rfl
  generalize rowsET O ln _ hc 7 le_rfl x = y at k s d ⊢
  obtain ⟨t0, t1, t2⟩ := tailT_keep y orx hrx odc hdc
  refine ⟨t0.trans k.d0, fun z => ?_, ?_, t2.trans k.rows, ?_⟩
  · rw [t1, d z]
    have z0 : (z 0).val < 896 := (z 0).isLt
    by_cases h : (z 1).val / 512 = O.n
    · rw [if_pos h, if_pos ⟨by omega, h⟩]
    · rw [if_neg h, if_neg (fun h' => h h'.2)]
  · rw [tailT_acc, rd_cols O.n _ _ _ hd, k.d0, k.acc, s.h]
  · rw [tailT_dh, s.rxc, hrxc, rd_rx A O.n _ _ hr, k.d0, s.h]

end Cert.Search
-- ==== Proof.Track.lean ====
/- The whole body carries the invariant of the buffers from one grid point to the next. -/
module

public import proofs.«01_k».proof.Proof.Col

@[expose] public section

set_option maxRecDepth 16384

noncomputable section

namespace Cert.Search

open Idealize.ShloMosaic

variable {F : FTy → Type} [FloatOps F]
variable (A : In F) (O : Offs)

/-! ### The invariant -/

/-- The row sums after `n` slabs of step `t`. -/
def accR (t : Nat) : Nat → FVec F S896x128 .f32
  | 0 => shapeCast S896x128 (zeros (F := F)) shapeCasts_S896x128_S896x128
  | n + 1 => tAcc (tP (blk A (A.ord (t / 2)) (t % 2)) (hs A n)) (cols n (blk A (A.ord (t / 2)) (t % 2))) (accR t n)

/-- The error block step `t` multiplies. -/
def cur (t : Nat) : S896x5120.Idx → Elt F .bf16 := blk A (A.ord (t / 2)) (t % 2)

/-- The buffer step `t` reads, and the one it fills. -/
def now (t : Nat) {α : Type} (d0 d1 : α) : α := if t % 2 = 0 then d0 else d1

structure Inv (k : Nat) (d0 d1 : S896x5120.Idx → Elt F .bf16) (acc : S896x128.Idx → Elt F .f32) : Prop where
  now : k ≠ 0 → now (k / 10) d0 d1 = cur A (k / 10)
  next : ∀ z : S896x5120.Idx, (z 1).val < 512 * (k % 10) → Search.now (k / 10) d1 d0 z = cur A (min (k / 10 + 1) 39) z
  acc : k % 10 ≠ 0 → acc = accR A (k / 10) (k % 10)

def Rows (k : Nat) (X : S20x1792.Idx → Elt F .f32) : Prop :=
  ∀ t, t < 40 → 10 * (t + 1) ≤ k → ∀ a : S1x896.Idx,
    X (ixm _ posR ![A.ord (t / 2), t % 2 * 896 + (a 1).val]) = rowSum (accR A t 10) a

def Err (k : Nat) (X : S20x128.Idx → Elt F .f32) : Prop := k = 399 → ∃ R, Rows A 400 R ∧ X = errOut R

def Dh (k : Nat) (X : S896x512.Idx → Elt F .bf16) : Prop := X = tDh (tP (cur A (k / 10)) (hs A (k % 10))) (rx A (k % 10))

/-- What the operands hold at a point. -/
structure Feeds (t n : Nat) (x : Cont F) : Prop where
  ops : Ops A x
  order : ∀ i, i < 20 → (x.order (ixm _ pos20 ![i])).toNat = A.ord i
  codes0 : ∀ y, x.codes0 y = A.C (ixm _ posC ![(y 0).val, (y 1).val])
  codes : ∀ y, x.codes y = A.C (ixm _ posC ![896 * (min (t + 1) 39 % 2) + (y 0).val, 512 * n + (y 1).val])
  h : x.h = hs A n
  rxc : x.rxc = A.RX

variable {A} in
theorem Feeds.same {t n : Nat} {x y : Cont F} (o : Feeds A t n x) (h : Same x y) : Feeds A t n y :=
  ⟨o.ops.same h, fun i hi => by rw [h.order]; exact o.order i hi, fun y => by rw [h.codes0]; exact o.codes0 y,
    fun y => by rw [h.codes]; exact o.codes y, h.h.trans o.h, h.rxc.trans o.rxc⟩

variable (p : Pt)

theorem initT_spec (hlt : ∀ i, i < 20 → A.ord i < 20) (h1 : p.c1 = 1#1) (x : Cont F) (hx : Feeds A p.t p.n x) (k : Nat) (hk : k ≤ p.lp.trips) :
    (∀ z : S896x5120.Idx, (z 1).val / 512 < k → (initT p h1 k hk x).d0 z = cur A 0 z) ∧ KeepD x (initT p h1 k hk x) := by
  induction k with
  | zero => exact ⟨fun z h => absurd h (Nat.not_lt_zero _), rfl, rfl, rfl⟩
  | succ k ih =>
    obtain ⟨ih1, ih2⟩ := ih (Nat.le_of_succ_le hk)
    have hy := hx.same (same_initT p h1 k (Nat.le_of_succ_le hk) x)
    unfold initT
    generalize initT p h1 k (Nat.le_of_succ_le hk) x = y at ih1 ih2 hy ⊢
    have hwd : rdWord y.order (p.o1 h1 ⟨k, hk⟩).oo S1.size (p.o1 h1 ⟨k, hk⟩).hoo numel1_S1 = y.order (ixm _ pos20 ![0]) := word_at _ _ _ _ (p.o1o h1 _)
    have hw := hy.order 0 (by decide)
    have hc : (p.o1 h1 ⟨k, hk⟩).chk (rdWord y.order (p.o1 h1 ⟨k, hk⟩).oo S1.size (p.o1 h1 ⟨k, hk⟩).hoo numel1_S1) :=
      (p.o1 h1 ⟨k, hk⟩).chk_of _ (by rw [hwd, hw]; exact hlt 0 (by decide))
    unfold tripDT
    rw [dif_pos hc]
    refine ⟨fun z hz => ?_, ih2.trans (keep_rowsDT ..)⟩
    rw [rowsDT_d0 A (p.o1 h1 ⟨k, hk⟩) 0 (A.ord 0) _ (p.o1R h1 _) (by rw [hwd, hw]) hc _ (fun y' => ?_) y hy.ops 7 le_rfl]
    · rw [p.o1n]
      have z0 : (z 0).val < 896 := (z 0).isLt
      by_cases h : (z 1).val / 512 = k
      · rw [if_pos ⟨by omega, h⟩]; rfl
      · rw [if_neg (fun h' => h h'.2)]; exact ih1 z (by omega)
    · rw [p.o1n]
      show y.codes0 _ = _
      rw [hy.codes0]
      congr 2
      funext a
      rw [ValueKit.rect_emb_unit_val, ValueKit.rect_emb_unit_val]
      have q0 : p.off3 ⟨k, hk⟩ 0 = 0 := congrFun (p.off3_eq ⟨k, hk⟩) 0
      have q1 : p.off3 ⟨k, hk⟩ 1 = 512 * k := congrFun (p.off3_eq ⟨k, hk⟩) 1
      fin_cases a
      · show p.off3 ⟨k, hk⟩ 0 + (y' 0).val = 896 * 0 + (y' 0).val; omega
      · show p.off3 ⟨k, hk⟩ 1 + (y' 1).val = 512 * k + (y' 1).val; omega

/-- The two parts that step: one of them does, by the parity of the step. -/
theorem parts_CD (hlt : ∀ i, i < 20 → A.ord i < 20) (x : Cont F) (hx : Feeds A p.t p.n x) (hcur : now p.t x.d0 x.d1 = cur A p.t) :
    let y := partD p (partC p x)
    now p.t y.d0 y.d1 = cur A p.t
      ∧ (∀ z : S896x5120.Idx, now p.t y.d1 y.d0 z = if (z 1).val / 512 = p.n then cur A (min (p.t + 1) 39) z else now p.t x.d1 x.d0 z)
      ∧ y.acc = tAcc (tP (cur A p.t) (hs A p.n)) (cols p.n (cur A p.t)) x.acc
      ∧ y.rows = x.rows
      ∧ y.dh = tDh (tP (cur A p.t) (hs A p.n)) (rx A p.n) := by
  have ht := p.ht
  have hi : min (p.t + 1) 39 / 2 < 20 := by omega
  unfold now at *
  by_cases h : p.t % 2 = 0
  · have h3 : p.c3 = 1#1 := p.hc3.mpr h
    have h4 : ¬ p.c4 = 1#1 := fun h' => by have := p.hc4.mp h'; omega
    have s := stepT_spec A (p.o2 h3) (min (p.t + 1) 39 % 2) (min (p.t + 1) 39 / 2) (p.o2R h3) (p.o2o h3) (lane p.w) x
      (hx.order _ hi) (hlt _ hi) p.r2 (p.hr2 h3) p.d2 (p.hd2 h3) (by rw [p.o2n, p.r2_eq]) (by rw [p.o2n, p.d2_eq])
      (fun y => by rw [p.o2n]; exact hx.codes y) hx.ops hx.rxc
    unfold partD partC
    rw [dif_neg h4, dif_pos h3]
    generalize stepT (p.o2 h3) (lane p.w) p.r2 (p.hr2 h3) p.d2 (p.hd2 h3) x = y at s
    rw [p.o2n] at s
    simp only [if_pos h] at hcur ⊢
    refine ⟨s.d0.trans hcur, s.d1, ?_, s.rows, ?_⟩
    · rw [s.acc, hcur, hx.h]
    · rw [s.dh, hcur, hx.h]
  · have h3 : ¬ p.c3 = 1#1 := fun h' => h (p.hc3.mp h')
    have h4 : p.c4 = 1#1 := p.hc4.mpr (by omega)
    have s := stepT_spec A (p.o3 h4) (min (p.t + 1) 39 % 2) (min (p.t + 1) 39 / 2) (p.o3R h4) (p.o3o h4) (lane p.w) x.swap
      (hx.order _ hi) (hlt _ hi) p.r3 (p.hr3 h4) p.d3 (p.hd3 h4) (by rw [p.o3n, p.r3_eq]) (by rw [p.o3n, p.d3_eq])
      (fun y => by rw [p.o3n]; exact hx.codes y) ⟨hx.ops.w, hx.ops.s, hx.ops.rs⟩ hx.rxc
    unfold partD partC
    rw [dif_pos h4, dif_neg h3]
    generalize stepT (p.o3 h4) (lane p.w) p.r3 (p.hr3 h4) p.d3 (p.hd3 h4) x.swap = y at s
    rw [p.o3n] at s
    simp only [if_neg h] at hcur ⊢
    refine ⟨s.d0.trans hcur, s.d1, ?_, s.rows, ?_⟩
    · show y.acc = _
      rw [s.acc, show x.swap.d0 = x.d1 from rfl, hcur, show x.swap.h = x.h from rfl, hx.h]; rfl
    · show y.dh = _
      rw [s.dh, show x.swap.d0 = x.d1 from rfl, hcur, show x.swap.h = x.h from rfl, hx.h]

/-- The rows' buffer after a point. -/
theorem rows_step (hlt : ∀ i, i < 20 → A.ord i < 20) (hinj : ∀ i j, i < 20 → j < 20 → A.ord i = A.ord j → i = j)
    (x : Cont F) (hx : Feeds A p.t p.n x) (hacc : p.n = 9 → x.acc = accR A p.t 10)
    (hr : Rows A (10 * p.t + p.n) x.rows) : Rows A (10 * p.t + p.n + 1) (partE p x).rows := by
  have ht := p.ht
  have hn := p.hn
  unfold partE
  by_cases h5 : p.c5 = 1#1
  · rw [dif_pos h5]
    have h9 : p.n = 9 := p.hc5.mp h5
    have hi : p.t / 2 < 20 := by omega
    have hwd : rdWord x.order p.o4 S1.size (p.ho4 h5) numel1_S1 = x.order (ixm _ pos20 ![p.t / 2]) := word_at _ _ _ _ p.o4_eq
    have hw := hx.order _ hi
    have hc : p.chk4 (rdWord x.order p.o4 S1.size (p.ho4 h5) numel1_S1) := p.chk4_of _ (by rw [hwd, hw]; exact hlt _ hi)
    rw [rowsOutT_rows _ _ _ _ _ _ hc]
    have hoe : p.oe (rdWord x.order p.o4 S1.size (p.ho4 h5) numel1_S1) = ![A.ord (p.t / 2), p.t % 2 * 896] := by rw [p.oe_eq, hwd, hw]
    intro t htt hk a
    have a0 : (a 0).val < 1 := (a 0).isLt
    have a1 : (a 1).val < 896 := (a 1).isLt
    have hit : t / 2 < 20 := by omega
    have hl := hlt _ hit
    by_cases he : t = p.t
    · subst he
      rw [overlay_in (s := S20x1792) x.rows _ S1x896.size _ _ _ a (fun b => by
        rw [hoe]; fin_cases b
        · show A.ord (p.t / 2) % 20 = A.ord (p.t / 2) + (a 0).val
          omega
        · show (p.t % 2 * 896 + (a 1).val) % 1792 = p.t % 2 * 896 + (a 1).val
          omega), hacc h9]
    · have hold := hr t htt (by omega) a
      by_cases hq : t / 2 = p.t / 2
      · rw [overlay_out (s := S20x1792) x.rows _ S1x896.size _ _ _ 1 (by
          rw [hoe]
          show (t % 2 * 896 + (a 1).val) % 1792 < p.t % 2 * 896 ∨ p.t % 2 * 896 + 896 ≤ (t % 2 * 896 + (a 1).val) % 1792
          omega)]
        exact hold
      · rw [overlay_out (s := S20x1792) x.rows _ S1x896.size _ _ _ 0 (by
          rw [hoe]
          show A.ord (t / 2) % 20 < A.ord (p.t / 2) ∨ A.ord (p.t / 2) + 1 ≤ A.ord (t / 2) % 20
          have : A.ord (t / 2) ≠ A.ord (p.t / 2) := fun h => hq (hinj _ _ hit hi h)
          omega)]
        exact hold
  · rw [dif_neg h5]
    have h9 : p.n ≠ 9 := fun h => h5 (p.hc5.mpr h)
    intro t htt hk a
    exact hr t htt (by omega) a

theorem keep_partE (x : Cont F) : (partE p x).d0 = x.d0 ∧ (partE p x).d1 = x.d1 ∧ (partE p x).acc = x.acc ∧ (partE p x).dh = x.dh := by
  unfold partE rowsOutT
  split
  · split
    · exact ⟨rfl, rfl, rfl, rfl⟩
    · exact ⟨rfl, rfl, rfl, rfl⟩
  · exact ⟨rfl, rfl, rfl, rfl⟩

theorem keep_partF (x : Cont F) : (partF p x).d0 = x.d0 ∧ (partF p x).d1 = x.d1 ∧ (partF p x).acc = x.acc ∧ (partF p x).dh = x.dh ∧ (partF p x).rows = x.rows := by
  unfold partF errT
  split
  · exact ⟨rfl, rfl, rfl, rfl, rfl⟩
  · exact ⟨rfl, rfl, rfl, rfl, rfl⟩

/-- One point of the grid carries the invariant on. -/
theorem body_step (hlt : ∀ i, i < 20 → A.ord i < 20) (hinj : ∀ i j, i < 20 → j < 20 → A.ord i = A.ord j → i = j)
    (k : Nat) (hk : k = 10 * p.t + p.n) (x : Cont F) (hx : Feeds A p.t p.n x) (hI : k < 400 → Inv A k x.d0 x.d1 x.acc) (hr : Rows A k x.rows) :
    (k + 1 < 400 → Inv A (k + 1) (bodyT p x).d0 (bodyT p x).d1 (bodyT p x).acc) ∧ Rows A (k + 1) (bodyT p x).rows ∧ Err A k (bodyT p x).err ∧ Dh A k (bodyT p x).dh := by
  have ht := p.ht
  have hn := p.hn
  subst hk
  have ek : (10 * p.t + p.n) / 10 = p.t := by omega
  have em : (10 * p.t + p.n) % 10 = p.n := by omega
  obtain ⟨i1, i2, i3⟩ := hI (by omega)
  rw [ek] at i1 i2 i3
  rw [em] at i2 i3
  -- the loop
  have hA : now p.t (partA p x).d0 (partA p x).d1 = cur A p.t ∧ (∀ z : S896x5120.Idx, (z 1).val < 512 * p.n → now p.t (partA p x).d1 (partA p x).d0 z = cur A (min (p.t + 1) 39) z)
      ∧ (partA p x).acc = x.acc ∧ (partA p x).rows = x.rows := by
    unfold partA
    by_cases h1 : p.c1 = 1#1
    · rw [dif_pos h1]
      obtain ⟨t0, n0⟩ := p.hc1.mp h1
      obtain ⟨s1, s2⟩ := initT_spec A p hlt h1 x hx p.lp.trips le_rfl
      rw [t0, n0]
      refine ⟨?_, fun z hz => absurd hz (by omega), s2.acc, s2.rows⟩
      funext z
      have z1 : (z 1).val < 5120 := (z 1).isLt
      exact s1 z (by rw [p.htrips]; omega)
    · rw [dif_neg h1]
      exact ⟨i1 (fun h => h1 (p.hc1.mpr (by omega))), i2, rfl, rfl⟩
  have xa := hx.same (same_partA p x)
  unfold bodyT
  generalize partA p x = xA at hA xa ⊢
  obtain ⟨a1, a2, a3, a4⟩ := hA
  -- the clearing
  have hB : (partB p xA).d0 = xA.d0 ∧ (partB p xA).d1 = xA.d1 ∧ (partB p xA).rows = xA.rows ∧ (partB p xA).acc = accR A p.t p.n := by
    unfold partB
    by_cases h2 : p.c2 = 1#1
    · rw [if_pos h2]
      obtain ⟨q0, q1, q2⟩ := clearT_keep xA
      refine ⟨q0, q1, q2, ?_⟩
      rw [p.hc2.mp h2, clearT_acc]; rfl
    · rw [if_neg h2]
      have : p.n ≠ 0 := fun h => h2 (p.hc2.mpr h)
      exact ⟨rfl, rfl, rfl, a3.trans (i3 this)⟩
  have xb := xa.same (same_partB p xA)
  generalize partB p xA = xB at hB xb ⊢
  obtain ⟨b1, b2, b3, b4⟩ := hB
  rw [← b1, ← b2] at a1
  rw [← b1, ← b2] at a2
  -- the step
  have hC := parts_CD A p hlt xB xb a1
  have xd := xb.same ((same_partC p xB).trans (same_partD p _))
  simp only at hC
  generalize partD p (partC p xB) = xD at hC xd ⊢
  obtain ⟨c1, c2, c3, c4, c5⟩ := hC
  have hacc : xD.acc = accR A p.t (p.n + 1) := by rw [c3, b4]; rfl
  have hrD : Rows A (10 * p.t + p.n) xD.rows := by rw [c4, b3, a4]; exact hr
  have hE := rows_step A p hlt hinj xD xd (fun h => by rw [hacc, h]) hrD
  obtain ⟨e1, e2, e3, e4⟩ := keep_partE p xD
  generalize partE p xD = xE at hE e1 e2 e3 e4 ⊢
  obtain ⟨f1, f2, f3, f4, f5⟩ := keep_partF p xE
  refine ⟨fun hlt' => ?_, by rw [f5]; exact hE, ?_, ?_⟩
  · rw [f1, f2, f3, e1, e2, e3]
    by_cases h9 : p.n = 9
    · have ek' : (10 * p.t + p.n + 1) / 10 = p.t + 1 := by omega
      have em' : (10 * p.t + p.n + 1) % 10 = 0 := by omega
      refine ⟨fun _ => ?_, fun z hz => ?_, fun h => absurd em' h⟩
      · rw [ek']
        have e39 : min (p.t + 1) 39 = p.t + 1 := by omega
        funext z
        have z1 : (z 1).val < 5120 := (z 1).isLt
        have hsw : now (p.t + 1) xD.d0 xD.d1 = now p.t xD.d1 xD.d0 := by
          unfold now
          by_cases h : p.t % 2 = 0
          · rw [if_pos h, if_neg (by omega)]
          · rw [if_neg h, if_pos (by omega)]
        rw [hsw, c2 z]
        split
        · rw [e39]
        · rw [a2 z (by omega), e39]
      · rw [em'] at hz; omega
    · have ek' : (10 * p.t + p.n + 1) / 10 = p.t := by omega
      have em' : (10 * p.t + p.n + 1) % 10 = p.n + 1 := by omega
      refine ⟨fun _ => by rw [ek']; exact c1, fun z hz => ?_, fun h => by rw [ek', em']; exact hacc⟩
      rw [em'] at hz
      rw [ek', c2 z]
      split
      · rfl
      · exact a2 z (by omega)
  · intro h
    have h5 : p.c5 = 1#1 := p.hc5.mpr (by omega)
    have h6 : p.c6 = 1#1 := p.hc6.mpr (by omega)
    refine ⟨xE.rows, by rw [show 400 = 10 * p.t + p.n + 1 by omega]; exact hE, ?_⟩
    unfold partF
    rw [if_pos ⟨h5, h6⟩]
    exact errT_err xE
  · unfold Dh
    rw [f4, e4, c5, ek, em]

end Cert.Search
-- ==== Proof.TrackI.lean ====
/- The call's run against the closed forms: what each grid point is fed, and that every point keeps the track. -/
module

public import proofs.«01_k».proof.Proof.EntryI
public import proofs.«01_k».proof.Proof.Track

@[expose] public section

set_option maxRecDepth 16384

noncomputable section

namespace Cert.KernelIdeal

open Idealize.ShloMosaic Idealize.ShloMosaic.TcCoe Idealize.ShloMosaic.Tactic
open Idealize.SL Idealize.SL.Sem
open Idealize.ShloMosaic.Pipeline (RDat Cfg Window)
open Cert.Search
open Cert.KernelIdeal.Gen

variable {F : FTy → Type} [FloatOps F]
variable (m : (ℓ : Loc nD τ sig) → Buf (Elt F) ℓ) (ρ : Dev nD → PrngReg)

/-- The arrays the call finds, and the order of its table. -/
def inp (c : Dev nD) : In F where
  W := m ((c : Thread nD τ).loc main_arg1)
  C := m ((c : Thread nD τ).loc main_arg2)
  H := m ((c : Thread nD τ).loc main_arg3)
  S := m ((c : Thread nD τ).loc main_arg4)
  RS := V m c main_v1
  RX := V m c main_v6
  ord := ord (ratio m c).toNat

/-! ### The grid points and the blocks -/

theorem coords_eq : ∀ t : Fin grid0.N, t.val = 10 * (grid0.coords t 0).val + (grid0.coords t 1).val := by decide +kernel

theorem tr0 : ∀ i : grid0.Coords, cc0_transform_0 i = ![0, 0] := by decide +kernel
theorem tr1 : ∀ i : grid0.Coords, cc0_transform_1 i = ![0, 0] := by decide +kernel
theorem tr2 : ∀ i : grid0.Coords, cc0_transform_2 i = ![min ((i 0).val + 1) 39 % 2, (i 1).val] := by decide +kernel
theorem tr3 : ∀ i : grid0.Coords, cc0_transform_3 i = ![0, (i 1).val] := by decide +kernel
theorem tr4 : ∀ i : grid0.Coords, cc0_transform_4 i = ![0, 0, 0] := by decide +kernel
theorem tr5 : ∀ i : grid0.Coords, cc0_transform_5 i = ![0, 0, 0] := by decide +kernel
theorem tr6 : ∀ i : grid0.Coords, cc0_transform_6 i = ![0, 0] := by decide +kernel

theorem emb_val (w : Fin 13) (t : Fin grid0.N) (y : (((cfgM m).win w).xblock (grid0.coords t)).Idx)
    (hk : ((cfgM m).win w).kind = .blocked) (f : Fin ((cfgM m).win w).shape.rank → ℕ) (hv : ((cfgM m).win w).index t = f) (a) :
    ((((cfgM m).win w).rect t).emb y a : ℕ) = f a * ((cfgM m).win w).size a + (y a).val := by
  rw [← hv]; exact Window.rect_emb_val ((cfgM m).win w) t y a hk

theorem emb_val_zero (w : Fin 13) (t : Fin grid0.N) (y : (((cfgM m).win w).xblock (grid0.coords t)).Idx) (a)
    (hv : ((cfgM m).win w).index t a = 0) : ((((cfgM m).win w).rect t).emb y a : ℕ) = (y a).val :=
  Window.rect_emb_val_of_index_zero ((cfgM m).win w) t a hv y

theorem z2 (f : Fin 2 → ℕ) (h : f = ![0, 0]) (a) : f a = 0 := by subst h; fin_cases a <;> rfl
theorem z3 (f : Fin 3 → ℕ) (h : f = ![0, 0, 0]) (a) : f a = 0 := by subst h; fin_cases a <;> rfl

theorem iblk0 (c : Dev nD) (t : Fin grid0.N) (y : S14x40.Idx) : iblk m c 0 t y = m ((c : Thread nD τ).loc main_arg1) y := by
  refine Eq.trans (b := V m c main_arg1 ((((cfgM m).win 0).rect t).emb y)) rfl ?_
  rw [V_arg1]; congr 1; funext a; apply Fin.ext
  exact emb_val_zero m 0 t y a (z2 _ (tr0 (grid0.coords t)) a)

theorem iblk4 (c : Dev nD) (t : Fin grid0.N) (y : S20x1x5120.Idx) : iblk m c 4 t y = m ((c : Thread nD τ).loc main_arg4) y := by
  refine Eq.trans (b := V m c main_arg4 ((((cfgM m).win 4).rect t).emb y)) rfl ?_
  rw [V_arg4]; congr 1; funext a; apply Fin.ext
  exact emb_val_zero m 4 t y a (z3 _ (tr4 (grid0.coords t)) a)

theorem iblk5 (c : Dev nD) (t : Fin grid0.N) (y : S20x1x5120.Idx) : iblk m c 5 t y = V m c main_v1 y := by
  refine Eq.trans (b := V m c main_v1 ((((cfgM m).win 5).rect t).emb y)) rfl ?_
  congr 1; funext a; apply Fin.ext
  exact emb_val_zero m 5 t y a (z3 _ (tr5 (grid0.coords t)) a)

theorem iblk6 (c : Dev nD) (t : Fin grid0.N) (y : S1x5120.Idx) : iblk m c 6 t y = V m c main_v6 y := by
  refine Eq.trans (b := V m c main_v6 ((((cfgM m).win 6).rect t).emb y)) rfl ?_
  congr 1; funext a; apply Fin.ext
  exact emb_val_zero m 6 t y a (z2 _ (tr6 (grid0.coords t)) a)

theorem iblk1 (c : Dev nD) (t : Fin grid0.N) (y : S896x5120.Idx) :
    iblk m c 1 t y = m ((c : Thread nD τ).loc main_arg2) (ixm _ posC ![(y 0).val, (y 1).val]) := by
  refine Eq.trans (b := V m c main_arg2 ((((cfgM m).win 1).rect t).emb y)) rfl ?_
  rw [V_arg2]; congr 1; refine (ixm_eq posC _ _ fun a => ?_).symm
  refine Eq.trans ?_ (emb_val_zero m 1 t y a (z2 _ (tr1 (grid0.coords t)) a)).symm
  match a with
  | 0 => rfl
  | 1 => rfl

theorem iblk2 (c : Dev nD) (t : Fin grid0.N) (y : S896x512.Idx) :
    iblk m c 2 t y = m ((c : Thread nD τ).loc main_arg2)
      (ixm _ posC ![896 * (min ((grid0.coords t 0).val + 1) 39 % 2) + (y 0).val, 512 * (grid0.coords t 1).val + (y 1).val]) := by
  refine Eq.trans (b := V m c main_arg2 ((((cfgM m).win 2).rect t).emb y)) rfl ?_
  rw [V_arg2]; congr 1; refine (ixm_eq posC _ _ fun a => ?_).symm
  match a with
  | 0 =>
    refine Eq.trans ?_ (emb_val m 2 t y rfl _ (tr2 (grid0.coords t)) 0).symm
    show 896 * (min ((grid0.coords t 0).val + 1) 39 % 2) + (y 0).val = (min ((grid0.coords t 0).val + 1) 39 % 2) * 896 + (y 0).val
    omega
  | 1 =>
    refine Eq.trans ?_ (emb_val m 2 t y rfl _ (tr2 (grid0.coords t)) 1).symm
    show 512 * (grid0.coords t 1).val + (y 1).val = (grid0.coords t 1).val * 512 + (y 1).val
    omega

theorem iblk3 (c : Dev nD) (t : Fin grid0.N) (y : S5120x512.Idx) :
    iblk m c 3 t y = m ((c : Thread nD τ).loc main_arg3) (ixm _ posH ![(y 0).val, 512 * (grid0.coords t 1).val + (y 1).val]) := by
  refine Eq.trans (b := V m c main_arg3 ((((cfgM m).win 3).rect t).emb y)) rfl ?_
  rw [V_arg3]; congr 1; refine (ixm_eq posH _ _ fun a => ?_).symm
  match a with
  | 0 =>
    refine Eq.trans ?_ (emb_val m 3 t y rfl _ (tr3 (grid0.coords t)) 0).symm
    show (y 0).val = 0 * 5120 + (y 0).val
    omega
  | 1 =>
    refine Eq.trans ?_ (emb_val m 3 t y rfl _ (tr3 (grid0.coords t)) 1).symm
    show 512 * (grid0.coords t 1).val + (y 1).val = (grid0.coords t 1).val * 512 + (y 1).val
    omega

/-- What a point is fed, in closed form. -/
theorem feeds (c : Dev nD) (hr : (ratio m c).toNat < 20) (t : Fin grid0.N) (x : Cont F) (h : Fed m c t x) :
    Feeds (inp m c) (pt (grid0.coords t)).t (pt (grid0.coords t)).n x where
  ops := ⟨h.wscale.trans (funext (iblk0 m c t)), h.s.trans (funext (iblk4 m c t)), h.rs.trans (funext (iblk5 m c t))⟩
  order i hi := by
    obtain rfl : c = 0 := Subsingleton.elim _ _
    rw [h.order, V_table]
    have : ((ixm S20 pos20 ![i]) 0).val = i := Nat.mod_eq_of_lt hi
    rw [this, ordW_toNat _ hr i hi]; rfl
  codes0 y := by rw [h.codes0]; exact iblk1 m c t y
  codes y := by rw [h.codes]; exact iblk2 m c t y
  h := h.h.trans (funext (iblk3 m c t))
  rxc := h.rxc.trans (funext (iblk6 m c t))

/-- The track of the closed forms. -/
def trackOf (A : In F) : Track F :=
  ⟨fun k d0 d1 acc => k < 400 → Inv A k d0 d1 acc, Rows A, Err A, Dh A⟩

theorem steps (c : Dev nD) (hr : (ratio m c).toNat < 20) : Steps m (trackOf (inp m c)) c := fun t x hf hI hR => by
  have e : t.val = 10 * (pt (grid0.coords t)).t + (pt (grid0.coords t)).n := coords_eq t
  exact body_step (inp m c) (pt (grid0.coords t)) (fun i hi => ord_lt hr hi) (fun i j hi hj h => ord_inj hr hi hj h) t.val e x
    (feeds m c hr t x hf) hI hR

end Cert.KernelIdeal
-- ==== Proof.FinI.lean ====
/- What the call leaves in its three arrays of errors, in closed form: the rows' sums, their totals, and the kept product of the
   last candidate. -/
module

public import proofs.«01_k».proof.Proof.TrackI
public import Idealize.ShloMosaic.Lib.Pipeline.ArrRel

@[expose] public section

set_option maxRecDepth 16384

noncomputable section

namespace Cert.KernelIdeal

open Idealize.ShloMosaic Idealize.ShloMosaic.TcCoe Idealize.ShloMosaic.Tactic
open Idealize.SL Idealize.SL.Sem
open Idealize.ShloMosaic.Pipeline (RDat Cfg Window Dat)
open Cert.Search
open Cert.KernelIdeal.Gen

variable {F : FTy → Type} [FloatOps F]
variable (m : (ℓ : Loc nD τ sig) → Buf (Elt F) ℓ) (ρ : Dev nD → PrngReg)

/-! ### Where the output windows are written back -/

theorem tr7 : ∀ i : grid0.Coords, cc0_transform_7 i = ![0, 0] := by decide +kernel
theorem tr8 : ∀ i : grid0.Coords, cc0_transform_8 i = ![0, 0] := by decide +kernel
theorem tr9 : ∀ i : grid0.Coords, cc0_transform_9 i = if 38 ≤ (i 0).val then ![(i 0).val % 2, (i 1).val] else ![0, 0] := by decide +kernel

theorem fl7 : ∀ t : Fin grid0.N, Window.flushOf grid0 true cc0_transform_7 t = decide (t.val = 399) := by decide +kernel
theorem fl8 : ∀ t : Fin grid0.N, Window.flushOf grid0 true cc0_transform_8 t = decide (t.val = 399) := by decide +kernel
theorem fl9 : ∀ t : Fin grid0.N, Window.flushOf grid0 true cc0_transform_9 t = decide (380 ≤ t.val) := by decide +kernel

/-- The last point. -/
def tLast : Fin grid0.N := ⟨399, by rw [N_0]; decide⟩

theorem flush7 (t : Fin grid0.N) : ((cfgM m).win 7).flush t = decide (t.val = 399) :=
  (Window.flush_eq_flushOf ((cfgM m).win 7) t).trans (fl7 t)
theorem flush8' (t : Fin grid0.N) : ((cfgM m).win 8).flush t = decide (t.val = 399) :=
  (Window.flush_eq_flushOf ((cfgM m).win 8) t).trans (fl8 t)
theorem flush9 (t : Fin grid0.N) : ((cfgM m).win 9).flush t = decide (380 ≤ t.val) :=
  (Window.flush_eq_flushOf ((cfgM m).win 9) t).trans (fl9 t)

theorem whole7 : ((cfgM m).win 7).WholeAt tLast := by
  refine ⟨(flush7 m tLast).trans (decide_eq_true rfl), fun t h => Fin.ext (of_decide_eq_true ((flush7 m t).symm.trans h)), fun a => ⟨?_, ?_⟩⟩
  · exact z2 _ (tr7 (grid0.coords tLast)) a
  · rfl

theorem whole8 : ((cfgM m).win 8).WholeAt tLast := by
  refine ⟨(flush8' m tLast).trans (decide_eq_true rfl), fun t h => Fin.ext (of_decide_eq_true ((flush8' m t).symm.trans h)), fun a => ⟨?_, ?_⟩⟩
  · exact z2 _ (tr8 (grid0.coords tLast)) a
  · rfl

/-! ### The arrays -/

theorem posDh : ∀ a, 0 < S896x512.size a := by decide

/-- The kept product at an element of its array. -/
def dhAt (A : In F) (i : S1792x5120.Idx) : Elt F .bf16 :=
  tDh (tP (cur A (38 + (i 0).val / 896)) (hs A ((i 1).val / 512))) (rx A ((i 1).val / 512)) (ixm _ posDh ![(i 0).val % 896, (i 1).val % 512])

/-- What a flushed block of the kept product holds. -/
theorem leaves9 (A : In F) (t : Fin grid0.N) (X) (h : (rdat m (trackOf A) 0).Leaves 9 t X) : Search.Dh A t.val X := by
  obtain ⟨Y, _, hX⟩ := h
  exact hX

theorem leaves7 (A : In F) (t : Fin grid0.N) (X) (h : (rdat m (trackOf A) 0).Leaves 7 t X) : Search.Err A t.val X := by
  obtain ⟨Y, _, hX⟩ := h
  exact hX

theorem leaves8 (A : In F) (t : Fin grid0.N) (X) (h : (rdat m (trackOf A) 0).Leaves 8 t X) : Search.Rows A (t.val + 1) X := by
  obtain ⟨Y, _, hX⟩ := h
  exact hX

theorem covers9 : ((cfgM m).win 9).Covers := by
  refine ⟨fun a => ?_, fun β => ?_⟩
  · exact (by decide : ∀ a : Fin 2, 0 < S896x512.size a) a
  have h0 : (β (0 : Fin 2)).val < 2 := lt_of_lt_of_eq (β (0 : Fin 2)).isLt (show (1792 + 896 - 1) / 896 = 2 by decide)
  have h1 : (β (1 : Fin 2)).val < 10 := lt_of_lt_of_eq (β (1 : Fin 2)).isLt (show (5120 + 512 - 1) / 512 = 10 by decide)
  let t : Fin grid0.N := ⟨380 + 10 * (β (0 : Fin 2)).val + (β (1 : Fin 2)).val, by rw [N_0]; omega⟩
  have e := coords_eq t
  have c0 : (grid0.coords t 0).val < 40 := (grid0.coords t 0).isLt
  have c1 : (grid0.coords t 1).val < 10 := (grid0.coords t 1).isLt
  have et : t.val = 380 + 10 * (β (0 : Fin 2)).val + (β (1 : Fin 2)).val := rfl
  refine ⟨t, (flush9 m t).trans (decide_eq_true (by omega)), fun a => ⟨?_, Or.inl rfl⟩⟩
  have hidx : cc0_transform_9 (grid0.coords t) = ![(grid0.coords t 0).val % 2, (grid0.coords t 1).val] := by
    refine (tr9 (grid0.coords t)).trans ?_
    rw [if_pos (by omega)]
  refine (congrFun hidx a).trans ?_
  have k0 : (grid0.coords t 0).val % 2 = (β (0 : Fin 2)).val := by omega
  have k1 : (grid0.coords t 1).val = (β (1 : Fin 2)).val := by omega
  match a with
  | ⟨0, _⟩ => exact k0
  | ⟨1, _⟩ => exact k1

/-- A block written back is the part of the kept product it is written to. -/
theorem dh_block (A : In F) (t : Fin grid0.N) (y : S896x512.Idx) (ht : 380 ≤ t.val) (X : S896x512.Idx → Elt F .bf16)
    (hL : Search.Dh A t.val X) : X y = dhAt A ((((cfgM m).win 9).rect t).emb y) := by
  have hc := coords_eq t
  have c0 : (grid0.coords t 0).val < 40 := (grid0.coords t 0).isLt
  have c1 : (grid0.coords t 1).val < 10 := (grid0.coords t 1).isLt
  have y0 : (y 0).val < 896 := (y 0).isLt
  have y1 : (y 1).val < 512 := (y 1).isLt
  have hidx : ((cfgM m).win 9).index t = ![(grid0.coords t 0).val % 2, (grid0.coords t 1).val] := by
    refine (tr9 (grid0.coords t)).trans ?_
    rw [if_pos (by omega)]
  have e0 := emb_val m 9 t y rfl _ hidx (0 : Fin 2)
  have e1 := emb_val m 9 t y rfl _ hidx (1 : Fin 2)
  obtain ⟨z, hz⟩ : ∃ z : S1792x5120.Idx, z = (((cfgM m).win 9).rect t).emb y := ⟨_, rfl⟩
  have d0 : (z 0).val = (grid0.coords t 0).val % 2 * 896 + (y 0).val := by rw [hz]; exact e0
  have d1 : (z 1).val = (grid0.coords t 1).val * 512 + (y 1).val := by rw [hz]; exact e1
  refine Eq.trans ?_ (congrArg (dhAt A) hz)
  rw [hL]
  unfold dhAt
  have q0 : (z 0).val / 896 = (grid0.coords t 0).val % 2 := by omega
  have q1 : (z 1).val / 512 = (grid0.coords t 1).val := by omega
  have r0 : (z 0).val % 896 = (y 0).val := by omega
  have r1 : (z 1).val % 512 = (y 1).val := by omega
  rw [q0, q1, r0, r1, show t.val / 10 = 38 + (grid0.coords t 0).val % 2 by omega, show t.val % 10 = (grid0.coords t 1).val by omega]
  congr 1
  refine (ixm_eq posDh _ _ fun a => ?_).symm
  match a with
  | 0 => rfl
  | 1 => rfl

variable (r : PUnit × MemSt nD τ sig (Elt F))

theorem dh_final [∀ e, Nonempty (Elt F e)] (A : In F) (h : RDat.FramePost (cfgM m) (rdat m (trackOf A)) (V m) r) (i : S1792x5120.Idx) :
    r.2.mem (((0 : Dev nD) : Thread nD τ).loc main_v17_2) i = dhAt A i := by
  have hA := (h 0).1 9
  obtain ⟨X, hX, hG⟩ := hA.exists_exact
  let after : (w' : Fin (cfgM m).W) → Fin (cfgM m).N → ((cfgM m).win w').block.Idx → Elt F ((cfgM m).win w').elt :=
    Function.update (fun _ _ _ => Classical.arbitrary _) 9 X
  have ha : after 9 = X := Function.update_self ..
  have e := hG after (fun u _ _ => by rw [ha])
  refine (congrFun e i).trans ?_
  refine Dat.arrAt_forall_of_covers ((rdat m (trackOf A) 0).withAfter after) 9 (fun i v => v = dhAt A i) (covers9 m) ?_ i
  intro t hf y
  exact dh_block m A t y (of_decide_eq_true ((flush9 m t).symm.trans hf)) _ (leaves9 m A t (X t) (hX t t.isLt hf))

theorem rows_final [∀ e, Nonempty (Elt F e)] (A : In F) (h : RDat.FramePost (cfgM m) (rdat m (trackOf A)) (V m) r) :
    Search.Rows A 400 (r.2.mem (((0 : Dev nD) : Thread nD τ).loc main_v17_1)) := by
  have hA := (h 0).1 8
  obtain ⟨X, hX, hG⟩ := hA.emb_eq_of_wholeAt (whole8 m)
  have hL := leaves8 m A _ X hX
  have e : r.2.mem (((0 : Dev nD) : Thread nD τ).loc main_v17_1) = X := funext fun j => hG j
  rw [e]; exact hL

theorem err_final [∀ e, Nonempty (Elt F e)] (A : In F) (h : RDat.FramePost (cfgM m) (rdat m (trackOf A)) (V m) r) :
    ∃ R, Search.Rows A 400 R ∧ r.2.mem (((0 : Dev nD) : Thread nD τ).loc main_v17_0) = errOut R := by
  have hA := (h 0).1 7
  obtain ⟨X, hX, hG⟩ := hA.emb_eq_of_wholeAt (whole7 m)
  have hL := leaves7 m A _ X hX
  have e : r.2.mem (((0 : Dev nD) : Thread nD τ).loc main_v17_0) = X := funext fun j => hG j
  rw [e]; exact hL rfl

/-- The run, with what it leaves. -/
theorem run_val [∀ e, Nonempty (Elt F e)] (hr : (ratio m 0).toNat < 20) :
    θ_run defs (onTc (τ := τ) (main (F := F))) ⟨m, fun _ => 0, ρ⟩ (fun r => ∀ c : Dev nD,
      (∃ R, Search.Rows (inp m c) 400 R ∧ r.2.mem ((c : Thread nD τ).loc main_v17_0) = errOut R)
      ∧ Search.Rows (inp m c) 400 (r.2.mem ((c : Thread nD τ).loc main_v17_1))
      ∧ (∀ i, r.2.mem ((c : Thread nD τ).loc main_v17_2) i = dhAt (inp m c) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
      obtain rfl : c = 0 := Subsingleton.elim _ _
      exact ⟨err_final m r _ h.1, rows_final m r _ h.1, dh_final m r _ h.1, args_kept m _ r h.1 0⟩)
    (run_main m ρ (trackOf (inp m 0)) (fun X t ht h => absurd h (by omega))
      (fun d0 d1 acc _ => ⟨fun h => absurd rfl h, fun z h => absurd h (by simp), fun h => absurd rfl h⟩)
      (fun c => by obtain rfl : c = 0 := Subsingleton.elim _ _; exact steps m 0 hr)
      (table_lt m 0 hr))

end Cert.KernelIdeal

end

end
-- ==== Proof.Spec.lean ====
/- The search's arithmetic over the extended reals, one group of 128 weights at a time: the quantiser with its step and zero
   point as plain functions, and the lemma that the kernel's group (which multiplies by reciprocals) computes it. -/
module

public import proofs.«01_k».proof.Proof.Track
public import Idealize.ShloMosaic.PureOps.Ideal.Laws
public import Idealize.ShloMosaic.Lib.MatmulPlain
public import Idealize.ShloMosaic.Lib.ValueIdx

@[expose] public section

set_option maxRecDepth 16384

noncomputable section

namespace Cert.Search

open Idealize.ShloMosaic Idealize.ShloMosaic.ValueIdx

/-! ### The constants -/

/-- The zero the quantiser clips at. -/
abbrev c0 : EReal := Ideal.ofBits .f32 0x00000000#32
/-- The greatest code. -/
abbrev c15 : EReal := Ideal.ofBits .f32 0x41700000#32
/-- The one a reciprocal is taken of. -/
abbrev c1 : EReal := Ideal.ofBits .f32 0x3F800000#32
/-- The least range of a group. -/
abbrev cEps : EReal := Ideal.ofBits .f32 0x3727C5AC#32
/-- The least mean of a channel. -/
abbrev cMean : EReal := Ideal.ofBits .f32 0x38D1B717#32

theorem c1_eq : c1 = 1 := by
  simp [c1, Ideal.ofBits, Ideal.ieee]
  norm_cast
  norm_num

theorem c15_pos : ∃ r : ℝ, 0 < r ∧ c15 = (r : EReal) := by
  refine ⟨_, ?_, by simp only [c15, Ideal.ofBits, Ideal.ieee]; rw [if_neg (by decide), if_neg (by decide)]⟩
  simp

theorem cEps_pos : 0 < cEps := by
  simp only [cEps, Ideal.ofBits, Ideal.ieee]; rw [if_neg (by decide), if_neg (by decide)]
  rw [EReal.coe_pos]; simp

theorem cMean_pos : 0 < cMean := by
  simp only [cMean, Ideal.ofBits, Ideal.ieee]; rw [if_neg (by decide), if_neg (by decide)]
  rw [EReal.coe_pos]; simp

attribute [local irreducible] Ideal.ofBits Ideal.liftRound Ideal.roundHalfEven

/-! ### Quotients -/

/-- Multiplying by the reciprocal of a number other than zero is dividing by it. -/
theorem mul_recip (x y : EReal) (h : y ≠ 0) : x * Ideal.div c1 y = Ideal.div x y := by
  unfold Ideal.div; rw [if_neg h, if_neg h, c1_eq, one_mul]

theorem div_c15_ne (x : EReal) (h : 0 < x) : Ideal.div x c15 ≠ 0 := by
  obtain ⟨r, hr, e⟩ := c15_pos
  have h15 : c15 ≠ 0 := by rw [e]; exact_mod_cast hr.ne'
  unfold Ideal.div; rw [if_neg h15]
  refine mul_ne_zero h.ne' ?_
  rw [e, ← EReal.coe_inv]
  exact_mod_cast (inv_pos.2 hr).ne'

/-! ### The quantiser -/

/-- The greatest of a group. -/
def sHi (g : Fin 128 → EReal) : EReal := Finset.univ.fold max (Ideal.ofBits .f32 0xFF800000#32) g
/-- The least of a group. -/
def sLo (g : Fin 128 → EReal) : EReal := Finset.univ.fold min (Ideal.ofBits .f32 0x7F800000#32) g
/-- The group's step. -/
def sSf (g : Fin 128 → EReal) : EReal := Ideal.div (max (sHi g - sLo g) cEps) c15
/-- The group's zero point. -/
def sZero (g : Fin 128 → EReal) : EReal := min c15 (max c0 (Ideal.liftRound Ideal.roundHalfEven (Ideal.div (c0 - sLo g) (sSf g))))
/-- The code of the group's `k`th weight. -/
def sQ (g : Fin 128 → EReal) (k : Fin 128) : EReal :=
  min c15 (max c0 (Ideal.liftRound Ideal.roundHalfEven (Ideal.div (g k) (sSf g)) + sZero g))
/-- The error the group's `k`th weight gets: quantised under the scales `s`, decoded, divided by its scale, less the weight. -/
def sD (w s : Fin 128 → EReal) (k : Fin 128) : EReal :=
  Ideal.div ((sQ (fun k => w k * s k) k - sZero fun k => w k * s k) * sSf fun k => w k * s k) (s k) - w k

theorem sSf_ne (g : Fin 128 → EReal) : sSf g ≠ 0 := div_c15_ne _ (lt_of_lt_of_le cEps_pos (le_max_right _ _))

/-! ### The kernel's group -/

section group

variable (ws : EReal) (s rs : FVec Ideal S1x1x128 .f32) (cd : FVec Ideal S128x128 .fp8e4m3)

/-- Row `r` of a group of weights. -/
def gRow (g : FVec Ideal S128x128 .f32) (r : Fin 128) : Fin 128 → EReal := fun k => g (ix2 r k)

theorem gRowB (x : FVec Ideal S1x1x128 .f32) (r k : Fin 128) :
    broadcastTo S128x128 (shapeCast S1x128 x shapeCasts_S1x1x128_S1x128) broadcasts_S1x128_S128x128 (ix2 r k) = x (ix3 0 0 k) := by
  rw [broadcastTo_apply _ _ _ (ix2 0 k) (fun a => by fin_cases a <;> rfl)]
  refine shapeCast_apply _ _ _ _ ?_
  rw [Shape.rowMajor_val_three, Shape.rowMajor_val_two]; simp

theorem gColB (x : FVec Ideal S128x1 .f32) (r k : Fin 128) :
    broadcastTo S128x128 x broadcasts_S128x1_S128x128 (ix2 r k) = x (ix2 r 0) :=
  broadcastTo_apply _ _ _ (ix2 r 0) (fun a => by fin_cases a <;> rfl)

theorem gColC (x : FVec Ideal S128 .f32) (r : Fin 128) :
    shapeCast S128x1 x shapeCasts_S128_S128x1 (ix2 r 0) = x (ix1 r) := by
  refine shapeCast_apply _ _ _ _ ?_
  rw [Shape.rowMajor_val_one, Shape.rowMajor_val_two]; simp

theorem gLift (r k : Fin 128) : reduces_S128x128_S128.lift (ix1 r) k = ix2 r k := by
  funext a; fin_cases a <;> rfl

theorem gG_at (r k : Fin 128) : gG ws s cd (ix2 r k) = (cd (ix2 r k) * ws) * s (ix3 0 0 k) :=
  congrArg ((cd (ix2 r k) * ws) * ·) (gRowB s r k)

theorem gLo_at (g : FVec Ideal S128x128 .f32) (r : Fin 128) : gLo g (ix2 r 0) = sLo (gRow g r) := by
  unfold gLo
  refine (gColC _ r).trans ((multiReduction_minimumf_eq_fold g _ reduces_S128x128_S128 _ _ (ix1 r)).trans
    ((Shape.Reduces.fold_filter_drop_single _ _ _ _ _).trans ?_))
  unfold sLo gRow
  refine congrArg (Finset.fold min _ · Finset.univ) (funext fun k => ?_)
  exact congrArg g (gLift r k)

theorem gHi_at (g : FVec Ideal S128x128 .f32) (r : Fin 128) :
    shapeCast S128x1 (multiReduction .maximumf [1] S128 g 0xFF800000#32 reduces_S128x128_S128 (.inl rfl) rfl) shapeCasts_S128_S128x1 (ix2 r 0)
      = sHi (gRow g r) := by
  refine (gColC _ r).trans ((Ideal.multiReduction_maximumf_single g _ reduces_S128x128_S128 _ _ (ix1 r)).trans ?_)
  unfold sHi gRow
  refine congrArg (Finset.fold max _ · Finset.univ) (funext fun k => ?_)
  exact congrArg g (gLift r k)

theorem gSf_at (g : FVec Ideal S128x128 .f32) (r : Fin 128) : gSf g (ix2 r 0) = sSf (gRow g r) := by
  unfold sSf; rw [← gHi_at, ← gLo_at]; rfl

theorem gZero_at (g : FVec Ideal S128x128 .f32) (r : Fin 128) : gZero g (ix2 r 0) = sZero (gRow g r) := by
  have h1 := gLo_at g r
  have h2 := gSf_at g r
  unfold sZero
  rw [← mul_recip _ _ (sSf_ne _), ← h1, ← h2]
  unfold gZero gRsf
  show min _ (max _ (Ideal.liftRound Ideal.roundHalfEven ((_ - gLo g (ix2 r 0)) * Ideal.div _ (gSf g (ix2 r 0))))) = _
  rfl

theorem gQ_at (g : FVec Ideal S128x128 .f32) (r k : Fin 128) : gQ g (ix2 r k) = sQ (gRow g r) k := by
  have h1 := gZero_at g r
  have h2 := gSf_at g r
  unfold sQ; rw [← mul_recip _ _ (sSf_ne _), ← h1, ← h2, ← gColB (gZero g) r k]
  unfold gQ
  have h := gColB (gRsf g) r k
  show min _ (max _ (Ideal.liftRound Ideal.roundHalfEven (g (ix2 r k) * _) + _)) = _
  rw [h]; rfl

/-- The kernel's group computes the quantiser's error, where it is fed the reciprocals of scales other than zero. -/
theorem gD_at (r k : Fin 128) (hs : s (ix3 0 0 k) ≠ 0) (hr : rs (ix3 0 0 k) = Ideal.div c1 (s (ix3 0 0 k))) :
    gD ws s rs cd (ix2 r k) = sD (fun k => cd (ix2 r k) * ws) (fun k => s (ix3 0 0 k)) k := by
  have hg : gRow (gG ws s cd) r = fun k => (cd (ix2 r k) * ws) * s (ix3 0 0 k) := funext fun k => gG_at ws s cd r k
  unfold sD
  rw [← mul_recip _ _ hs, ← hr, ← hg, ← gQ_at, ← gZero_at, ← gSf_at, ← gColB (gZero _) r k, ← gColB (gSf _) r k, ← gRowB rs r k]
  unfold gD
  rw [shapeCast_self]; rfl

end group

end Cert.Search

end

end
-- ==== Proof.RefBody.lean ====
/- The reference's body read over the extended reals: the error of each weight is the quantiser's, the product one sum over the
   input channels. -/
module

public import proofs.«01_k».proof.Proof.Spec
public import proofs.«01_k».proof.Proof.Gen.ReferenceIdeal.Skeleton

@[expose] public section

set_option maxRecDepth 16384

noncomputable section

namespace Cert.ReferenceIdeal

open Idealize.ShloMosaic Idealize.ShloMosaic.ValueIdx
open Cert.ReferenceIdeal.Gen Cert.Search
open scoped BigOperators

attribute [local irreducible] Ideal.ofBits Ideal.liftRound Ideal.roundHalfEven

/-! ### The elementwise chains at an element, of any arrays -/

section chains

variable {s : Shape}

theorem sf_el (hi lo : FVec Ideal s .f32) (i : s.Idx) :
    extf .f32 (truncf .bf16 (divf (maximumf (subf hi lo) (broadcast s (Scalar.ofBits (F := Ideal) .f32 0x3727C5AC#32)))
      (broadcast s (Scalar.ofBits (F := Ideal) .f32 0x41700000#32))) Search.bitsLt_bf16_f32) Search.bitsLt_bf16_f32 i
      = Ideal.div (max (hi i - lo i) cEps) c15 := rfl

theorem zero_el (lo sf : FVec Ideal s .f32) (i : s.Idx) :
    minimumf (broadcast s (Scalar.ofBits (F := Ideal) .f32 0x41700000#32)) (maximumf (broadcast s (Scalar.ofBits (F := Ideal) .f32 0x00000000#32))
      (roundeven (divf (subf (broadcast s (Scalar.ofBits (F := Ideal) .f32 0x00000000#32)) lo) sf))) i
      = min c15 (max c0 (Ideal.liftRound Ideal.roundHalfEven (Ideal.div (c0 - lo i) (sf i)))) := rfl

theorem q_el (g sf z : FVec Ideal s .f32) (i : s.Idx) :
    minimumf (broadcast s (Scalar.ofBits (F := Ideal) .f32 0x41700000#32)) (maximumf (broadcast s (Scalar.ofBits (F := Ideal) .f32 0x00000000#32))
      (addf (roundeven (divf g sf)) z)) i
      = min c15 (max c0 (Ideal.liftRound Ideal.roundHalfEven (Ideal.div (g i) (sf i)) + z i)) := rfl

theorem mul_el (x y : FVec Ideal s .f32) (i : s.Idx) : mulf x y i = (x i : EReal) * y i := rfl
theorem mul_el' (x : FVec Ideal s .f32) (y : FVec Ideal s .bf16) (i : s.Idx) : mulf x (extf .f32 y Search.bitsLt_bf16_f32) i = (x i : EReal) * y i := rfl
theorem dec_el (q z sf : FVec Ideal s .f32) (i : s.Idx) : mulf (subf q z) sf i = ((q i : EReal) - z i) * sf i := rfl
theorem d_el (x sc w : FVec Ideal s .f32) (i : s.Idx) : truncf .bf16 (subf (divf x sc) w) Search.bitsLt_bf16_f32 i = Ideal.div (x i) (sc i) - w i := rfl
theorem dh_el (x y : FVec Ideal s .f32) (i : s.Idx) : truncf .bf16 (divf x y) Search.bitsLt_bf16_f32 i = Ideal.div (x i) (y i) := rfl
theorem mx_el (x : FVec Ideal s .f32) (i : s.Idx) : maximumf x (broadcast s (Scalar.ofBits (F := Ideal) .f32 0x38D1B717#32)) i = max (x i) cMean := rfl

end chains

variable (C : FVec Ideal S1792x5120 .fp8e4m3) (W : FVec Ideal S14x40 .f32) (S : FVec Ideal S21x1x5120 .f32)

/-- Column `k` of group `g`. -/
def col (g : Fin 40) (k : Fin 128) : Fin 5120 := ⟨128 * g.val + k.val, by have := g.isLt; have := k.isLt; omega⟩
/-- The group of a column. -/
def grp (c : Fin 5120) : Fin 40 := ⟨c.val / 128, by have := c.isLt; omega⟩
/-- A column's place in its group. -/
def plc (c : Fin 5120) : Fin 128 := ⟨c.val % 128, Nat.mod_lt _ (by decide)⟩
/-- The block a row is in. -/
def rblk (r : Fin 1792) : Fin 14 := ⟨r.val / 128, by have := r.isLt; omega⟩
/-- A row's place in its block. -/
def rplc (r : Fin 1792) : Fin 128 := ⟨r.val % 128, Nat.mod_lt _ (by decide)⟩

theorem col_grp (c : Fin 5120) : col (grp c) (plc c) = c := Fin.ext (Nat.div_add_mod _ _)
theorem grp_col (g : Fin 40) (k : Fin 128) : grp (col g k) = g := Fin.ext (by
  have := k.isLt; show (128 * g.val + k.val) / 128 = g.val; omega)

/-- A weight. -/
def rW (r : Fin 1792) (c : Fin 5120) : EReal := C (ix2 r c) * W (ix2 (rblk r) (grp c))

theorem pay2_at (r : Fin 1792) (c : Fin 5120) : k0_pay2 (F := Ideal) C W (ix2 r c) = rW C W r c := by
  unfold k0_pay2
  refine (shapeCast_apply _ _ _ (ix4 (rblk r) (rplc r) (grp c) (plc c)) ?_).trans ?_
  · rw [Shape.rowMajor_val_four, Shape.rowMajor_val_two]
    show ((r.val / 128 * 128 + r.val % 128) * 40 + c.val / 128) * 128 + c.val % 128 = r.val * 5120 + c.val
    omega
  · refine congrArg₂ (fun x y : EReal => x * y) ?_ ?_
    · refine shapeCast_apply _ _ _ (ix2 r c) ?_
      rw [Shape.rowMajor_val_four, Shape.rowMajor_val_two]
      show r.val * 5120 + c.val = ((r.val / 128 * 128 + r.val % 128) * 40 + c.val / 128) * 128 + c.val % 128
      omega
    · refine (broadcastTo_apply _ _ _ (ix4 (rblk r) 0 (grp c) 0) (fun a => by fin_cases a <;> rfl)).trans ?_
      refine shapeCast_apply _ _ _ _ ?_
      rw [Shape.rowMajor_val_four, Shape.rowMajor_val_two]
      show r.val / 128 * 40 + c.val / 128 = ((r.val / 128 * 1 + 0) * 40 + c.val / 128) * 1 + 0
      omega

/-- A weight under candidate `v`'s channel scale, by group. -/
def rG (v : Fin 21) (r : Fin 1792) (g : Fin 40) : Fin 128 → EReal := fun k => rW C W r (col g k) * S (ix3 v 0 (col g k))

theorem pay4_at (v : Fin 21) (r : Fin 1792) (g : Fin 40) (k : Fin 128) : k0_pay4 (F := Ideal) C W S (ix4 v r g k) = rG C W S v r g k := by
  unfold k0_pay4 k0_pay3
  refine (shapeCast_apply _ _ _ (ix3 v r (col g k)) ?_).trans ?_
  · rw [Shape.rowMajor_val_four, Shape.rowMajor_val_three]
    show (v.val * 1792 + r.val) * 5120 + (128 * g.val + k.val) = ((v.val * 1792 + r.val) * 40 + g.val) * 128 + k.val
    omega
  · refine congrArg₂ (fun x y : EReal => x * y) ?_ ?_
    · refine (broadcastTo_apply _ _ _ (ix3 0 r (col g k)) (fun a => by fin_cases a <;> rfl)).trans ?_
      refine (shapeCast_apply _ _ _ (ix2 r (col g k)) ?_).trans (pay2_at C W r _)
      rw [Shape.rowMajor_val_two, Shape.rowMajor_val_three]
      show r.val * 5120 + _ = (0 * 1792 + r.val) * 5120 + _
      rw [Nat.zero_mul, Nat.zero_add]
    · rw [shapeCast_self]
      exact broadcastTo_apply _ _ _ (ix3 v 0 (col g k)) (fun a => by fin_cases a <;> rfl)

theorem lift4 (v : Fin 21) (r : Fin 1792) (g : Fin 40) (k : Fin 128) :
    reduces_S21x1792x40x128_S21x1792x40.lift (ix3 v r g) k = ix4 v r g k := by
  funext a; fin_cases a <;> rfl

theorem pay5_at (v : Fin 21) (r : Fin 1792) (g : Fin 40) : k0_pay5 (F := Ideal) C W S (ix3 v r g) = sLo (rG C W S v r g) := by
  unfold k0_pay5
  refine (multiReduction_minimumf_eq_fold _ _ reduces_S21x1792x40x128_S21x1792x40 _ _ (ix3 v r g)).trans
    ((Shape.Reduces.fold_filter_drop_single _ _ _ _ _).trans ?_)
  unfold sLo
  refine congrArg (Finset.fold min _ · Finset.univ) (funext fun k => ?_)
  exact (congrArg (k0_pay4 (F := Ideal) C W S) (lift4 v r g k)).trans (pay4_at C W S v r g k)

theorem hi_at (v : Fin 21) (r : Fin 1792) (g : Fin 40) :
    multiReduction (F := Ideal) .maximumf [3] S21x1792x40 (k0_pay4 (F := Ideal) C W S) 0xFF800000#32 reduces_S21x1792x40x128_S21x1792x40 (.inl rfl) rfl (ix3 v r g)
      = sHi (rG C W S v r g) := by
  refine (Ideal.multiReduction_maximumf_single _ _ reduces_S21x1792x40x128_S21x1792x40 _ _ (ix3 v r g)).trans ?_
  unfold sHi
  refine congrArg (Finset.fold max _ · Finset.univ) (funext fun k => ?_)
  exact (congrArg (k0_pay4 (F := Ideal) C W S) (lift4 v r g k)).trans (pay4_at C W S v r g k)

theorem pay6_at (v : Fin 21) (r : Fin 1792) (g : Fin 40) : k0_pay6 (F := Ideal) C W S (ix3 v r g) = sSf (rG C W S v r g) := by
  unfold k0_pay6 sSf
  rw [← hi_at, ← pay5_at]
  exact sf_el _ _ _

theorem pay7_at (v : Fin 21) (r : Fin 1792) (g : Fin 40) : k0_pay7 (F := Ideal) C W S (ix3 v r g) = sZero (rG C W S v r g) := by
  unfold k0_pay7 sZero
  rw [← pay6_at, ← pay5_at]
  exact zero_el _ _ _

theorem bc4 (x : FVec Ideal S21x1792x40 .f32) (v : Fin 21) (r : Fin 1792) (g : Fin 40) (k : Fin 128) :
    broadcastTo S21x1792x40x128 (shapeCast S21x1792x40x1 x shapeCasts_S21x1792x40_S21x1792x40x1) broadcasts_S21x1792x40x1_S21x1792x40x128 (ix4 v r g k)
      = x (ix3 v r g) := by
  refine (broadcastTo_apply _ _ _ (ix4 v r g 0) (fun a => by fin_cases a <;> rfl)).trans ?_
  refine shapeCast_apply _ _ _ _ ?_
  rw [Shape.rowMajor_val_four, Shape.rowMajor_val_three]
  show (v.val * 1792 + r.val) * 40 + g.val = ((v.val * 1792 + r.val) * 40 + g.val) * 1 + 0
  omega

theorem pay8_at (v : Fin 21) (r : Fin 1792) (g : Fin 40) (k : Fin 128) : k0_pay8 (F := Ideal) C W S (ix4 v r g k) = sQ (rG C W S v r g) k := by
  unfold k0_pay8 sQ
  rw [← pay6_at, ← pay7_at, ← pay4_at, ← bc4 (k0_pay6 (F := Ideal) C W S) v r g k, ← bc4 (k0_pay7 (F := Ideal) C W S) v r g k]
  exact q_el _ _ _ _

/-- The error candidate `v` makes at a weight. -/
def rD (v : Fin 21) (r : Fin 1792) (c : Fin 5120) : EReal :=
  sD (fun k => rW C W r (col (grp c) k)) (fun k => S (ix3 v 0 (col (grp c) k))) (plc c)

/-- The error block of every candidate. -/
abbrev errs : FVec Ideal S21x1792x5120 .bf16 := k0_pay10 (k0_pay2 C W) (k0_pay3 S) (k0_pay6 C W S) (k0_pay8 C W S) (k0_pay9 C W S)

theorem pay10_at (v : Fin 21) (r : Fin 1792) (c : Fin 5120) : errs C W S (ix3 v r c) = rD C W S v r c := by
  have hc := col_grp c
  have e : rD C W S v r c = Ideal.div ((sQ (rG C W S v r (grp c)) (plc c) - sZero (rG C W S v r (grp c))) * sSf (rG C W S v r (grp c)))
      (S (ix3 v 0 c)) - rW C W r c := by
    unfold rD sD rG; beta_reduce; rw [hc]
  rw [e]
  unfold errs k0_pay10 k0_pay3 k0_pay9
  refine (d_el _ _ _ _).trans (congrArg₂ (fun x y : EReal => x - y) (congrArg₂ Ideal.div ?_ ?_) ?_)
  · refine (shapeCast_apply _ _ _ (ix4 v r (grp c) (plc c)) ?_).trans ?_
    · rw [Shape.rowMajor_val_four, Shape.rowMajor_val_three]
      show ((v.val * 1792 + r.val) * 40 + c.val / 128) * 128 + c.val % 128 = (v.val * 1792 + r.val) * 5120 + c.val
      omega
    · rw [← pay6_at, ← pay7_at, ← pay8_at, ← bc4 (k0_pay6 (F := Ideal) C W S) v r (grp c) (plc c), ← bc4 (k0_pay7 (F := Ideal) C W S) v r (grp c) (plc c)]
      exact dec_el _ _ _ _
  · rw [shapeCast_self]
    exact broadcastTo_apply _ _ _ (ix3 v 0 c) (fun a => by fin_cases a <;> rfl)
  · refine (broadcastTo_apply _ _ _ (ix3 0 r c) (fun a => by fin_cases a <;> rfl)).trans ?_
    refine (shapeCast_apply _ _ _ (ix2 r c) ?_).trans (pay2_at C W r _)
    rw [Shape.rowMajor_val_two, Shape.rowMajor_val_three]
    show r.val * 5120 + c.val = (0 * 1792 + r.val) * 5120 + c.val
    omega

variable (H : FVec Ideal S5120x5120 .bf16)

/-- The errors' products with the activations' second moments. -/
abbrev prods : FVec Ideal S21x1792x5120 .f32 :=
  k0_pay11 (k0_pay2 C W) (k0_pay3 S) (k0_pay6 C W S) (k0_pay8 C W S) (k0_pay9 C W S) H

theorem pay11_at (v : Fin 21) (r : Fin 1792) (c : Fin 5120) : prods C W S H (ix3 v r c) = ∑ k : Fin 5120, rD C W S v r k * H (ix2 k c) := by
  have hv := v.isLt
  have hr := r.isLt
  unfold prods k0_pay11
  refine (shapeCast_apply _ _ _ (ix2 (⟨1792 * v.val + r.val, by omega⟩ : Fin 37632) c) ?_).trans ?_
  · rw [Shape.rowMajor_val_two, Shape.rowMajor_val_three]
    show (1792 * v.val + r.val) * 5120 + c.val = (v.val * 1792 + r.val) * 5120 + c.val
    omega
  · refine (Ideal.matmul_plain_apply (M := 37632) (K := 5120) (N := 5120) (φ₁ := .bf16) (φ₂ := .bf16) none _ H _ _ c).trans ?_
    refine (congrArg (fun x : EReal => x + _) Ideal.ofBits_zero_f32).trans ((zero_add _).trans (Finset.sum_congr rfl fun k _ => ?_))
    refine congrArg (fun x : EReal => x * _) ((shapeCast_apply _ _ _ (ix3 v r k) ?_).trans (pay10_at C W S v r k))
    rw [Shape.rowMajor_val_two, Shape.rowMajor_val_three]
    show (v.val * 1792 + r.val) * 5120 + k.val = (1792 * v.val + r.val) * 5120 + k.val
    omega

/-- The squared errors by candidate and row. -/
abbrev rowsR : FVec Ideal S20x1792 .f32 :=
  k0_pay12 (k0_pay2 C W) (k0_pay3 S) (k0_pay6 C W S) (k0_pay8 C W S) (k0_pay9 C W S) H

theorem pay12_at (v : Fin 20) (r : Fin 1792) :
    rowsR C W S H (ix2 v r) = ∑ c : Fin 5120, (∑ k : Fin 5120, rD C W S v.castSucc r k * H (ix2 k c)) * rD C W S v.castSucc r c := by
  unfold rowsR k0_pay12
  refine (extractStridedSlice_apply _ _ _ _ (ix2 v.castSucc r) (fun a => by fin_cases a <;> exact (Nat.zero_add _).symm)).trans ?_
  refine (Ideal.multiReduction_add_single _ _ reduces_S21x1792x5120_S21x1792 _ _ (ix2 v.castSucc r)).trans (Finset.sum_congr rfl fun c _ => ?_)
  have hl : reduces_S21x1792x5120_S21x1792.lift (ix2 v.castSucc r) c = ix3 v.castSucc r c := by funext a; fin_cases a <;> rfl
  refine (congrArg _ hl).trans ?_
  refine (mul_el' _ _ _).trans ?_
  exact congrArg₂ (fun x y : EReal => x * y) (pay11_at C W S H _ r c) (pay10_at C W S _ r c)

variable (M : FVec Ideal S1x5120 .f32)

/-- What the reference keeps of the selected candidate's product. -/
theorem pay1_at (r : Fin 1792) (c : Fin 5120) :
    k0_pay1 (F := Ideal) (k0_pay14 (k0_pay2 C W) (k0_pay3 S) (k0_pay6 C W S) (k0_pay8 C W S) (k0_pay9 C W S) H) M (ix2 r c)
      = Ideal.div (∑ k : Fin 5120, rD C W S 20 r k * H (ix2 k c)) (max (M (ix2 0 c)) cMean) := by
  unfold k0_pay1 k0_pay14
  refine (dh_el _ _ _).trans (congrArg₂ Ideal.div ?_ ?_)
  · refine (shapeCast_apply _ _ _ (ix3 0 r c) ?_).trans ?_
    · rw [Shape.rowMajor_val_two, Shape.rowMajor_val_three]
      show (0 * 1792 + r.val) * 5120 + c.val = r.val * 5120 + c.val
      omega
    · refine (extractStridedSlice_apply _ _ _ _ (ix3 20 r c) (fun a => by fin_cases a <;> simp)).trans (pay11_at C W S H 20 r c)
  · refine (broadcastTo_apply _ _ _ (ix2 0 c) (fun a => by fin_cases a <;> rfl)).trans ?_
    rw [shapeCast_self]; exact mx_el _ _

end Cert.ReferenceIdeal

end

end
-- ==== Proof.RefVal.lean ====
/- The reference's three results as functions of its arguments. -/
module

public import proofs.«01_k».proof.Proof.Gen.ReferenceIdeal.Value
public import proofs.«01_k».proof.Proof.RefBody
public import proofs.«01_k».proof.Proof.Step
public import Idealize.ShloMosaic.Lib.DynamicIndex

@[expose] public section

set_option maxRecDepth 16384

noncomputable section

namespace Cert.ReferenceIdeal

open Idealize.ShloMosaic Idealize.ShloMosaic.TcCoe Idealize.ShloMosaic.Tactic Idealize.ShloMosaic.ValueIdx
open Idealize.SL Idealize.SL.Sem
open Idealize.ShloMosaic.Pipeline (Cfg Window Dat)
open Cert.ReferenceIdeal.Gen
open Cert.Search (errOut)

variable {F : FTy → Type} [FloatOps F]
variable (m : (ℓ : Loc nD τ sig) → Buf (Elt F) ℓ) (ρ : Dev nD → PrngReg) (c : Dev nD)

/-! ### What the body is given -/

/-- The candidate asked for, as a word. -/
def ratio : BitVec 32 := m ((c : Thread nD τ).loc main_arg0) (ix1 (0 : Fin 1))

/-- The channel scales with the selected candidate's appended. -/
def scales : Vec F S21x1x5120 .f32 := V m c main_v2
/-- The activations' means as a row. -/
def means : Vec F S1x5120 .f32 := V m c main_v3

theorem means_eq : means m c = shapeCast S1x5120 (m ((c : Thread nD τ).loc main_arg5)) shapeCasts_S5120_S1x5120 := by
  unfold means
  dsimp only [V, hostOps0, hostOps0_1, hostOps0_2, List.flatten_cons, List.flatten_nil, List.append_nil, List.cons_append, List.nil_append]
  after_results
  rfl

/-- The candidate's word as the index of a scalar array. -/
def idx0 : IVec S_ 32 := shapeCast S_ (m ((c : Thread nD τ).loc main_arg0)) shapeCasts_S1_S_

theorem scales_eq : scales m c = concatenate S21x1x5120 0 [⟨S20x1x5120, m ((c : Thread nD τ).loc main_arg4)⟩, ⟨S1x1x5120,
    Host.dynamicSlice S1x1x5120 (m ((c : Thread nD τ).loc main_arg4))
      (fun k => ((![select (cmpi .slt (idx0 m c) (constantI S_ 32 0#32)) (addi (idx0 m c) (constantI S_ 32 20#32)) (idx0 m c), constantI S_ 32 0#32, constantI S_ 32 0#32] : Fin 3 → IVec S_ 32) k (Shape.Idx.first h_S_)).toInt)
      sliceFits_S20x1x5120_S1x1x5120⟩] concatenates_S20x1x5120_S1x1x5120_S21x1x5120_d0 := by
  unfold scales
  dsimp only [V, hostOps0, hostOps0_1, hostOps0_2, List.flatten_cons, List.flatten_nil, List.append_nil, List.cons_append, List.nil_append]
  after_results
  refine congrArg (fun x => concatenate S21x1x5120 0 [⟨S20x1x5120, m ((c : Thread nD τ).loc main_arg4)⟩, ⟨S1x1x5120, x⟩] concatenates_S20x1x5120_S1x1x5120_S21x1x5120_d0) ?_
  refine congrArg (fun x => Host.dynamicSlice S1x1x5120 (m ((c : Thread nD τ).loc main_arg4)) x sliceFits_S20x1x5120_S1x1x5120) ?_
  funext k
  match k with
  | 0 => rfl
  | 1 => rfl
  | 2 => rfl

/-- A candidate's scales. -/
theorem scales_row (v : Fin 20) (x : Fin 5120) : scales m c (ix3 v.castSucc (0 : Fin 1) x) = m ((c : Thread nD τ).loc main_arg4) (ix3 v (0 : Fin 1) x) := by
  rw [scales_eq]
  refine concatenate_pair_apply_left (t := S21x1x5120) (s₁ := S20x1x5120) (s₂ := S1x1x5120) 0 _ _ _ (ix3 v.castSucc (0 : Fin 1) x) rfl (ix3 v (0 : Fin 1) x) (fun b => ?_)
  match b with
  | 0 => rfl
  | 1 => rfl
  | 2 => rfl

theorem arg0_eq (i : S1.Idx) : m ((c : Thread nD τ).loc main_arg0) i = ratio m c :=
  congrArg (m ((c : Thread nD τ).loc main_arg0)) (funext fun a => by
    have h0 : (i a).val < S1.size a := (i a).isLt; have h1 : S1.size a = 1 := by fin_cases a; rfl
    have h2 : (ix1 (0 : Fin 1) a).val < S1.size a := (ix1 (0 : Fin 1) a).isLt
    exact Fin.ext (by omega))

theorem idx0_eq (j : S_.Idx) : idx0 m c j = ratio m c := arg0_eq m c _

/-- The selected candidate's scales. -/
theorem scales_last (h : (ratio m c).toNat < 20) (x : Fin 5120) :
    scales m c (ix3 (20 : Fin 21) (0 : Fin 1) x) = m ((c : Thread nD τ).loc main_arg4) (ix3 ⟨(ratio m c).toNat, h⟩ (0 : Fin 1) x) := by
  have hi : (ratio m c).toInt = (ratio m c).toNat := BitVec.toInt_eq_toNat_of_lt (by omega)
  rw [scales_eq]
  refine (concatenate_pair_apply_right (t := S21x1x5120) (s₁ := S20x1x5120) (s₂ := S1x1x5120) 0 _ _ _ (ix3 (20 : Fin 21) (0 : Fin 1) x) rfl rfl
    (ix3 (0 : Fin 1) (0 : Fin 1) x) (fun b hb => ?_) rfl).trans ?_
  · match b, hb with
    | 0, hb => exact absurd rfl hb
    | 1, _ => rfl
    | 2, _ => rfl
  have hs : S20x1x5120.Slices ![(ratio m c).toNat, 0, 0] S1x1x5120 := ⟨rfl, fun a => by
    match a with
    | 0 => show (ratio m c).toNat + 1 ≤ 20; omega
    | 1 => exact Nat.le_refl _
    | 2 => exact Nat.le_refl _⟩
  refine (congrFun (Host.dynamicSlice_eq_extractStridedSlice (s := S20x1x5120) S1x1x5120 _ _ ![(ratio m c).toNat, 0, 0] _ hs (fun k => ?_)) _).trans ?_
  rotate_left
  · exact extractStridedSlice_apply _ _ _ _ _ (fun a => by fin_cases a <;> simp)
  · match k with
    | 0 =>
      show (select (cmpi .slt (idx0 m c) (constantI S_ 32 0#32)) (addi (idx0 m c) (constantI S_ 32 20#32)) (idx0 m c) (Shape.Idx.first h_S_)).toInt = _
      rw [select_slt_zero_of_nonneg _ _ _ _ (by rw [idx0_eq, hi]; omega), idx0_eq, hi]; rfl
    | 1 => rfl
    | 2 => rfl

/-! ### The blocks are the whole arrays -/

theorem iblk0 (t : Fin cfg0.N) : iblk m c 0 t = m ((c : Thread nD τ).loc main_arg1) := by
  rw [← V_main_arg1 m c]
  funext y
  refine congrArg (V m c main_arg1) (funext fun a => Fin.ext ?_)
  exact Window.rect_emb_val_of_index_zero (cfg0.win 0) t a (by fin_cases a <;> rfl) y

theorem iblk1 (t : Fin cfg0.N) : iblk m c 1 t = m ((c : Thread nD τ).loc main_arg2) := by
  rw [← V_main_arg2 m c]
  funext y
  refine congrArg (V m c main_arg2) (funext fun a => Fin.ext ?_)
  exact Window.rect_emb_val_of_index_zero (cfg0.win 1) t a (by fin_cases a <;> rfl) y

theorem iblk2 (t : Fin cfg0.N) : iblk m c 2 t = m ((c : Thread nD τ).loc main_arg3) := by
  rw [← V_main_arg3 m c]
  funext y
  refine congrArg (V m c main_arg3) (funext fun a => Fin.ext ?_)
  exact Window.rect_emb_val_of_index_zero (cfg0.win 2) t a (by fin_cases a <;> rfl) y

theorem iblk3 (t : Fin cfg0.N) : iblk m c 3 t = scales m c := by
  funext y
  refine congrArg (scales m c) (funext fun a => Fin.ext ?_)
  exact Window.rect_emb_val_of_index_zero (cfg0.win 3) t a (by fin_cases a <;> rfl) y

theorem iblk4 (t : Fin cfg0.N) : iblk m c 4 t = means m c := by
  funext y
  refine congrArg (means m c) (funext fun a => Fin.ext ?_)
  exact Window.rect_emb_val_of_index_zero (cfg0.win 4) t a (by fin_cases a <;> rfl) y

/-! ### What the body leaves -/

theorem pay13_eq (a b d e f h) : k0_pay13 (F := F) a b d e f h = errOut (k0_pay12 a b d e f h) := by
  unfold errOut k0_pay13
  generalize k0_pay12 a b d e f h = R
  rw [show shapeCast Search.S20x1792 R Search.shapeCasts_S20x1792 = R from shapeCast_self R _]

variable [∀ e, Nonempty (Elt F e)]

theorem out5_eq (x0 x1 x2 x3 x4) : out0_5 (F := F) x0 x1 x2 x3 x4
    = errOut (k0_pay12 (k0_pay2 x1 x0) (k0_pay3 x3) (k0_pay6 x1 x0 x3) (k0_pay8 x1 x0 x3) (k0_pay9 x1 x0 x3) x2) := by
  unfold out0_5 k0_pay15 k0_pay16 k0_pay17 k0_pay18 k0_pay19
  rw [View.canon_cons_unit_lit _ _ _ (by decide), View.ld_unit_lit _ x0 (by decide), View.ld_unit_lit _ x1 (by decide), View.ld_unit_lit _ x2 (by decide),
    View.ld_unit_lit _ x3 (by decide), pay13_eq]

theorem out6_eq (x0 x1 x2 x3 x4) : out0_6 (F := F) x0 x1 x2 x3 x4
    = k0_pay12 (k0_pay2 x1 x0) (k0_pay3 x3) (k0_pay6 x1 x0 x3) (k0_pay8 x1 x0 x3) (k0_pay9 x1 x0 x3) x2 := by
  unfold out0_6 k0_pay15 k0_pay16 k0_pay17 k0_pay18 k0_pay19
  rw [View.canon_cons_unit_lit _ _ _ (by decide), View.ld_unit_lit _ x0 (by decide), View.ld_unit_lit _ x1 (by decide), View.ld_unit_lit _ x2 (by decide),
    View.ld_unit_lit _ x3 (by decide)]

theorem out7_eq (x0 x1 x2 x3 x4) : out0_7 (F := F) x0 x1 x2 x3 x4
    = k0_pay1 (k0_pay14 (k0_pay2 x1 x0) (k0_pay3 x3) (k0_pay6 x1 x0 x3) (k0_pay8 x1 x0 x3) (k0_pay9 x1 x0 x3) x2) x4 := by
  unfold out0_7 k0_pay15 k0_pay16 k0_pay17 k0_pay18 k0_pay19
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide)]

/-- The squared errors by candidate and row, of the launch's arguments. -/
def rows : Vec F S20x1792 .f32 :=
  k0_pay12 (k0_pay2 (m ((c : Thread nD τ).loc main_arg2)) (m ((c : Thread nD τ).loc main_arg1))) (k0_pay3 (scales m c))
    (k0_pay6 (m ((c : Thread nD τ).loc main_arg2)) (m ((c : Thread nD τ).loc main_arg1)) (scales m c))
    (k0_pay8 (m ((c : Thread nD τ).loc main_arg2)) (m ((c : Thread nD τ).loc main_arg1)) (scales m c))
    (k0_pay9 (m ((c : Thread nD τ).loc main_arg2)) (m ((c : Thread nD τ).loc main_arg1)) (scales m c)) (m ((c : Thread nD τ).loc main_arg3))

/-- The product kept of the selected candidate, of the launch's arguments. -/
def kept : Vec F S1792x5120 .bf16 :=
  k0_pay1 (k0_pay14 (k0_pay2 (m ((c : Thread nD τ).loc main_arg2)) (m ((c : Thread nD τ).loc main_arg1))) (k0_pay3 (scales m c))
    (k0_pay6 (m ((c : Thread nD τ).loc main_arg2)) (m ((c : Thread nD τ).loc main_arg1)) (scales m c))
    (k0_pay8 (m ((c : Thread nD τ).loc main_arg2)) (m ((c : Thread nD τ).loc main_arg1)) (scales m c))
    (k0_pay9 (m ((c : Thread nD τ).loc main_arg2)) (m ((c : Thread nD τ).loc main_arg1)) (scales m c)) (m ((c : Thread nD τ).loc main_arg3))) (means m c)

/-- The one point of the grid. -/
def t0 : Fin cfg0.N := ⟨0, by decide⟩

theorem after5 : (dats m 0 c).after 5 t0 = errOut (rows m c) := by
  rw [after0_5, out5_eq, iblk0, iblk1, iblk2, iblk3]; rfl
theorem after6 : (dats m 0 c).after 6 t0 = rows m c := by
  rw [after0_6, out6_eq, iblk0, iblk1, iblk2, iblk3]; rfl
theorem after7 : (dats m 0 c).after 7 t0 = kept m c := by
  rw [after0_7, out7_eq, iblk0, iblk1, iblk2, iblk3, iblk4]; rfl

theorem arr5 : (dats m 0 c).arrAt 5 cfg0.N = errOut (rows m c) := by
  refine (dats m 0 c).arrAt_eq_of_after_last 5 t0 (by decide +kernel) _ fun j => ?_
  rw [after5]; rfl
theorem arr6 : (dats m 0 c).arrAt 6 cfg0.N = rows m c := by
  refine (dats m 0 c).arrAt_eq_of_after_last 6 t0 (by decide +kernel) _ fun j => ?_
  rw [after6]; rfl
theorem arr7 : (dats m 0 c).arrAt 7 cfg0.N = kept m c := by
  refine (dats m 0 c).arrAt_eq_of_after_last 7 t0 (by decide +kernel) _ fun j => ?_
  rw [after7]; rfl

/-- The run, with what it leaves. -/
theorem run_val : θ_run defs (onTc (τ := τ) (main (F := F))) ⟨m, fun _ => 0, ρ⟩ (fun r => ∀ c : Dev nD,
      r.2.mem ((c : Thread nD τ).loc main_v4_0) = errOut (rows m c)
      ∧ r.2.mem ((c : Thread nD τ).loc main_v4_1) = rows m c
      ∧ r.2.mem ((c : Thread nD τ).loc main_v4_2) = kept m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h c).1.trans (arr5 m c), (h c).2.1.trans (arr6 m c), (h c).2.2.1.trans (arr7 m c), (h c).2.2.2⟩)
    (Value.run_blocks m ρ)

end Cert.ReferenceIdeal

end

end
-- ==== Proof.KerVal.lean ====
/- What the kernel's closed forms come to over the extended reals: the error of a weight is the quantiser's, the row sums of
   the slabs make one sum over all columns, and the kept product is a quotient. -/
module

public import proofs.«01_k».proof.Proof.Spec

@[expose] public section

set_option maxRecDepth 16384

noncomputable section

namespace Cert.Search

open Idealize.ShloMosaic Idealize.ShloMosaic.ValueIdx
open scoped BigOperators

attribute [local irreducible] Ideal.ofBits Ideal.liftRound Ideal.roundHalfEven

variable (A : In Ideal)

/-- The error of candidate `v` at row `r`, column `c`, by the quantiser's plain functions. -/
def eD (v r c : Nat) : EReal :=
  sD (fun k => A.C (ixm _ posC ![r, 128 * (c / 128) + k.val]) * A.W (ixm _ pos14 ![r / 128, c / 128]))
    (fun k => A.S (ixm _ pos20x ![v, 0, 128 * (c / 128) + k.val])) ⟨c % 128, Nat.mod_lt _ (by decide)⟩

theorem dAt_eq (hS : ∀ j, A.S j ≠ 0) (hR : ∀ j, A.RS j = Ideal.div c1 (A.S j)) (v r c : Nat) : dAt A v r c = eD A v r c := by
  unfold dAt eD
  have e : ixm _ posG ![r % 128, c % 128] = ix2 (⟨r % 128, Nat.mod_lt _ (by decide)⟩ : Fin 128) (⟨c % 128, Nat.mod_lt _ (by decide)⟩ : Fin 128) := by
    refine ixm_eq _ _ _ fun a => ?_
    fin_cases a <;> rfl
  rw [e, gD_at _ _ _ _ _ _ (hS _) (hR _)]
  congr 1
  funext k
  show A.C (ixm _ posC ![128 * (r / 128) + r % 128, 128 * (c / 128) + k.val]) * _ = _
  rw [Nat.div_add_mod]

/-- A product block at an element. -/
theorem tP_at (d : S896x5120.Idx → EReal) (h : S5120x512.Idx → EReal) (a : Fin 896) (b : Fin 512) :
    tP (F := Ideal) d h (ix2 a b) = ∑ k : Fin 5120, d (ix2 a k) * h (ix2 k b) := by
  refine (Ideal.matmul_plain_apply (M := 896) (K := 5120) (N := 512) (φ₁ := .bf16) (φ₂ := .bf16) none d h _ a b).trans ?_
  show Ideal.ofBits .f32 0x00000000#32 + _ = _
  rw [Ideal.ofBits_zero_f32, zero_add]

/-- The kept product at an element. -/
theorem tDh_at (p : FVec Ideal S896x512 .f32) (x : S1x512.Idx → EReal) (a : Fin 896) (b : Fin 512) :
    tDh p x (ix2 a b) = p (ix2 a b) * x (ix2 0 b) := by
  unfold tDh
  rw [shapeCast_self]
  exact congrArg (p (ix2 a b) * ·) (broadcastTo_apply _ _ _ (ix2 0 b) (fun a => by fin_cases a <;> rfl))

/-- A block's row times its column of the activations times its own error there. -/
def term (d : S896x5120.Idx → EReal) (a : Fin 896) (c : Nat) : EReal :=
  (∑ k : Fin 5120, d (ix2 a k) * A.H (ixm _ posH ![k.val, c])) * d (ixm _ posD ![a.val, c])

theorem tAcc_at (p : FVec Ideal S896x512 .f32) (dc : S896x512.Idx → EReal) (acc : S896x128.Idx → EReal) (a : Fin 896) (l : Fin 128) :
    tAcc (F := Ideal) p dc acc (ix2 a l) = acc (ix2 a l)
      + ∑ j ∈ Finset.range 4, p (ixm (⟨2, ![896, 512]⟩) (by decide) ![a.val, 128 * j + l.val]) * dc (ixm (⟨2, ![896, 512]⟩) (by decide) ![a.val, 128 * j + l.val]) := by
  unfold tAcc
  rw [shapeCast_self]
  have hl : l.val < 128 := l.isLt
  have key : ∀ (j : Nat) (hj : j < 4) (h : S896x512.Slices ![0, 128 * j] S896x128),
      extractStridedSlice S896x128 ![0, 128 * j] (mulf p (extf .f32 (φ := .bf16) dc bitsLt_bf16_f32)) h (ix2 a l)
        = p (ixm (⟨2, ![896, 512]⟩) (by decide) ![a.val, 128 * j + l.val]) * dc (ixm (⟨2, ![896, 512]⟩) (by decide) ![a.val, 128 * j + l.val]) := fun j hj h => by
    refine extractStridedSlice_apply _ _ _ _ (ixm (⟨2, ![896, 512]⟩) (by decide) ![a.val, 128 * j + l.val]) fun b => ?_
    fin_cases b
    · show a.val % 896 = 0 + a.val
      rw [Nat.mod_eq_of_lt a.isLt]; omega
    · show (128 * j + l.val) % 512 = 128 * j + l.val
      exact Nat.mod_eq_of_lt (by omega)
  rw [Finset.sum_range_succ, Finset.sum_range_succ, Finset.sum_range_succ, Finset.sum_range_one,
    ← key 0 (by decide) slices_0, ← key 1 (by decide) slices_128, ← key 2 (by decide) slices_256, ← key 3 (by decide) slices_384]
  rfl

theorem accR_at (t : Nat) (n : Nat) (hn : n ≤ 10) (a : Fin 896) (l : Fin 128) :
    accR A t n (ix2 a l) = ∑ i ∈ Finset.range n, ∑ j ∈ Finset.range 4, term A (cur A t) a (512 * i + 128 * j + l.val) := by
  have hl : l.val < 128 := l.isLt
  have ha : a.val < 896 := a.isLt
  induction n with
  | zero =>
    unfold accR
    rw [shapeCast_self, Finset.sum_range_zero]
    exact Ideal.ofBits_zero_f32
  | succ n ih =>
    unfold accR
    rw [tAcc_at, ih (by omega), Finset.sum_range_succ (fun i => ∑ j ∈ Finset.range 4, term A (cur A t) a (512 * i + 128 * j + l.val))]
    refine congrArg (fun x : EReal => (_ : EReal) + x) (Finset.sum_congr rfl fun j hj => ?_)
    have hj4 : j < 4 := Finset.mem_range.1 hj
    have e : ixm (⟨2, ![896, 512]⟩) (by decide) ![a.val, 128 * j + l.val] = ix2 a (⟨128 * j + l.val, by omega⟩ : Fin 512) := by
      refine ixm_eq _ _ _ fun b => ?_
      fin_cases b <;> rfl
    rw [e, tP_at]
    unfold term cur
    refine congrArg₂ (fun x y : EReal => x * y) (Finset.sum_congr rfl fun k _ => congrArg₂ (fun x y : EReal => x * y) rfl ?_) ?_
    · show A.H (ixm _ posH ![k.val, 512 * n + (128 * j + l.val)]) = _
      rw [Nat.add_assoc]
    · show blk A (A.ord (t / 2)) (t % 2) (ixm _ posD ![a.val, 512 * n + (128 * j + l.val)]) = _
      rw [Nat.add_assoc]

/-- A sum over a range cut in equal parts. -/
theorem sum_parts (f : Nat → EReal) (m n : Nat) : ∑ i ∈ Finset.range m, ∑ j ∈ Finset.range n, f (n * i + j) = ∑ c ∈ Finset.range (n * m), f c := by
  induction m with
  | zero => simp
  | succ m ih => rw [Finset.sum_range_succ, ih, Nat.mul_succ, Finset.sum_range_add]

theorem rowSum_at (acc : S896x128.Idx → EReal) (a : Fin 896) :
    rowSum (F := Ideal) acc (ix2 0 a) = ∑ l : Fin 128, acc (ix2 a l) := by
  unfold rowSum
  refine (shapeCast_apply _ _ _ (ix1 a) ?_).trans ((Ideal.multiReduction_add_single _ _ reduces_S128x896_S896 _ _ (ix1 a)).trans
    (Finset.sum_congr rfl fun l _ => ?_))
  · rw [Shape.rowMajor_val_one, Shape.rowMajor_val_two]; simp
  · exact transpose_apply _ _ _ _ (ix2 a l) (fun b => by fin_cases b <;> rfl)

/-- A row of the error's squared norm, as the kernel sums it: one sum over all the columns. -/
theorem rows_at (t : Nat) (a : Fin 896) : rowSum (accR A t 10) (ix2 0 a) = ∑ c : Fin 5120, term A (cur A t) a c.val := by
  rw [rowSum_at, Finset.sum_congr rfl fun l _ => accR_at A t 10 le_rfl a l]
  rw [← Finset.sum_range (fun c => term A (cur A t) a c)]
  rw [← Finset.sum_range (fun l => ∑ i ∈ Finset.range 10, ∑ j ∈ Finset.range 4, term A (cur A t) a (512 * i + 128 * j + l))]
  rw [show 5120 = 512 * 10 from rfl, ← sum_parts]
  rw [Finset.sum_comm]
  refine Finset.sum_congr rfl fun i _ => ?_
  rw [Finset.sum_comm, show 512 = 128 * 4 from rfl, ← sum_parts (fun x => term A (cur A t) a (128 * 4 * i + x))]
  refine Finset.sum_congr rfl fun j _ => Finset.sum_congr rfl fun l _ => ?_
  rw [Nat.add_assoc]

end Cert.Search

end

end
-- ==== Proof.Bridge.lean ====
/- The kernel's closed form and the reference's are the same function of the arguments. -/
module

public import proofs.«01_k».proof.Proof.KerVal
public import proofs.«01_k».proof.Proof.RefBody
public import proofs.«01_k».proof.Proof.Order

@[expose] public section

set_option maxRecDepth 16384

noncomputable section

namespace Cert.Search

open Idealize.ShloMosaic Idealize.ShloMosaic.ValueIdx
open Cert.ReferenceIdeal (rD rW col grp plc rblk grp_col rowsR)
open scoped BigOperators

variable (A : In Ideal) (S21 : FVec Ideal Cert.ReferenceIdeal.S21x1x5120 .f32)

/-- One error, in the kernel's naming and in the reference's. -/
theorem eD_rD (v : Fin 20) (v' : Fin 21) (hS : ∀ x, S21 (ix3 v' (0 : Fin 1) x) = A.S (ix3 v (0 : Fin 1) x)) (r : Fin 1792) (c : Fin 5120) :
    eD A v.val r.val c.val = rD A.C A.W S21 v' r c := by
  have eC : ∀ k : Fin 128, ixm _ posC ![r.val, 128 * (c.val / 128) + k.val] = ix2 r (col (grp c) k) := fun k =>
    ixm_eq posC _ _ fun a => by
      match a with
      | 0 => rfl
      | 1 => rfl
  have eW : ixm _ pos14 ![r.val / 128, c.val / 128] = ix2 (rblk r) (grp c) :=
    ixm_eq pos14 _ _ fun a => by
      match a with
      | 0 => rfl
      | 1 => rfl
  have eS : ∀ k : Fin 128, ixm _ pos20x ![v.val, 0, 128 * (c.val / 128) + k.val] = ix3 v (0 : Fin 1) (col (grp c) k) := fun k =>
    ixm_eq pos20x _ _ fun a => by
      match a with
      | 0 => rfl
      | 1 => rfl
      | 2 => rfl
  unfold eD rD rW
  refine congrArg₂ (fun w s => sD w s (plc c)) (funext fun k => ?_) (funext fun k => ?_)
  · rw [eC k, eW, grp_col]
  · rw [eS k, hS]

theorem cur_at (i par : Nat) (hp : par < 2) (a : Fin 896) (k : Fin 5120) : cur A (2 * i + par) (ix2 a k) = dAt A (A.ord i) (896 * par + a.val) k.val := by
  unfold cur
  rw [show (2 * i + par) / 2 = i by omega, show (2 * i + par) % 2 = par by omega]
  rfl

variable (hS : ∀ j, A.S j ≠ (0 : EReal)) (hR : ∀ j, A.RS j = Ideal.div c1 (A.S j))

include hS hR in
/-- A block's error at a row of it. -/
theorem cur_rD (i : Nat) (v : Fin 20) (v' : Fin 21) (hi : A.ord i = v.val) (h21 : ∀ x, S21 (ix3 v' (0 : Fin 1) x) = A.S (ix3 v (0 : Fin 1) x))
    (r : Fin 1792) (k : Fin 5120) :
    cur A (2 * i + r.val / 896) (ix2 (⟨r.val % 896, Nat.mod_lt _ (by decide)⟩ : Fin 896) k) = rD A.C A.W S21 v' r k := by
  have hr := r.isLt
  rw [cur_at A i _ (by omega), hi, show 896 * (r.val / 896) + r.val % 896 = r.val from Nat.div_add_mod _ _, dAt_eq A hS hR]
  exact eD_rD A S21 v v' h21 r k

include hS hR in
/-- The rows' errors. -/
theorem rows_eq (hord : ∀ v, v < 20 → ∃ i, i < 20 ∧ A.ord i = v) (h21 : ∀ (v : Fin 20) (x), S21 (ix3 v.castSucc (0 : Fin 1) x) = A.S (ix3 v (0 : Fin 1) x))
    (R : S20x1792.Idx → EReal) (h : Rows A 400 R) : R = rowsR A.C A.W S21 A.H := by
  funext j
  obtain ⟨v, r, rfl⟩ : ∃ (v : Fin 20) (r : Fin 1792), j = ix2 v r := ⟨j 0, j 1, funext fun a => by match a with | 0 => rfl | 1 => rfl⟩
  have hr := r.isLt
  obtain ⟨i, hi, hv⟩ := hord v.val v.isLt
  have e := h (2 * i + r.val / 896) (by omega) (by omega) (ix2 (0 : Fin 1) (⟨r.val % 896, Nat.mod_lt _ (by decide)⟩ : Fin 896))
  have ej : ixm _ posR ![A.ord ((2 * i + r.val / 896) / 2), (2 * i + r.val / 896) % 2 * 896 + r.val % 896] = ix2 v r :=
    ixm_eq posR _ _ fun a => by
      match a with
      | 0 => show A.ord ((2 * i + r.val / 896) / 2) = v.val; rw [show (2 * i + r.val / 896) / 2 = i by omega, hv]
      | 1 => show (2 * i + r.val / 896) % 2 * 896 + r.val % 896 = r.val; omega
  refine (congrArg R ej).symm.trans (e.trans ?_)
  rw [rows_at, Cert.ReferenceIdeal.pay12_at]
  refine Finset.sum_congr rfl fun c _ => ?_
  have ec : ixm _ posD ![r.val % 896, c.val] = ix2 (⟨r.val % 896, Nat.mod_lt _ (by decide)⟩ : Fin 896) c :=
    ixm_eq posD _ _ fun a => by
      match a with
      | 0 => rfl
      | 1 => rfl
  unfold term
  refine congrArg₂ (fun x y : EReal => x * y) (Finset.sum_congr rfl fun k _ => congrArg₂ (fun x y : EReal => x * y) ?_ ?_) ?_
  · exact cur_rD A S21 hS hR i v v.castSucc hv (h21 v) r k
  · exact congrArg A.H (ixm_eq posH _ _ fun a => by
      match a with
      | 0 => rfl
      | 1 => rfl)
  · refine (congrArg (cur A (2 * i + r.val / 896)) ec).trans ?_
    exact cur_rD A S21 hS hR i v v.castSucc hv (h21 v) r c

variable (M : FVec Ideal Cert.ReferenceIdeal.S1x5120 .f32)

include hS hR in
/-- The product kept of the candidate visited last. -/
theorem kept_eq (v : Fin 20) (hv : A.ord 19 = v.val) (h21 : ∀ x, S21 (ix3 (20 : Fin 21) (0 : Fin 1) x) = A.S (ix3 v (0 : Fin 1) x))
    (hX : ∀ c : Fin 5120, A.RX (ix2 (0 : Fin 1) c) = Ideal.div c1 (max (M (ix2 (0 : Fin 1) c)) cMean)) (r : Fin 1792) (c : Fin 5120) :
    tDh (tP (cur A (38 + r.val / 896)) (hs A (c.val / 512))) (rx A (c.val / 512))
        (ix2 (⟨r.val % 896, Nat.mod_lt _ (by decide)⟩ : Fin 896) (⟨c.val % 512, Nat.mod_lt _ (by decide)⟩ : Fin 512))
      = Ideal.div (∑ k : Fin 5120, rD A.C A.W S21 20 r k * A.H (ix2 k c)) (max (M (ix2 0 c)) cMean) := by
  rw [tDh_at, tP_at]
  have eX : rx A (c.val / 512) (ix2 (0 : Fin 1) (⟨c.val % 512, Nat.mod_lt _ (by decide)⟩ : Fin 512)) = A.RX (ix2 (0 : Fin 1) c) :=
    congrArg A.RX (ixm_eq posX _ _ fun a => by
      match a with
      | 0 => rfl
      | 1 => show 512 * (c.val / 512) + c.val % 512 = c.val; omega)
  have hm : max (M (ix2 (0 : Fin 1) c)) cMean ≠ (0 : EReal) := (lt_of_lt_of_le cMean_pos (le_max_right _ _)).ne'
  rw [eX, hX, mul_recip _ _ hm]
  refine congrArg (fun x : EReal => Ideal.div x _) (Finset.sum_congr rfl fun k _ => congrArg₂ (fun x y : EReal => x * y) ?_ ?_)
  · exact cur_rD A S21 hS hR 19 v 20 hv h21 r k
  · exact congrArg A.H (ixm_eq posH _ _ fun a => by
      match a with
      | 0 => rfl
      | 1 => show 512 * (c.val / 512) + c.val % 512 = c.val; omega)

end Cert.Search

end

end
-- ==== Proof.Value.lean ====
/- The kernel and the reference leave the same errors, row errors and kept product over the extended reals. -/
module

public import proofs.«01_k».proof.Defs
public import proofs.«01_k».proof.Proof.FinI
public import proofs.«01_k».proof.Proof.RefVal
public import proofs.«01_k».proof.Proof.Bridge
public import proofs.«01_k».proof.Proof.EntryI

@[expose] public section

set_option maxRecDepth 16384

noncomputable section

namespace Cert.Proof

open Idealize.ShloMosaic Idealize.ShloMosaic.ValueIdx Idealize.SL.Sem
open Cert.Search (In)

instance pre_facts_scales : Cert.Pre_scales_are_not_zero.Facts where
  bcast_S_S1 := by decide
  bcast_S_S20x1x5120 := by decide
  bcast_S1_S1x1x1_2 := by decide
  bcast_S1x1x1_S20x1x5120_0_1_2 := by decide

/-! ### What the precondition says -/

section pre

variable (a0 : IVec Cert.Pre_scales_are_not_zero.S1 32) (a1 a2 a3 a5) (a4 : FVec Ideal Cert.Pre_scales_are_not_zero.S20x1x5120 .f32)

/-- The candidate asked for is one of the twenty. -/
theorem pre_ratio (w : BitVec 32) (hw : ∀ i, a0 i = w) (h : Cert.Pre_scales_are_not_zero.fn (F := Ideal) a0 a1 a2 a3 a4 a5 = fun _ => 1#1) : w.toNat < 20 := by
  have e := congrFun h (ValueIdx.ix3 (0 : Fin 20) (0 : Fin 1) (0 : Fin 5120))
  obtain ⟨e1, _⟩ := IntOp.andi_eq_one.mp e
  refine Search.lt_of_signed w ?_
  refine Eq.trans ?_ e1
  exact congrArg (fun x => IntOp.andi (IntOp.cmpi .sge x 0#32) (IntOp.cmpi .slt x 20#32)) (hw _).symm

/-- No channel scale is zero. -/
theorem pre_scales (h : Cert.Pre_scales_are_not_zero.fn (F := Ideal) a0 a1 a2 a3 a4 a5 = fun _ => 1#1) (j) : a4 j ≠ (0 : EReal) := by
  have e := congrFun h j
  obtain ⟨_, e2⟩ := IntOp.andi_eq_one.mp e
  intro h0
  have e3 : FloatOps.cmpf (F := Ideal) (φ := .f32) .une (a4 j) (Ideal.ofBits .f32 0x00000000#32) = 1#1 := e2
  rw [h0, Ideal.ofBits_zero_f32] at e3
  have e4 : BitVec.ofBool (decide ((0 : EReal) ≠ 0)) = 1#1 := e3
  rw [decide_eq_false (fun h => h rfl)] at e4
  exact absurd e4 (by decide)

end pre

/-! ### The kernel's arguments and the reference's -/

section results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs are launched on the same arguments. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (h : Same m m' c) (hr : (Cert.KernelIdeal.ratio m c).toNat < 20)
  (hS : ∀ j, (Cert.KernelIdeal.inp m c).S j ≠ (0 : EReal))

include h in
theorem ratio_same : Cert.ReferenceIdeal.ratio m' c = Cert.KernelIdeal.ratio m c :=
  (congrFun h.a0 (ValueIdx.ix1 (0 : Fin 1))).trans (Cert.KernelIdeal.arg0_eq m c _)

theorem recip_scales (j) : (Cert.KernelIdeal.inp m c).RS j = Ideal.div Search.c1 ((Cert.KernelIdeal.inp m c).S j) :=
  Cert.KernelIdeal.V_rs m c j

include h in
theorem row_same (v : Fin 20) (x : Fin 5120) :
    Cert.ReferenceIdeal.scales m' c (ValueIdx.ix3 v.castSucc (0 : Fin 1) x) = (Cert.KernelIdeal.inp m c).S (ValueIdx.ix3 v (0 : Fin 1) x) :=
  (Cert.ReferenceIdeal.scales_row m' c v x).trans (congrFun h.a4 _)

include h in
theorem last_same (x : Fin 5120) :
    Cert.ReferenceIdeal.scales m' c (ValueIdx.ix3 (20 : Fin 21) (0 : Fin 1) x)
      = (Cert.KernelIdeal.inp m c).S (ValueIdx.ix3 (⟨(Cert.KernelIdeal.ratio m c).toNat, hr⟩ : Fin 20) (0 : Fin 1) x) := by
  have e := ratio_same m m' c h
  refine (Cert.ReferenceIdeal.scales_last m' c (by rw [e]; exact hr) x).trans ((congrFun h.a4 _).trans ?_)
  refine congrArg (fun v : Fin 20 => (Cert.KernelIdeal.inp m c).S (ValueIdx.ix3 v (0 : Fin 1) x)) (Fin.ext ?_)
  show (Cert.ReferenceIdeal.ratio m' c).toNat = _
  rw [e]

include h in
theorem means_same (x : Fin 5120) :
    (Cert.KernelIdeal.inp m c).RX (ValueIdx.ix2 (0 : Fin 1) x)
      = Ideal.div Search.c1 (max (Cert.ReferenceIdeal.means m' c (ValueIdx.ix2 (0 : Fin 1) x)) Search.cMean) := by
  refine (Cert.KernelIdeal.V_rxc m c _).trans ?_
  rw [Cert.ReferenceIdeal.means_eq, h.a5]
  rfl

include h in
theorem rows_def : Cert.ReferenceIdeal.rows m' c
    = Cert.ReferenceIdeal.rowsR (Cert.KernelIdeal.inp m c).C (Cert.KernelIdeal.inp m c).W (Cert.ReferenceIdeal.scales m' c) (Cert.KernelIdeal.inp m c).H := by
  unfold Cert.ReferenceIdeal.rows
  rw [h.a1, h.a2, h.a3]
  rfl

include h hr hS in
/-- The rows' errors are the reference's. -/
theorem rows_same (R) (hR : Search.Rows (Cert.KernelIdeal.inp m c) 400 R) : R = Cert.ReferenceIdeal.rows m' c :=
  (Search.rows_eq (Cert.KernelIdeal.inp m c) (Cert.ReferenceIdeal.scales m' c) hS (recip_scales m c)
    (fun v hv => Search.ord_surj hr hv) (row_same m m' c h) R hR).trans (rows_def m m' c h).symm

include h hr hS in
/-- The kept product is the reference's. -/
theorem kept_same (i : Cert.KernelIdeal.S1792x5120.Idx) : Cert.KernelIdeal.dhAt (Cert.KernelIdeal.inp m c) i = Cert.ReferenceIdeal.kept m' c i := by
  obtain ⟨r, x, rfl⟩ : ∃ (r : Fin 1792) (x : Fin 5120), i = ValueIdx.ix2 r x := ⟨i 0, i 1, funext fun a => by match a with | 0 => rfl | 1 => rfl⟩
  unfold Cert.ReferenceIdeal.kept
  rw [h.a1, h.a2, h.a3]
  refine Eq.trans ?_ (Cert.ReferenceIdeal.pay1_at _ _ _ _ _ r x).symm
  refine Eq.trans ?_ (Search.kept_eq (Cert.KernelIdeal.inp m c) (Cert.ReferenceIdeal.scales m' c) hS (recip_scales m c) (Cert.ReferenceIdeal.means m' c)
    ⟨_, hr⟩ (Search.ord_last _) (last_same m m' c h hr) (means_same m m' c h) r x)
  unfold Cert.KernelIdeal.dhAt
  refine congrArg _ (Search.ixm_eq _ _ _ fun a => ?_)
  match a with
  | 0 => rfl
  | 1 => rfl

end results

end Cert.Proof

end

end
-- ==== Proof.lean ====
module

public import proofs.«01_k».proof.Defs
public import proofs.«01_k».proof.Proof.Entry
public import proofs.«01_k».proof.Proof.Value
public import proofs.«01_k».proof.Proof.EntryI
public import proofs.«01_k».proof.Proof.Gen.ReferenceIdeal.Frame

@[expose] public section

noncomputable section

namespace Cert.Proof

open Idealize.ShloMosaic Idealize.SL.Sem

instance pre_facts : Cert.Pre_selects_a_candidate.Facts where
  bcast_S_S1 := by decide

theorem frame_kernel : Cert.quiescent_Kernel := fun m g h =>
  Cert.Kernel.frame m g fun c => Cert.Kernel.ratio_lt m c _ _ _ _ _ (h c)

theorem frame_ideal : Cert.quiescent_KernelIdeal := fun m g h =>
  Cert.KernelIdeal.frame m g fun c => Cert.KernelIdeal.ratio_lt m c _ _ _ _ _ (h c)

theorem frame_reference : Cert.quiescent_ReferenceIdeal := fun m g _ => Cert.ReferenceIdeal.Gen.frame m g

theorem frame_ideal_scales : Cert.quiescent_KernelIdeal_pre_scales_are_not_zero := fun m g h =>
  Cert.KernelIdeal.frame m g fun c => pre_ratio _ _ _ _ _ _ _ (Cert.KernelIdeal.arg0_eq m c) (h c)

theorem frame_reference_scales : Cert.quiescent_ReferenceIdeal_pre_scales_are_not_zero := fun m g _ => Cert.ReferenceIdeal.Gen.frame m g

/-- The kernel and the reference end with equal errors, equal row errors and equal kept products. -/
theorem equal_results : Cert.algebraic_KernelIdeal_ReferenceIdeal_pre_scales_are_not_zero := by
  intro m g m' g' hp ha
  have hr : ∀ c, (Cert.KernelIdeal.ratio m c).toNat < 20 := fun c => pre_ratio _ _ _ _ _ _ _ (Cert.KernelIdeal.arg0_eq m c) (hp c)
  have hS : ∀ c j, (Cert.KernelIdeal.inp m c).S j ≠ (0 : EReal) := fun c j => pre_scales _ _ _ _ _ _ (hp c) j
  have hs : ∀ c, Same m m' c := fun c => ⟨(ha c).1, (ha c).2.1, (ha c).2.2.1, (ha c).2.2.2.1, (ha c).2.2.2.2.1, (ha c).2.2.2.2.2⟩
  refine ⟨fun c => Search.errOut (Cert.ReferenceIdeal.rows m' c), fun c => Cert.ReferenceIdeal.rows m' c, fun c => Cert.ReferenceIdeal.kept m' c, ?_, ?_⟩
  · refine (θ_run _ _ _).mono (fun r h c => ?_) (Cert.KernelIdeal.run_val m g (hr 0))
    obtain ⟨⟨R, hR, he⟩, hrows, hd, hargs⟩ := h c
    refine ⟨?_, rows_same m m' c (hs c) (hr c) (hS c) _ hrows, funext fun i => (hd i).trans (kept_same m m' c (hs c) (hr c) (hS c) i), hargs⟩
    exact he.trans (congrArg Search.errOut (rows_same m m' c (hs c) (hr c) (hS c) R hR))
  · exact Cert.ReferenceIdeal.run_val m' g'

theorem claim : Cert.Claim :=
  ⟨Cert.Kernel.Gen.facts, Cert.KernelIdeal.Gen.facts, Cert.ReferenceIdeal.Gen.facts, pre_facts, pre_facts_scales,
    frame_kernel, frame_ideal, frame_ideal_scales, frame_reference, frame_reference_scales, trivial, equal_results⟩

end Cert.Proof

end
